-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_pre_tame_KernelIdeal (hKernelIdeal := hKernelIdeal) (hReferenceIdeal := hReferenceIdeal) (hPre_tame_KernelIdeal := hPre_tame_KernelIdeal)
-- ==== Pre_tame_KernelIdeal.lean ====
abbrev S512x1024 : Shape := ⟨2, ![512, 1024]⟩
abbrev S1024x8192 : Shape := ⟨2, ![1024, 8192]⟩
abbrev S512x1 : Shape := ⟨2, ![512, 1]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)
  bcast_S_S512x1 : S_.BroadcastsInDim S512x1 (![] : Fin 0 → Fin S512x1.rank)

variable [Facts]

def fn {F : FTy → Type} [FloatOps F] (main_arg0 : FVec F S512x1024 .f32) (main_arg1 : FVec F S1024x8192 .f32) (main_arg2 : IVec S512x1 32) : IVec S512x1024 1 × IVec S1024x8192 1 × IVec S512x1 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_c : IVec S_ 32 := constantI S_ 32 0#32
  let main_v6 : IVec S512x1 32 := broadcastInDim S512x1 ![] bcast_S_S512x1 main_c
  let main_v7 : IVec S512x1 1 := cmpi .sge main_arg2 main_v6
  let main_c_1 : IVec S_ 32 := constantI S_ 32 16384#32
  let main_v8 : IVec S512x1 32 := broadcastInDim S512x1 ![] bcast_S_S512x1 main_c_1
  let main_v9 : IVec S512x1 1 := cmpi .slt main_arg2 main_v8
  let main_v10 : IVec S512x1 1 := andi main_v7 main_v9
  (main_v2, main_v5, main_v10)
-- ==== Pre_tame_ReferenceIdeal.lean ====
abbrev S512x1024 : Shape := ⟨2, ![512, 1024]⟩
abbrev S1024x16384 : Shape := ⟨2, ![1024, 16384]⟩
abbrev S512x1 : Shape := ⟨2, ![512, 1]⟩
abbrev S_ : Shape := ⟨0, ![]⟩

class Facts : Prop where
  bcast_S_S512x1024 : S_.BroadcastsInDim S512x1024 (![] : Fin 0 → Fin S512x1024.rank)
  bcast_S_S1024x16384 : S_.BroadcastsInDim S1024x16384 (![] : Fin 0 → Fin S1024x16384.rank)
  bcast_S_S512x1 : S_.BroadcastsInDim S512x1 (![] : Fin 0 → Fin S512x1.rank)

variable [Facts]

def fn {F : FTy → Type} [FloatOps F] (main_arg0 : FVec F S512x1024 .f32) (main_arg1 : FVec F S1024x16384 .f32) (main_arg2 : IVec S512x1 32) : IVec S512x1024 1 × IVec S1024x16384 1 × IVec S512x1 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_c : IVec S_ 32 := constantI S_ 32 0#32
  let main_v6 : IVec S512x1 32 := broadcastInDim S512x1 ![] bcast_S_S512x1 main_c
  let main_v7 : IVec S512x1 1 := cmpi .sge main_arg2 main_v6
  let main_c_1 : IVec S_ 32 := constantI S_ 32 16384#32
  let main_v8 : IVec S512x1 32 := broadcastInDim S512x1 ![] bcast_S_S512x1 main_c_1
  let main_v9 : IVec S512x1 1 := cmpi .slt main_arg2 main_v8
  let main_v10 : IVec S512x1 1 := andi main_v7 main_v9
  (main_v2, main_v5, main_v10)
-- ==== Kernel.lean ====
abbrev S512x1024 : Shape := ⟨2, ![512, 1024]⟩
abbrev S1024x8192 : Shape := ⟨2, ![1024, 8192]⟩
abbrev S512x1 : Shape := ⟨2, ![512, 1]⟩
abbrev S1x512 : Shape := ⟨2, ![1, 512]⟩
abbrev S1024x1024 : Shape := ⟨2, ![1024, 1024]⟩
abbrev S2x512 : Shape := ⟨2, ![2, 512]⟩
abbrev S15x2x512 : Shape := ⟨3, ![15, 2, 512]⟩
abbrev S_ : Shape := ⟨0, ![]⟩
abbrev S2 : Shape := ⟨1, ![2]⟩
abbrev S15 : Shape := ⟨1, ![15]⟩
abbrev S1 : Shape := ⟨1, ![1]⟩
abbrev S1024x512 : Shape := ⟨2, ![1024, 512]⟩
abbrev S512x512 : Shape := ⟨2, ![512, 512]⟩
abbrev S512 : Shape := ⟨1, ![512]⟩
abbrev S512x2 : Shape := ⟨2, ![512, 2]⟩
abbrev S1x2x512 : Shape := ⟨3, ![1, 2, 512]⟩

abbrev nBuf : Space → Nat
  | .hbm => 4
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x1, .i32⟩
  | .hbm, ⟨3, _⟩ => ⟨S1x512, .f32⟩
  | .local _ .vmem, ⟨0, _⟩ => ⟨S512x1, .i32⟩
  | .local _ .vmem, ⟨1, _⟩ => ⟨S1x512, .f32⟩
  | .local _ .vmem, ⟨2, _⟩ => ⟨S512x1024, .f32⟩
  | .local _ .vmem, ⟨3, _⟩ => ⟨S1024x1024, .f32⟩
  | .local _ .vmem, ⟨4, _⟩ => ⟨S2x512, .f32⟩
  | .local _ .vmem, ⟨5, _⟩ => ⟨S15x2x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let c0_i32_8 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.addi v13 v8
  let c1024_i32 : BitVec 32 := 1024#32
  let v15 : BitVec 32 := Scalar.muli v14 c1024_i32
  let v16 : BitVec 32 := Scalar.addi v15 c0_i32
  ![0, v16.toNat]
def k0_dev1 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_14 : BitVec 32 := 1#32
  let v28 : BitVec 32 := Scalar.addi v12 c1_i32_14
  let c16_i32 : BitVec 32 := 16#32
  let v29 : BitVec 32 := Scalar.remsi v28 c16_i32
  let c0_i32_16 : BitVec 32 := 0#32
  let v31 : BitVec 1 := Scalar.cmpi .sgt v29 c0_i32_16
  let v32 : BitVec 32 := Scalar.extui v31
  let c0_i32_17 : BitVec 32 := 0#32
  let v33 : BitVec 1 := Scalar.cmpi .slt v29 c0_i32_17
  let v34 : BitVec 32 := Scalar.extui v33
  let v35 : BitVec 32 := Scalar.subi v32 v34
  let c8_i32_15 : BitVec 32 := 8#32
  let c0_i32_18 : BitVec 32 := 0#32
  let v36 : BitVec 1 := Scalar.cmpi .sgt c8_i32_15 c0_i32_18
  let v37 : BitVec 32 := Scalar.extui v36
  let c0_i32_19 : BitVec 32 := 0#32
  let v38 : BitVec 1 := Scalar.cmpi .slt c8_i32_15 c0_i32_19
  let v39 : BitVec 32 := Scalar.extui v38
  let v40 : BitVec 32 := Scalar.subi v37 v39
  let v41 : BitVec 1 := Scalar.cmpi .ne v35 v40
  let v42 : BitVec 32 := Scalar.remsi v29 c8_i32_15
  let c0_i32_20 : BitVec 32 := 0#32
  let v43 : BitVec 1 := Scalar.cmpi .ne v42 c0_i32_20
  let v44 : BitVec 1 := Scalar.andi v41 v43
  let v30 : BitVec 32 := Scalar.divsi v29 c8_i32_15
  let c1_i32_21 : BitVec 32 := 1#32
  let v45 : BitVec 32 := Scalar.subi v30 c1_i32_21
  let v46 : BitVec 32 := Scalar.select v44 v45 v30
  let c8_i32_42 : BitVec 32 := 8#32
  let v84 : BitVec 32 := Scalar.muli v46 c8_i32_42
  let v85 : BitVec 32 := Scalar.addi c0_i32_43 v84
  let c0_i32_23 : BitVec 32 := 0#32
  let v48 : BitVec 1 := Scalar.cmpi .sgt v29 c0_i32_23
  let v49 : BitVec 32 := Scalar.extui v48
  let c0_i32_24 : BitVec 32 := 0#32
  let v50 : BitVec 1 := Scalar.cmpi .slt v29 c0_i32_24
  let v51 : BitVec 32 := Scalar.extui v50
  let v52 : BitVec 32 := Scalar.subi v49 v51
  let c4_i32_22 : BitVec 32 := 4#32
  let c0_i32_25 : BitVec 32 := 0#32
  let v53 : BitVec 1 := Scalar.cmpi .sgt c4_i32_22 c0_i32_25
  let v54 : BitVec 32 := Scalar.extui v53
  let c0_i32_26 : BitVec 32 := 0#32
  let v55 : BitVec 1 := Scalar.cmpi .slt c4_i32_22 c0_i32_26
  let v56 : BitVec 32 := Scalar.extui v55
  let v57 : BitVec 32 := Scalar.subi v54 v56
  let v58 : BitVec 1 := Scalar.cmpi .ne v52 v57
  let v59 : BitVec 32 := Scalar.remsi v29 c4_i32_22
  let c0_i32_27 : BitVec 32 := 0#32
  let v60 : BitVec 1 := Scalar.cmpi .ne v59 c0_i32_27
  let v61 : BitVec 1 := Scalar.andi v58 v60
  let v47 : BitVec 32 := Scalar.divsi v29 c4_i32_22
  let c1_i32_28 : BitVec 32 := 1#32
  let v62 : BitVec 32 := Scalar.subi v47 c1_i32_28
  let v63 : BitVec 32 := Scalar.select v61 v62 v47
  let c2_i32_29 : BitVec 32 := 2#32
  let c0_i32_30 : BitVec 32 := 0#32
  let v64 : BitVec 1 := Scalar.cmpi .eq c2_i32_29 c0_i32_30
  let c1_i32_31 : BitVec 32 := 1#32
  let v65 : BitVec 32 := Scalar.select v64 c1_i32_31 c2_i32_29
  let v66 : BitVec 32 := Scalar.remsi v63 v65
  let c0_i32_33 : BitVec 32 := 0#32
  let v68 : BitVec 1 := Scalar.cmpi .slt v66 c0_i32_33
  let c0_i32_34 : BitVec 32 := 0#32
  let v69 : BitVec 1 := Scalar.cmpi .slt v65 c0_i32_34
  let v70 : BitVec 1 := Scalar.xori v68 v69
  let c0_i32_32 : BitVec 32 := 0#32
  let v67 : BitVec 1 := Scalar.cmpi .ne v66 c0_i32_32
  let v71 : BitVec 1 := Scalar.andi v70 v67
  let v72 : BitVec 32 := Scalar.addi v66 v65
  let v73 : BitVec 32 := Scalar.select v71 v72 v66
  let c4_i32_44 : BitVec 32 := 4#32
  let v86 : BitVec 32 := Scalar.muli v73 c4_i32_44
  let v87 : BitVec 32 := Scalar.addi v85 v86
  let c4_i32_35 : BitVec 32 := 4#32
  let c0_i32_36 : BitVec 32 := 0#32
  let v74 : BitVec 1 := Scalar.cmpi .eq c4_i32_35 c0_i32_36
  let c1_i32_37 : BitVec 32 := 1#32
  let v75 : BitVec 32 := Scalar.select v74 c1_i32_37 c4_i32_35
  let v76 : BitVec 32 := Scalar.remsi v29 v75
  let c0_i32_39 : BitVec 32 := 0#32
  let v78 : BitVec 1 := Scalar.cmpi .slt v76 c0_i32_39
  let c0_i32_40 : BitVec 32 := 0#32
  let v79 : BitVec 1 := Scalar.cmpi .slt v75 c0_i32_40
  let v80 : BitVec 1 := Scalar.xori v78 v79
  let c0_i32_38 : BitVec 32 := 0#32
  let v77 : BitVec 1 := Scalar.cmpi .ne v76 c0_i32_38
  let v81 : BitVec 1 := Scalar.andi v80 v77
  let v82 : BitVec 32 := Scalar.addi v76 v75
  let v83 : BitVec 32 := Scalar.select v81 v82 v76
  let c1_i32_45 : BitVec 32 := 1#32
  let v88 : BitVec 32 := Scalar.muli v83 c1_i32_45
  let v89 : BitVec 32 := Scalar.addi v87 v88
  v89.toNat
def k0_dev2 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_46 : BitVec 32 := 2#32
  let v90 : BitVec 32 := Scalar.addi v12 c2_i32_46
  let c16_i32_47 : BitVec 32 := 16#32
  let v91 : BitVec 32 := Scalar.remsi v90 c16_i32_47
  let c0_i32_49 : BitVec 32 := 0#32
  let v93 : BitVec 1 := Scalar.cmpi .sgt v91 c0_i32_49
  let v94 : BitVec 32 := Scalar.extui v93
  let c0_i32_50 : BitVec 32 := 0#32
  let v95 : BitVec 1 := Scalar.cmpi .slt v91 c0_i32_50
  let v96 : BitVec 32 := Scalar.extui v95
  let v97 : BitVec 32 := Scalar.subi v94 v96
  let c8_i32_48 : BitVec 32 := 8#32
  let c0_i32_51 : BitVec 32 := 0#32
  let v98 : BitVec 1 := Scalar.cmpi .sgt c8_i32_48 c0_i32_51
  let v99 : BitVec 32 := Scalar.extui v98
  let c0_i32_52 : BitVec 32 := 0#32
  let v100 : BitVec 1 := Scalar.cmpi .slt c8_i32_48 c0_i32_52
  let v101 : BitVec 32 := Scalar.extui v100
  let v102 : BitVec 32 := Scalar.subi v99 v101
  let v103 : BitVec 1 := Scalar.cmpi .ne v97 v102
  let v104 : BitVec 32 := Scalar.remsi v91 c8_i32_48
  let c0_i32_53 : BitVec 32 := 0#32
  let v105 : BitVec 1 := Scalar.cmpi .ne v104 c0_i32_53
  let v106 : BitVec 1 := Scalar.andi v103 v105
  let v92 : BitVec 32 := Scalar.divsi v91 c8_i32_48
  let c1_i32_54 : BitVec 32 := 1#32
  let v107 : BitVec 32 := Scalar.subi v92 c1_i32_54
  let v108 : BitVec 32 := Scalar.select v106 v107 v92
  let c8_i32_75 : BitVec 32 := 8#32
  let v146 : BitVec 32 := Scalar.muli v108 c8_i32_75
  let v147 : BitVec 32 := Scalar.addi c0_i32_76 v146
  let c0_i32_56 : BitVec 32 := 0#32
  let v110 : BitVec 1 := Scalar.cmpi .sgt v91 c0_i32_56
  let v111 : BitVec 32 := Scalar.extui v110
  let c0_i32_57 : BitVec 32 := 0#32
  let v112 : BitVec 1 := Scalar.cmpi .slt v91 c0_i32_57
  let v113 : BitVec 32 := Scalar.extui v112
  let v114 : BitVec 32 := Scalar.subi v111 v113
  let c4_i32_55 : BitVec 32 := 4#32
  let c0_i32_58 : BitVec 32 := 0#32
  let v115 : BitVec 1 := Scalar.cmpi .sgt c4_i32_55 c0_i32_58
  let v116 : BitVec 32 := Scalar.extui v115
  let c0_i32_59 : BitVec 32 := 0#32
  let v117 : BitVec 1 := Scalar.cmpi .slt c4_i32_55 c0_i32_59
  let v118 : BitVec 32 := Scalar.extui v117
  let v119 : BitVec 32 := Scalar.subi v116 v118
  let v120 : BitVec 1 := Scalar.cmpi .ne v114 v119
  let v121 : BitVec 32 := Scalar.remsi v91 c4_i32_55
  let c0_i32_60 : BitVec 32 := 0#32
  let v122 : BitVec 1 := Scalar.cmpi .ne v121 c0_i32_60
  let v123 : BitVec 1 := Scalar.andi v120 v122
  let v109 : BitVec 32 := Scalar.divsi v91 c4_i32_55
  let c1_i32_61 : BitVec 32 := 1#32
  let v124 : BitVec 32 := Scalar.subi v109 c1_i32_61
  let v125 : BitVec 32 := Scalar.select v123 v124 v109
  let c2_i32_62 : BitVec 32 := 2#32
  let c0_i32_63 : BitVec 32 := 0#32
  let v126 : BitVec 1 := Scalar.cmpi .eq c2_i32_62 c0_i32_63
  let c1_i32_64 : BitVec 32 := 1#32
  let v127 : BitVec 32 := Scalar.select v126 c1_i32_64 c2_i32_62
  let v128 : BitVec 32 := Scalar.remsi v125 v127
  let c0_i32_66 : BitVec 32 := 0#32
  let v130 : BitVec 1 := Scalar.cmpi .slt v128 c0_i32_66
  let c0_i32_67 : BitVec 32 := 0#32
  let v131 : BitVec 1 := Scalar.cmpi .slt v127 c0_i32_67
  let v132 : BitVec 1 := Scalar.xori v130 v131
  let c0_i32_65 : BitVec 32 := 0#32
  let v129 : BitVec 1 := Scalar.cmpi .ne v128 c0_i32_65
  let v133 : BitVec 1 := Scalar.andi v132 v129
  let v134 : BitVec 32 := Scalar.addi v128 v127
  let v135 : BitVec 32 := Scalar.select v133 v134 v128
  let c4_i32_77 : BitVec 32 := 4#32
  let v148 : BitVec 32 := Scalar.muli v135 c4_i32_77
  let v149 : BitVec 32 := Scalar.addi v147 v148
  let c4_i32_68 : BitVec 32 := 4#32
  let c0_i32_69 : BitVec 32 := 0#32
  let v136 : BitVec 1 := Scalar.cmpi .eq c4_i32_68 c0_i32_69
  let c1_i32_70 : BitVec 32 := 1#32
  let v137 : BitVec 32 := Scalar.select v136 c1_i32_70 c4_i32_68
  let v138 : BitVec 32 := Scalar.remsi v91 v137
  let c0_i32_72 : BitVec 32 := 0#32
  let v140 : BitVec 1 := Scalar.cmpi .slt v138 c0_i32_72
  let c0_i32_73 : BitVec 32 := 0#32
  let v141 : BitVec 1 := Scalar.cmpi .slt v137 c0_i32_73
  let v142 : BitVec 1 := Scalar.xori v140 v141
  let c0_i32_71 : BitVec 32 := 0#32
  let v139 : BitVec 1 := Scalar.cmpi .ne v138 c0_i32_71
  let v143 : BitVec 1 := Scalar.andi v142 v139
  let v144 : BitVec 32 := Scalar.addi v138 v137
  let v145 : BitVec 32 := Scalar.select v143 v144 v138
  let c1_i32_78 : BitVec 32 := 1#32
  let v150 : BitVec 32 := Scalar.muli v145 c1_i32_78
  let v151 : BitVec 32 := Scalar.addi v149 v150
  v151.toNat
def k0_dev3 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32 : BitVec 32 := 3#32
  let v152 : BitVec 32 := Scalar.addi v12 c3_i32
  let c16_i32_79 : BitVec 32 := 16#32
  let v153 : BitVec 32 := Scalar.remsi v152 c16_i32_79
  let c0_i32_81 : BitVec 32 := 0#32
  let v155 : BitVec 1 := Scalar.cmpi .sgt v153 c0_i32_81
  let v156 : BitVec 32 := Scalar.extui v155
  let c0_i32_82 : BitVec 32 := 0#32
  let v157 : BitVec 1 := Scalar.cmpi .slt v153 c0_i32_82
  let v158 : BitVec 32 := Scalar.extui v157
  let v159 : BitVec 32 := Scalar.subi v156 v158
  let c8_i32_80 : BitVec 32 := 8#32
  let c0_i32_83 : BitVec 32 := 0#32
  let v160 : BitVec 1 := Scalar.cmpi .sgt c8_i32_80 c0_i32_83
  let v161 : BitVec 32 := Scalar.extui v160
  let c0_i32_84 : BitVec 32 := 0#32
  let v162 : BitVec 1 := Scalar.cmpi .slt c8_i32_80 c0_i32_84
  let v163 : BitVec 32 := Scalar.extui v162
  let v164 : BitVec 32 := Scalar.subi v161 v163
  let v165 : BitVec 1 := Scalar.cmpi .ne v159 v164
  let v166 : BitVec 32 := Scalar.remsi v153 c8_i32_80
  let c0_i32_85 : BitVec 32 := 0#32
  let v167 : BitVec 1 := Scalar.cmpi .ne v166 c0_i32_85
  let v168 : BitVec 1 := Scalar.andi v165 v167
  let v154 : BitVec 32 := Scalar.divsi v153 c8_i32_80
  let c1_i32_86 : BitVec 32 := 1#32
  let v169 : BitVec 32 := Scalar.subi v154 c1_i32_86
  let v170 : BitVec 32 := Scalar.select v168 v169 v154
  let c8_i32_107 : BitVec 32 := 8#32
  let v208 : BitVec 32 := Scalar.muli v170 c8_i32_107
  let v209 : BitVec 32 := Scalar.addi c0_i32_108 v208
  let c0_i32_88 : BitVec 32 := 0#32
  let v172 : BitVec 1 := Scalar.cmpi .sgt v153 c0_i32_88
  let v173 : BitVec 32 := Scalar.extui v172
  let c0_i32_89 : BitVec 32 := 0#32
  let v174 : BitVec 1 := Scalar.cmpi .slt v153 c0_i32_89
  let v175 : BitVec 32 := Scalar.extui v174
  let v176 : BitVec 32 := Scalar.subi v173 v175
  let c4_i32_87 : BitVec 32 := 4#32
  let c0_i32_90 : BitVec 32 := 0#32
  let v177 : BitVec 1 := Scalar.cmpi .sgt c4_i32_87 c0_i32_90
  let v178 : BitVec 32 := Scalar.extui v177
  let c0_i32_91 : BitVec 32 := 0#32
  let v179 : BitVec 1 := Scalar.cmpi .slt c4_i32_87 c0_i32_91
  let v180 : BitVec 32 := Scalar.extui v179
  let v181 : BitVec 32 := Scalar.subi v178 v180
  let v182 : BitVec 1 := Scalar.cmpi .ne v176 v181
  let v183 : BitVec 32 := Scalar.remsi v153 c4_i32_87
  let c0_i32_92 : BitVec 32 := 0#32
  let v184 : BitVec 1 := Scalar.cmpi .ne v183 c0_i32_92
  let v185 : BitVec 1 := Scalar.andi v182 v184
  let v171 : BitVec 32 := Scalar.divsi v153 c4_i32_87
  let c1_i32_93 : BitVec 32 := 1#32
  let v186 : BitVec 32 := Scalar.subi v171 c1_i32_93
  let v187 : BitVec 32 := Scalar.select v185 v186 v171
  let c2_i32_94 : BitVec 32 := 2#32
  let c0_i32_95 : BitVec 32 := 0#32
  let v188 : BitVec 1 := Scalar.cmpi .eq c2_i32_94 c0_i32_95
  let c1_i32_96 : BitVec 32 := 1#32
  let v189 : BitVec 32 := Scalar.select v188 c1_i32_96 c2_i32_94
  let v190 : BitVec 32 := Scalar.remsi v187 v189
  let c0_i32_98 : BitVec 32 := 0#32
  let v192 : BitVec 1 := Scalar.cmpi .slt v190 c0_i32_98
  let c0_i32_99 : BitVec 32 := 0#32
  let v193 : BitVec 1 := Scalar.cmpi .slt v189 c0_i32_99
  let v194 : BitVec 1 := Scalar.xori v192 v193
  let c0_i32_97 : BitVec 32 := 0#32
  let v191 : BitVec 1 := Scalar.cmpi .ne v190 c0_i32_97
  let v195 : BitVec 1 := Scalar.andi v194 v191
  let v196 : BitVec 32 := Scalar.addi v190 v189
  let v197 : BitVec 32 := Scalar.select v195 v196 v190
  let c4_i32_109 : BitVec 32 := 4#32
  let v210 : BitVec 32 := Scalar.muli v197 c4_i32_109
  let v211 : BitVec 32 := Scalar.addi v209 v210
  let c4_i32_100 : BitVec 32 := 4#32
  let c0_i32_101 : BitVec 32 := 0#32
  let v198 : BitVec 1 := Scalar.cmpi .eq c4_i32_100 c0_i32_101
  let c1_i32_102 : BitVec 32 := 1#32
  let v199 : BitVec 32 := Scalar.select v198 c1_i32_102 c4_i32_100
  let v200 : BitVec 32 := Scalar.remsi v153 v199
  let c0_i32_104 : BitVec 32 := 0#32
  let v202 : BitVec 1 := Scalar.cmpi .slt v200 c0_i32_104
  let c0_i32_105 : BitVec 32 := 0#32
  let v203 : BitVec 1 := Scalar.cmpi .slt v199 c0_i32_105
  let v204 : BitVec 1 := Scalar.xori v202 v203
  let c0_i32_103 : BitVec 32 := 0#32
  let v201 : BitVec 1 := Scalar.cmpi .ne v200 c0_i32_103
  let v205 : BitVec 1 := Scalar.andi v204 v201
  let v206 : BitVec 32 := Scalar.addi v200 v199
  let v207 : BitVec 32 := Scalar.select v205 v206 v200
  let c1_i32_110 : BitVec 32 := 1#32
  let v212 : BitVec 32 := Scalar.muli v207 c1_i32_110
  let v213 : BitVec 32 := Scalar.addi v211 v212
  v213.toNat
def k0_dev4 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_111 : BitVec 32 := 4#32
  let v214 : BitVec 32 := Scalar.addi v12 c4_i32_111
  let c16_i32_112 : BitVec 32 := 16#32
  let v215 : BitVec 32 := Scalar.remsi v214 c16_i32_112
  let c0_i32_114 : BitVec 32 := 0#32
  let v217 : BitVec 1 := Scalar.cmpi .sgt v215 c0_i32_114
  let v218 : BitVec 32 := Scalar.extui v217
  let c0_i32_115 : BitVec 32 := 0#32
  let v219 : BitVec 1 := Scalar.cmpi .slt v215 c0_i32_115
  let v220 : BitVec 32 := Scalar.extui v219
  let v221 : BitVec 32 := Scalar.subi v218 v220
  let c8_i32_113 : BitVec 32 := 8#32
  let c0_i32_116 : BitVec 32 := 0#32
  let v222 : BitVec 1 := Scalar.cmpi .sgt c8_i32_113 c0_i32_116
  let v223 : BitVec 32 := Scalar.extui v222
  let c0_i32_117 : BitVec 32 := 0#32
  let v224 : BitVec 1 := Scalar.cmpi .slt c8_i32_113 c0_i32_117
  let v225 : BitVec 32 := Scalar.extui v224
  let v226 : BitVec 32 := Scalar.subi v223 v225
  let v227 : BitVec 1 := Scalar.cmpi .ne v221 v226
  let v228 : BitVec 32 := Scalar.remsi v215 c8_i32_113
  let c0_i32_118 : BitVec 32 := 0#32
  let v229 : BitVec 1 := Scalar.cmpi .ne v228 c0_i32_118
  let v230 : BitVec 1 := Scalar.andi v227 v229
  let v216 : BitVec 32 := Scalar.divsi v215 c8_i32_113
  let c1_i32_119 : BitVec 32 := 1#32
  let v231 : BitVec 32 := Scalar.subi v216 c1_i32_119
  let v232 : BitVec 32 := Scalar.select v230 v231 v216
  let c8_i32_140 : BitVec 32 := 8#32
  let v270 : BitVec 32 := Scalar.muli v232 c8_i32_140
  let v271 : BitVec 32 := Scalar.addi c0_i32_141 v270
  let c0_i32_121 : BitVec 32 := 0#32
  let v234 : BitVec 1 := Scalar.cmpi .sgt v215 c0_i32_121
  let v235 : BitVec 32 := Scalar.extui v234
  let c0_i32_122 : BitVec 32 := 0#32
  let v236 : BitVec 1 := Scalar.cmpi .slt v215 c0_i32_122
  let v237 : BitVec 32 := Scalar.extui v236
  let v238 : BitVec 32 := Scalar.subi v235 v237
  let c4_i32_120 : BitVec 32 := 4#32
  let c0_i32_123 : BitVec 32 := 0#32
  let v239 : BitVec 1 := Scalar.cmpi .sgt c4_i32_120 c0_i32_123
  let v240 : BitVec 32 := Scalar.extui v239
  let c0_i32_124 : BitVec 32 := 0#32
  let v241 : BitVec 1 := Scalar.cmpi .slt c4_i32_120 c0_i32_124
  let v242 : BitVec 32 := Scalar.extui v241
  let v243 : BitVec 32 := Scalar.subi v240 v242
  let v244 : BitVec 1 := Scalar.cmpi .ne v238 v243
  let v245 : BitVec 32 := Scalar.remsi v215 c4_i32_120
  let c0_i32_125 : BitVec 32 := 0#32
  let v246 : BitVec 1 := Scalar.cmpi .ne v245 c0_i32_125
  let v247 : BitVec 1 := Scalar.andi v244 v246
  let v233 : BitVec 32 := Scalar.divsi v215 c4_i32_120
  let c1_i32_126 : BitVec 32 := 1#32
  let v248 : BitVec 32 := Scalar.subi v233 c1_i32_126
  let v249 : BitVec 32 := Scalar.select v247 v248 v233
  let c2_i32_127 : BitVec 32 := 2#32
  let c0_i32_128 : BitVec 32 := 0#32
  let v250 : BitVec 1 := Scalar.cmpi .eq c2_i32_127 c0_i32_128
  let c1_i32_129 : BitVec 32 := 1#32
  let v251 : BitVec 32 := Scalar.select v250 c1_i32_129 c2_i32_127
  let v252 : BitVec 32 := Scalar.remsi v249 v251
  let c0_i32_131 : BitVec 32 := 0#32
  let v254 : BitVec 1 := Scalar.cmpi .slt v252 c0_i32_131
  let c0_i32_132 : BitVec 32 := 0#32
  let v255 : BitVec 1 := Scalar.cmpi .slt v251 c0_i32_132
  let v256 : BitVec 1 := Scalar.xori v254 v255
  let c0_i32_130 : BitVec 32 := 0#32
  let v253 : BitVec 1 := Scalar.cmpi .ne v252 c0_i32_130
  let v257 : BitVec 1 := Scalar.andi v256 v253
  let v258 : BitVec 32 := Scalar.addi v252 v251
  let v259 : BitVec 32 := Scalar.select v257 v258 v252
  let c4_i32_142 : BitVec 32 := 4#32
  let v272 : BitVec 32 := Scalar.muli v259 c4_i32_142
  let v273 : BitVec 32 := Scalar.addi v271 v272
  let c4_i32_133 : BitVec 32 := 4#32
  let c0_i32_134 : BitVec 32 := 0#32
  let v260 : BitVec 1 := Scalar.cmpi .eq c4_i32_133 c0_i32_134
  let c1_i32_135 : BitVec 32 := 1#32
  let v261 : BitVec 32 := Scalar.select v260 c1_i32_135 c4_i32_133
  let v262 : BitVec 32 := Scalar.remsi v215 v261
  let c0_i32_137 : BitVec 32 := 0#32
  let v264 : BitVec 1 := Scalar.cmpi .slt v262 c0_i32_137
  let c0_i32_138 : BitVec 32 := 0#32
  let v265 : BitVec 1 := Scalar.cmpi .slt v261 c0_i32_138
  let v266 : BitVec 1 := Scalar.xori v264 v265
  let c0_i32_136 : BitVec 32 := 0#32
  let v263 : BitVec 1 := Scalar.cmpi .ne v262 c0_i32_136
  let v267 : BitVec 1 := Scalar.andi v266 v263
  let v268 : BitVec 32 := Scalar.addi v262 v261
  let v269 : BitVec 32 := Scalar.select v267 v268 v262
  let c1_i32_143 : BitVec 32 := 1#32
  let v274 : BitVec 32 := Scalar.muli v269 c1_i32_143
  let v275 : BitVec 32 := Scalar.addi v273 v274
  v275.toNat
def k0_dev5 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32 : BitVec 32 := 5#32
  let v276 : BitVec 32 := Scalar.addi v12 c5_i32
  let c16_i32_144 : BitVec 32 := 16#32
  let v277 : BitVec 32 := Scalar.remsi v276 c16_i32_144
  let c0_i32_146 : BitVec 32 := 0#32
  let v279 : BitVec 1 := Scalar.cmpi .sgt v277 c0_i32_146
  let v280 : BitVec 32 := Scalar.extui v279
  let c0_i32_147 : BitVec 32 := 0#32
  let v281 : BitVec 1 := Scalar.cmpi .slt v277 c0_i32_147
  let v282 : BitVec 32 := Scalar.extui v281
  let v283 : BitVec 32 := Scalar.subi v280 v282
  let c8_i32_145 : BitVec 32 := 8#32
  let c0_i32_148 : BitVec 32 := 0#32
  let v284 : BitVec 1 := Scalar.cmpi .sgt c8_i32_145 c0_i32_148
  let v285 : BitVec 32 := Scalar.extui v284
  let c0_i32_149 : BitVec 32 := 0#32
  let v286 : BitVec 1 := Scalar.cmpi .slt c8_i32_145 c0_i32_149
  let v287 : BitVec 32 := Scalar.extui v286
  let v288 : BitVec 32 := Scalar.subi v285 v287
  let v289 : BitVec 1 := Scalar.cmpi .ne v283 v288
  let v290 : BitVec 32 := Scalar.remsi v277 c8_i32_145
  let c0_i32_150 : BitVec 32 := 0#32
  let v291 : BitVec 1 := Scalar.cmpi .ne v290 c0_i32_150
  let v292 : BitVec 1 := Scalar.andi v289 v291
  let v278 : BitVec 32 := Scalar.divsi v277 c8_i32_145
  let c1_i32_151 : BitVec 32 := 1#32
  let v293 : BitVec 32 := Scalar.subi v278 c1_i32_151
  let v294 : BitVec 32 := Scalar.select v292 v293 v278
  let c8_i32_172 : BitVec 32 := 8#32
  let v332 : BitVec 32 := Scalar.muli v294 c8_i32_172
  let v333 : BitVec 32 := Scalar.addi c0_i32_173 v332
  let c0_i32_153 : BitVec 32 := 0#32
  let v296 : BitVec 1 := Scalar.cmpi .sgt v277 c0_i32_153
  let v297 : BitVec 32 := Scalar.extui v296
  let c0_i32_154 : BitVec 32 := 0#32
  let v298 : BitVec 1 := Scalar.cmpi .slt v277 c0_i32_154
  let v299 : BitVec 32 := Scalar.extui v298
  let v300 : BitVec 32 := Scalar.subi v297 v299
  let c4_i32_152 : BitVec 32 := 4#32
  let c0_i32_155 : BitVec 32 := 0#32
  let v301 : BitVec 1 := Scalar.cmpi .sgt c4_i32_152 c0_i32_155
  let v302 : BitVec 32 := Scalar.extui v301
  let c0_i32_156 : BitVec 32 := 0#32
  let v303 : BitVec 1 := Scalar.cmpi .slt c4_i32_152 c0_i32_156
  let v304 : BitVec 32 := Scalar.extui v303
  let v305 : BitVec 32 := Scalar.subi v302 v304
  let v306 : BitVec 1 := Scalar.cmpi .ne v300 v305
  let v307 : BitVec 32 := Scalar.remsi v277 c4_i32_152
  let c0_i32_157 : BitVec 32 := 0#32
  let v308 : BitVec 1 := Scalar.cmpi .ne v307 c0_i32_157
  let v309 : BitVec 1 := Scalar.andi v306 v308
  let v295 : BitVec 32 := Scalar.divsi v277 c4_i32_152
  let c1_i32_158 : BitVec 32 := 1#32
  let v310 : BitVec 32 := Scalar.subi v295 c1_i32_158
  let v311 : BitVec 32 := Scalar.select v309 v310 v295
  let c2_i32_159 : BitVec 32 := 2#32
  let c0_i32_160 : BitVec 32 := 0#32
  let v312 : BitVec 1 := Scalar.cmpi .eq c2_i32_159 c0_i32_160
  let c1_i32_161 : BitVec 32 := 1#32
  let v313 : BitVec 32 := Scalar.select v312 c1_i32_161 c2_i32_159
  let v314 : BitVec 32 := Scalar.remsi v311 v313
  let c0_i32_163 : BitVec 32 := 0#32
  let v316 : BitVec 1 := Scalar.cmpi .slt v314 c0_i32_163
  let c0_i32_164 : BitVec 32 := 0#32
  let v317 : BitVec 1 := Scalar.cmpi .slt v313 c0_i32_164
  let v318 : BitVec 1 := Scalar.xori v316 v317
  let c0_i32_162 : BitVec 32 := 0#32
  let v315 : BitVec 1 := Scalar.cmpi .ne v314 c0_i32_162
  let v319 : BitVec 1 := Scalar.andi v318 v315
  let v320 : BitVec 32 := Scalar.addi v314 v313
  let v321 : BitVec 32 := Scalar.select v319 v320 v314
  let c4_i32_174 : BitVec 32 := 4#32
  let v334 : BitVec 32 := Scalar.muli v321 c4_i32_174
  let v335 : BitVec 32 := Scalar.addi v333 v334
  let c4_i32_165 : BitVec 32 := 4#32
  let c0_i32_166 : BitVec 32 := 0#32
  let v322 : BitVec 1 := Scalar.cmpi .eq c4_i32_165 c0_i32_166
  let c1_i32_167 : BitVec 32 := 1#32
  let v323 : BitVec 32 := Scalar.select v322 c1_i32_167 c4_i32_165
  let v324 : BitVec 32 := Scalar.remsi v277 v323
  let c0_i32_169 : BitVec 32 := 0#32
  let v326 : BitVec 1 := Scalar.cmpi .slt v324 c0_i32_169
  let c0_i32_170 : BitVec 32 := 0#32
  let v327 : BitVec 1 := Scalar.cmpi .slt v323 c0_i32_170
  let v328 : BitVec 1 := Scalar.xori v326 v327
  let c0_i32_168 : BitVec 32 := 0#32
  let v325 : BitVec 1 := Scalar.cmpi .ne v324 c0_i32_168
  let v329 : BitVec 1 := Scalar.andi v328 v325
  let v330 : BitVec 32 := Scalar.addi v324 v323
  let v331 : BitVec 32 := Scalar.select v329 v330 v324
  let c1_i32_175 : BitVec 32 := 1#32
  let v336 : BitVec 32 := Scalar.muli v331 c1_i32_175
  let v337 : BitVec 32 := Scalar.addi v335 v336
  v337.toNat
def k0_dev6 (d0 : Dev nD) : Nat :=
  let c0_i32_205 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32 : BitVec 32 := 6#32
  let v338 : BitVec 32 := Scalar.addi v12 c6_i32
  let c16_i32_176 : BitVec 32 := 16#32
  let v339 : BitVec 32 := Scalar.remsi v338 c16_i32_176
  let c0_i32_178 : BitVec 32 := 0#32
  let v341 : BitVec 1 := Scalar.cmpi .sgt v339 c0_i32_178
  let v342 : BitVec 32 := Scalar.extui v341
  let c0_i32_179 : BitVec 32 := 0#32
  let v343 : BitVec 1 := Scalar.cmpi .slt v339 c0_i32_179
  let v344 : BitVec 32 := Scalar.extui v343
  let v345 : BitVec 32 := Scalar.subi v342 v344
  let c8_i32_177 : BitVec 32 := 8#32
  let c0_i32_180 : BitVec 32 := 0#32
  let v346 : BitVec 1 := Scalar.cmpi .sgt c8_i32_177 c0_i32_180
  let v347 : BitVec 32 := Scalar.extui v346
  let c0_i32_181 : BitVec 32 := 0#32
  let v348 : BitVec 1 := Scalar.cmpi .slt c8_i32_177 c0_i32_181
  let v349 : BitVec 32 := Scalar.extui v348
  let v350 : BitVec 32 := Scalar.subi v347 v349
  let v351 : BitVec 1 := Scalar.cmpi .ne v345 v350
  let v352 : BitVec 32 := Scalar.remsi v339 c8_i32_177
  let c0_i32_182 : BitVec 32 := 0#32
  let v353 : BitVec 1 := Scalar.cmpi .ne v352 c0_i32_182
  let v354 : BitVec 1 := Scalar.andi v351 v353
  let v340 : BitVec 32 := Scalar.divsi v339 c8_i32_177
  let c1_i32_183 : BitVec 32 := 1#32
  let v355 : BitVec 32 := Scalar.subi v340 c1_i32_183
  let v356 : BitVec 32 := Scalar.select v354 v355 v340
  let c8_i32_204 : BitVec 32 := 8#32
  let v394 : BitVec 32 := Scalar.muli v356 c8_i32_204
  let v395 : BitVec 32 := Scalar.addi c0_i32_205 v394
  let c0_i32_185 : BitVec 32 := 0#32
  let v358 : BitVec 1 := Scalar.cmpi .sgt v339 c0_i32_185
  let v359 : BitVec 32 := Scalar.extui v358
  let c0_i32_186 : BitVec 32 := 0#32
  let v360 : BitVec 1 := Scalar.cmpi .slt v339 c0_i32_186
  let v361 : BitVec 32 := Scalar.extui v360
  let v362 : BitVec 32 := Scalar.subi v359 v361
  let c4_i32_184 : BitVec 32 := 4#32
  let c0_i32_187 : BitVec 32 := 0#32
  let v363 : BitVec 1 := Scalar.cmpi .sgt c4_i32_184 c0_i32_187
  let v364 : BitVec 32 := Scalar.extui v363
  let c0_i32_188 : BitVec 32 := 0#32
  let v365 : BitVec 1 := Scalar.cmpi .slt c4_i32_184 c0_i32_188
  let v366 : BitVec 32 := Scalar.extui v365
  let v367 : BitVec 32 := Scalar.subi v364 v366
  let v368 : BitVec 1 := Scalar.cmpi .ne v362 v367
  let v369 : BitVec 32 := Scalar.remsi v339 c4_i32_184
  let c0_i32_189 : BitVec 32 := 0#32
  let v370 : BitVec 1 := Scalar.cmpi .ne v369 c0_i32_189
  let v371 : BitVec 1 := Scalar.andi v368 v370
  let v357 : BitVec 32 := Scalar.divsi v339 c4_i32_184
  let c1_i32_190 : BitVec 32 := 1#32
  let v372 : BitVec 32 := Scalar.subi v357 c1_i32_190
  let v373 : BitVec 32 := Scalar.select v371 v372 v357
  let c2_i32_191 : BitVec 32 := 2#32
  let c0_i32_192 : BitVec 32 := 0#32
  let v374 : BitVec 1 := Scalar.cmpi .eq c2_i32_191 c0_i32_192
  let c1_i32_193 : BitVec 32 := 1#32
  let v375 : BitVec 32 := Scalar.select v374 c1_i32_193 c2_i32_191
  let v376 : BitVec 32 := Scalar.remsi v373 v375
  let c0_i32_195 : BitVec 32 := 0#32
  let v378 : BitVec 1 := Scalar.cmpi .slt v376 c0_i32_195
  let c0_i32_196 : BitVec 32 := 0#32
  let v379 : BitVec 1 := Scalar.cmpi .slt v375 c0_i32_196
  let v380 : BitVec 1 := Scalar.xori v378 v379
  let c0_i32_194 : BitVec 32 := 0#32
  let v377 : BitVec 1 := Scalar.cmpi .ne v376 c0_i32_194
  let v381 : BitVec 1 := Scalar.andi v380 v377
  let v382 : BitVec 32 := Scalar.addi v376 v375
  let v383 : BitVec 32 := Scalar.select v381 v382 v376
  let c4_i32_206 : BitVec 32 := 4#32
  let v396 : BitVec 32 := Scalar.muli v383 c4_i32_206
  let v397 : BitVec 32 := Scalar.addi v395 v396
  let c4_i32_197 : BitVec 32 := 4#32
  let c0_i32_198 : BitVec 32 := 0#32
  let v384 : BitVec 1 := Scalar.cmpi .eq c4_i32_197 c0_i32_198
  let c1_i32_199 : BitVec 32 := 1#32
  let v385 : BitVec 32 := Scalar.select v384 c1_i32_199 c4_i32_197
  let v386 : BitVec 32 := Scalar.remsi v339 v385
  let c0_i32_201 : BitVec 32 := 0#32
  let v388 : BitVec 1 := Scalar.cmpi .slt v386 c0_i32_201
  let c0_i32_202 : BitVec 32 := 0#32
  let v389 : BitVec 1 := Scalar.cmpi .slt v385 c0_i32_202
  let v390 : BitVec 1 := Scalar.xori v388 v389
  let c0_i32_200 : BitVec 32 := 0#32
  let v387 : BitVec 1 := Scalar.cmpi .ne v386 c0_i32_200
  let v391 : BitVec 1 := Scalar.andi v390 v387
  let v392 : BitVec 32 := Scalar.addi v386 v385
  let v393 : BitVec 32 := Scalar.select v391 v392 v386
  let c1_i32_207 : BitVec 32 := 1#32
  let v398 : BitVec 32 := Scalar.muli v393 c1_i32_207
  let v399 : BitVec 32 := Scalar.addi v397 v398
  v399.toNat
def k0_dev7 (d0 : Dev nD) : Nat :=
  let c0_i32_237 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32 : BitVec 32 := 7#32
  let v400 : BitVec 32 := Scalar.addi v12 c7_i32
  let c16_i32_208 : BitVec 32 := 16#32
  let v401 : BitVec 32 := Scalar.remsi v400 c16_i32_208
  let c0_i32_210 : BitVec 32 := 0#32
  let v403 : BitVec 1 := Scalar.cmpi .sgt v401 c0_i32_210
  let v404 : BitVec 32 := Scalar.extui v403
  let c0_i32_211 : BitVec 32 := 0#32
  let v405 : BitVec 1 := Scalar.cmpi .slt v401 c0_i32_211
  let v406 : BitVec 32 := Scalar.extui v405
  let v407 : BitVec 32 := Scalar.subi v404 v406
  let c8_i32_209 : BitVec 32 := 8#32
  let c0_i32_212 : BitVec 32 := 0#32
  let v408 : BitVec 1 := Scalar.cmpi .sgt c8_i32_209 c0_i32_212
  let v409 : BitVec 32 := Scalar.extui v408
  let c0_i32_213 : BitVec 32 := 0#32
  let v410 : BitVec 1 := Scalar.cmpi .slt c8_i32_209 c0_i32_213
  let v411 : BitVec 32 := Scalar.extui v410
  let v412 : BitVec 32 := Scalar.subi v409 v411
  let v413 : BitVec 1 := Scalar.cmpi .ne v407 v412
  let v414 : BitVec 32 := Scalar.remsi v401 c8_i32_209
  let c0_i32_214 : BitVec 32 := 0#32
  let v415 : BitVec 1 := Scalar.cmpi .ne v414 c0_i32_214
  let v416 : BitVec 1 := Scalar.andi v413 v415
  let v402 : BitVec 32 := Scalar.divsi v401 c8_i32_209
  let c1_i32_215 : BitVec 32 := 1#32
  let v417 : BitVec 32 := Scalar.subi v402 c1_i32_215
  let v418 : BitVec 32 := Scalar.select v416 v417 v402
  let c8_i32_236 : BitVec 32 := 8#32
  let v456 : BitVec 32 := Scalar.muli v418 c8_i32_236
  let v457 : BitVec 32 := Scalar.addi c0_i32_237 v456
  let c0_i32_217 : BitVec 32 := 0#32
  let v420 : BitVec 1 := Scalar.cmpi .sgt v401 c0_i32_217
  let v421 : BitVec 32 := Scalar.extui v420
  let c0_i32_218 : BitVec 32 := 0#32
  let v422 : BitVec 1 := Scalar.cmpi .slt v401 c0_i32_218
  let v423 : BitVec 32 := Scalar.extui v422
  let v424 : BitVec 32 := Scalar.subi v421 v423
  let c4_i32_216 : BitVec 32 := 4#32
  let c0_i32_219 : BitVec 32 := 0#32
  let v425 : BitVec 1 := Scalar.cmpi .sgt c4_i32_216 c0_i32_219
  let v426 : BitVec 32 := Scalar.extui v425
  let c0_i32_220 : BitVec 32 := 0#32
  let v427 : BitVec 1 := Scalar.cmpi .slt c4_i32_216 c0_i32_220
  let v428 : BitVec 32 := Scalar.extui v427
  let v429 : BitVec 32 := Scalar.subi v426 v428
  let v430 : BitVec 1 := Scalar.cmpi .ne v424 v429
  let v431 : BitVec 32 := Scalar.remsi v401 c4_i32_216
  let c0_i32_221 : BitVec 32 := 0#32
  let v432 : BitVec 1 := Scalar.cmpi .ne v431 c0_i32_221
  let v433 : BitVec 1 := Scalar.andi v430 v432
  let v419 : BitVec 32 := Scalar.divsi v401 c4_i32_216
  let c1_i32_222 : BitVec 32 := 1#32
  let v434 : BitVec 32 := Scalar.subi v419 c1_i32_222
  let v435 : BitVec 32 := Scalar.select v433 v434 v419
  let c2_i32_223 : BitVec 32 := 2#32
  let c0_i32_224 : BitVec 32 := 0#32
  let v436 : BitVec 1 := Scalar.cmpi .eq c2_i32_223 c0_i32_224
  let c1_i32_225 : BitVec 32 := 1#32
  let v437 : BitVec 32 := Scalar.select v436 c1_i32_225 c2_i32_223
  let v438 : BitVec 32 := Scalar.remsi v435 v437
  let c0_i32_227 : BitVec 32 := 0#32
  let v440 : BitVec 1 := Scalar.cmpi .slt v438 c0_i32_227
  let c0_i32_228 : BitVec 32 := 0#32
  let v441 : BitVec 1 := Scalar.cmpi .slt v437 c0_i32_228
  let v442 : BitVec 1 := Scalar.xori v440 v441
  let c0_i32_226 : BitVec 32 := 0#32
  let v439 : BitVec 1 := Scalar.cmpi .ne v438 c0_i32_226
  let v443 : BitVec 1 := Scalar.andi v442 v439
  let v444 : BitVec 32 := Scalar.addi v438 v437
  let v445 : BitVec 32 := Scalar.select v443 v444 v438
  let c4_i32_238 : BitVec 32 := 4#32
  let v458 : BitVec 32 := Scalar.muli v445 c4_i32_238
  let v459 : BitVec 32 := Scalar.addi v457 v458
  let c4_i32_229 : BitVec 32 := 4#32
  let c0_i32_230 : BitVec 32 := 0#32
  let v446 : BitVec 1 := Scalar.cmpi .eq c4_i32_229 c0_i32_230
  let c1_i32_231 : BitVec 32 := 1#32
  let v447 : BitVec 32 := Scalar.select v446 c1_i32_231 c4_i32_229
  let v448 : BitVec 32 := Scalar.remsi v401 v447
  let c0_i32_233 : BitVec 32 := 0#32
  let v450 : BitVec 1 := Scalar.cmpi .slt v448 c0_i32_233
  let c0_i32_234 : BitVec 32 := 0#32
  let v451 : BitVec 1 := Scalar.cmpi .slt v447 c0_i32_234
  let v452 : BitVec 1 := Scalar.xori v450 v451
  let c0_i32_232 : BitVec 32 := 0#32
  let v449 : BitVec 1 := Scalar.cmpi .ne v448 c0_i32_232
  let v453 : BitVec 1 := Scalar.andi v452 v449
  let v454 : BitVec 32 := Scalar.addi v448 v447
  let v455 : BitVec 32 := Scalar.select v453 v454 v448
  let c1_i32_239 : BitVec 32 := 1#32
  let v460 : BitVec 32 := Scalar.muli v455 c1_i32_239
  let v461 : BitVec 32 := Scalar.addi v459 v460
  v461.toNat
def k0_dev8 (d0 : Dev nD) : Nat :=
  let c0_i32_270 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_240 : BitVec 32 := 8#32
  let v462 : BitVec 32 := Scalar.addi v12 c8_i32_240
  let c16_i32_241 : BitVec 32 := 16#32
  let v463 : BitVec 32 := Scalar.remsi v462 c16_i32_241
  let c0_i32_243 : BitVec 32 := 0#32
  let v465 : BitVec 1 := Scalar.cmpi .sgt v463 c0_i32_243
  let v466 : BitVec 32 := Scalar.extui v465
  let c0_i32_244 : BitVec 32 := 0#32
  let v467 : BitVec 1 := Scalar.cmpi .slt v463 c0_i32_244
  let v468 : BitVec 32 := Scalar.extui v467
  let v469 : BitVec 32 := Scalar.subi v466 v468
  let c8_i32_242 : BitVec 32 := 8#32
  let c0_i32_245 : BitVec 32 := 0#32
  let v470 : BitVec 1 := Scalar.cmpi .sgt c8_i32_242 c0_i32_245
  let v471 : BitVec 32 := Scalar.extui v470
  let c0_i32_246 : BitVec 32 := 0#32
  let v472 : BitVec 1 := Scalar.cmpi .slt c8_i32_242 c0_i32_246
  let v473 : BitVec 32 := Scalar.extui v472
  let v474 : BitVec 32 := Scalar.subi v471 v473
  let v475 : BitVec 1 := Scalar.cmpi .ne v469 v474
  let v476 : BitVec 32 := Scalar.remsi v463 c8_i32_242
  let c0_i32_247 : BitVec 32 := 0#32
  let v477 : BitVec 1 := Scalar.cmpi .ne v476 c0_i32_247
  let v478 : BitVec 1 := Scalar.andi v475 v477
  let v464 : BitVec 32 := Scalar.divsi v463 c8_i32_242
  let c1_i32_248 : BitVec 32 := 1#32
  let v479 : BitVec 32 := Scalar.subi v464 c1_i32_248
  let v480 : BitVec 32 := Scalar.select v478 v479 v464
  let c8_i32_269 : BitVec 32 := 8#32
  let v518 : BitVec 32 := Scalar.muli v480 c8_i32_269
  let v519 : BitVec 32 := Scalar.addi c0_i32_270 v518
  let c0_i32_250 : BitVec 32 := 0#32
  let v482 : BitVec 1 := Scalar.cmpi .sgt v463 c0_i32_250
  let v483 : BitVec 32 := Scalar.extui v482
  let c0_i32_251 : BitVec 32 := 0#32
  let v484 : BitVec 1 := Scalar.cmpi .slt v463 c0_i32_251
  let v485 : BitVec 32 := Scalar.extui v484
  let v486 : BitVec 32 := Scalar.subi v483 v485
  let c4_i32_249 : BitVec 32 := 4#32
  let c0_i32_252 : BitVec 32 := 0#32
  let v487 : BitVec 1 := Scalar.cmpi .sgt c4_i32_249 c0_i32_252
  let v488 : BitVec 32 := Scalar.extui v487
  let c0_i32_253 : BitVec 32 := 0#32
  let v489 : BitVec 1 := Scalar.cmpi .slt c4_i32_249 c0_i32_253
  let v490 : BitVec 32 := Scalar.extui v489
  let v491 : BitVec 32 := Scalar.subi v488 v490
  let v492 : BitVec 1 := Scalar.cmpi .ne v486 v491
  let v493 : BitVec 32 := Scalar.remsi v463 c4_i32_249
  let c0_i32_254 : BitVec 32 := 0#32
  let v494 : BitVec 1 := Scalar.cmpi .ne v493 c0_i32_254
  let v495 : BitVec 1 := Scalar.andi v492 v494
  let v481 : BitVec 32 := Scalar.divsi v463 c4_i32_249
  let c1_i32_255 : BitVec 32 := 1#32
  let v496 : BitVec 32 := Scalar.subi v481 c1_i32_255
  let v497 : BitVec 32 := Scalar.select v495 v496 v481
  let c2_i32_256 : BitVec 32 := 2#32
  let c0_i32_257 : BitVec 32 := 0#32
  let v498 : BitVec 1 := Scalar.cmpi .eq c2_i32_256 c0_i32_257
  let c1_i32_258 : BitVec 32 := 1#32
  let v499 : BitVec 32 := Scalar.select v498 c1_i32_258 c2_i32_256
  let v500 : BitVec 32 := Scalar.remsi v497 v499
  let c0_i32_260 : BitVec 32 := 0#32
  let v502 : BitVec 1 := Scalar.cmpi .slt v500 c0_i32_260
  let c0_i32_261 : BitVec 32 := 0#32
  let v503 : BitVec 1 := Scalar.cmpi .slt v499 c0_i32_261
  let v504 : BitVec 1 := Scalar.xori v502 v503
  let c0_i32_259 : BitVec 32 := 0#32
  let v501 : BitVec 1 := Scalar.cmpi .ne v500 c0_i32_259
  let v505 : BitVec 1 := Scalar.andi v504 v501
  let v506 : BitVec 32 := Scalar.addi v500 v499
  let v507 : BitVec 32 := Scalar.select v505 v506 v500
  let c4_i32_271 : BitVec 32 := 4#32
  let v520 : BitVec 32 := Scalar.muli v507 c4_i32_271
  let v521 : BitVec 32 := Scalar.addi v519 v520
  let c4_i32_262 : BitVec 32 := 4#32
  let c0_i32_263 : BitVec 32 := 0#32
  let v508 : BitVec 1 := Scalar.cmpi .eq c4_i32_262 c0_i32_263
  let c1_i32_264 : BitVec 32 := 1#32
  let v509 : BitVec 32 := Scalar.select v508 c1_i32_264 c4_i32_262
  let v510 : BitVec 32 := Scalar.remsi v463 v509
  let c0_i32_266 : BitVec 32 := 0#32
  let v512 : BitVec 1 := Scalar.cmpi .slt v510 c0_i32_266
  let c0_i32_267 : BitVec 32 := 0#32
  let v513 : BitVec 1 := Scalar.cmpi .slt v509 c0_i32_267
  let v514 : BitVec 1 := Scalar.xori v512 v513
  let c0_i32_265 : BitVec 32 := 0#32
  let v511 : BitVec 1 := Scalar.cmpi .ne v510 c0_i32_265
  let v515 : BitVec 1 := Scalar.andi v514 v511
  let v516 : BitVec 32 := Scalar.addi v510 v509
  let v517 : BitVec 32 := Scalar.select v515 v516 v510
  let c1_i32_272 : BitVec 32 := 1#32
  let v522 : BitVec 32 := Scalar.muli v517 c1_i32_272
  let v523 : BitVec 32 := Scalar.addi v521 v522
  v523.toNat
def k0_dev9 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32 : BitVec 32 := 9#32
  let v524 : BitVec 32 := Scalar.addi v12 c9_i32
  let c16_i32_273 : BitVec 32 := 16#32
  let v525 : BitVec 32 := Scalar.remsi v524 c16_i32_273
  let c0_i32_275 : BitVec 32 := 0#32
  let v527 : BitVec 1 := Scalar.cmpi .sgt v525 c0_i32_275
  let v528 : BitVec 32 := Scalar.extui v527
  let c0_i32_276 : BitVec 32 := 0#32
  let v529 : BitVec 1 := Scalar.cmpi .slt v525 c0_i32_276
  let v530 : BitVec 32 := Scalar.extui v529
  let v531 : BitVec 32 := Scalar.subi v528 v530
  let c8_i32_274 : BitVec 32 := 8#32
  let c0_i32_277 : BitVec 32 := 0#32
  let v532 : BitVec 1 := Scalar.cmpi .sgt c8_i32_274 c0_i32_277
  let v533 : BitVec 32 := Scalar.extui v532
  let c0_i32_278 : BitVec 32 := 0#32
  let v534 : BitVec 1 := Scalar.cmpi .slt c8_i32_274 c0_i32_278
  let v535 : BitVec 32 := Scalar.extui v534
  let v536 : BitVec 32 := Scalar.subi v533 v535
  let v537 : BitVec 1 := Scalar.cmpi .ne v531 v536
  let v538 : BitVec 32 := Scalar.remsi v525 c8_i32_274
  let c0_i32_279 : BitVec 32 := 0#32
  let v539 : BitVec 1 := Scalar.cmpi .ne v538 c0_i32_279
  let v540 : BitVec 1 := Scalar.andi v537 v539
  let v526 : BitVec 32 := Scalar.divsi v525 c8_i32_274
  let c1_i32_280 : BitVec 32 := 1#32
  let v541 : BitVec 32 := Scalar.subi v526 c1_i32_280
  let v542 : BitVec 32 := Scalar.select v540 v541 v526
  let c8_i32_301 : BitVec 32 := 8#32
  let v580 : BitVec 32 := Scalar.muli v542 c8_i32_301
  let v581 : BitVec 32 := Scalar.addi c0_i32_302 v580
  let c0_i32_282 : BitVec 32 := 0#32
  let v544 : BitVec 1 := Scalar.cmpi .sgt v525 c0_i32_282
  let v545 : BitVec 32 := Scalar.extui v544
  let c0_i32_283 : BitVec 32 := 0#32
  let v546 : BitVec 1 := Scalar.cmpi .slt v525 c0_i32_283
  let v547 : BitVec 32 := Scalar.extui v546
  let v548 : BitVec 32 := Scalar.subi v545 v547
  let c4_i32_281 : BitVec 32 := 4#32
  let c0_i32_284 : BitVec 32 := 0#32
  let v549 : BitVec 1 := Scalar.cmpi .sgt c4_i32_281 c0_i32_284
  let v550 : BitVec 32 := Scalar.extui v549
  let c0_i32_285 : BitVec 32 := 0#32
  let v551 : BitVec 1 := Scalar.cmpi .slt c4_i32_281 c0_i32_285
  let v552 : BitVec 32 := Scalar.extui v551
  let v553 : BitVec 32 := Scalar.subi v550 v552
  let v554 : BitVec 1 := Scalar.cmpi .ne v548 v553
  let v555 : BitVec 32 := Scalar.remsi v525 c4_i32_281
  let c0_i32_286 : BitVec 32 := 0#32
  let v556 : BitVec 1 := Scalar.cmpi .ne v555 c0_i32_286
  let v557 : BitVec 1 := Scalar.andi v554 v556
  let v543 : BitVec 32 := Scalar.divsi v525 c4_i32_281
  let c1_i32_287 : BitVec 32 := 1#32
  let v558 : BitVec 32 := Scalar.subi v543 c1_i32_287
  let v559 : BitVec 32 := Scalar.select v557 v558 v543
  let c2_i32_288 : BitVec 32 := 2#32
  let c0_i32_289 : BitVec 32 := 0#32
  let v560 : BitVec 1 := Scalar.cmpi .eq c2_i32_288 c0_i32_289
  let c1_i32_290 : BitVec 32 := 1#32
  let v561 : BitVec 32 := Scalar.select v560 c1_i32_290 c2_i32_288
  let v562 : BitVec 32 := Scalar.remsi v559 v561
  let c0_i32_292 : BitVec 32 := 0#32
  let v564 : BitVec 1 := Scalar.cmpi .slt v562 c0_i32_292
  let c0_i32_293 : BitVec 32 := 0#32
  let v565 : BitVec 1 := Scalar.cmpi .slt v561 c0_i32_293
  let v566 : BitVec 1 := Scalar.xori v564 v565
  let c0_i32_291 : BitVec 32 := 0#32
  let v563 : BitVec 1 := Scalar.cmpi .ne v562 c0_i32_291
  let v567 : BitVec 1 := Scalar.andi v566 v563
  let v568 : BitVec 32 := Scalar.addi v562 v561
  let v569 : BitVec 32 := Scalar.select v567 v568 v562
  let c4_i32_303 : BitVec 32 := 4#32
  let v582 : BitVec 32 := Scalar.muli v569 c4_i32_303
  let v583 : BitVec 32 := Scalar.addi v581 v582
  let c4_i32_294 : BitVec 32 := 4#32
  let c0_i32_295 : BitVec 32 := 0#32
  let v570 : BitVec 1 := Scalar.cmpi .eq c4_i32_294 c0_i32_295
  let c1_i32_296 : BitVec 32 := 1#32
  let v571 : BitVec 32 := Scalar.select v570 c1_i32_296 c4_i32_294
  let v572 : BitVec 32 := Scalar.remsi v525 v571
  let c0_i32_298 : BitVec 32 := 0#32
  let v574 : BitVec 1 := Scalar.cmpi .slt v572 c0_i32_298
  let c0_i32_299 : BitVec 32 := 0#32
  let v575 : BitVec 1 := Scalar.cmpi .slt v571 c0_i32_299
  let v576 : BitVec 1 := Scalar.xori v574 v575
  let c0_i32_297 : BitVec 32 := 0#32
  let v573 : BitVec 1 := Scalar.cmpi .ne v572 c0_i32_297
  let v577 : BitVec 1 := Scalar.andi v576 v573
  let v578 : BitVec 32 := Scalar.addi v572 v571
  let v579 : BitVec 32 := Scalar.select v577 v578 v572
  let c1_i32_304 : BitVec 32 := 1#32
  let v584 : BitVec 32 := Scalar.muli v579 c1_i32_304
  let v585 : BitVec 32 := Scalar.addi v583 v584
  v585.toNat
def k0_dev10 (d0 : Dev nD) : Nat :=
  let c0_i32_334 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32 : BitVec 32 := 10#32
  let v586 : BitVec 32 := Scalar.addi v12 c10_i32
  let c16_i32_305 : BitVec 32 := 16#32
  let v587 : BitVec 32 := Scalar.remsi v586 c16_i32_305
  let c0_i32_307 : BitVec 32 := 0#32
  let v589 : BitVec 1 := Scalar.cmpi .sgt v587 c0_i32_307
  let v590 : BitVec 32 := Scalar.extui v589
  let c0_i32_308 : BitVec 32 := 0#32
  let v591 : BitVec 1 := Scalar.cmpi .slt v587 c0_i32_308
  let v592 : BitVec 32 := Scalar.extui v591
  let v593 : BitVec 32 := Scalar.subi v590 v592
  let c8_i32_306 : BitVec 32 := 8#32
  let c0_i32_309 : BitVec 32 := 0#32
  let v594 : BitVec 1 := Scalar.cmpi .sgt c8_i32_306 c0_i32_309
  let v595 : BitVec 32 := Scalar.extui v594
  let c0_i32_310 : BitVec 32 := 0#32
  let v596 : BitVec 1 := Scalar.cmpi .slt c8_i32_306 c0_i32_310
  let v597 : BitVec 32 := Scalar.extui v596
  let v598 : BitVec 32 := Scalar.subi v595 v597
  let v599 : BitVec 1 := Scalar.cmpi .ne v593 v598
  let v600 : BitVec 32 := Scalar.remsi v587 c8_i32_306
  let c0_i32_311 : BitVec 32 := 0#32
  let v601 : BitVec 1 := Scalar.cmpi .ne v600 c0_i32_311
  let v602 : BitVec 1 := Scalar.andi v599 v601
  let v588 : BitVec 32 := Scalar.divsi v587 c8_i32_306
  let c1_i32_312 : BitVec 32 := 1#32
  let v603 : BitVec 32 := Scalar.subi v588 c1_i32_312
  let v604 : BitVec 32 := Scalar.select v602 v603 v588
  let c8_i32_333 : BitVec 32 := 8#32
  let v642 : BitVec 32 := Scalar.muli v604 c8_i32_333
  let v643 : BitVec 32 := Scalar.addi c0_i32_334 v642
  let c0_i32_314 : BitVec 32 := 0#32
  let v606 : BitVec 1 := Scalar.cmpi .sgt v587 c0_i32_314
  let v607 : BitVec 32 := Scalar.extui v606
  let c0_i32_315 : BitVec 32 := 0#32
  let v608 : BitVec 1 := Scalar.cmpi .slt v587 c0_i32_315
  let v609 : BitVec 32 := Scalar.extui v608
  let v610 : BitVec 32 := Scalar.subi v607 v609
  let c4_i32_313 : BitVec 32 := 4#32
  let c0_i32_316 : BitVec 32 := 0#32
  let v611 : BitVec 1 := Scalar.cmpi .sgt c4_i32_313 c0_i32_316
  let v612 : BitVec 32 := Scalar.extui v611
  let c0_i32_317 : BitVec 32 := 0#32
  let v613 : BitVec 1 := Scalar.cmpi .slt c4_i32_313 c0_i32_317
  let v614 : BitVec 32 := Scalar.extui v613
  let v615 : BitVec 32 := Scalar.subi v612 v614
  let v616 : BitVec 1 := Scalar.cmpi .ne v610 v615
  let v617 : BitVec 32 := Scalar.remsi v587 c4_i32_313
  let c0_i32_318 : BitVec 32 := 0#32
  let v618 : BitVec 1 := Scalar.cmpi .ne v617 c0_i32_318
  let v619 : BitVec 1 := Scalar.andi v616 v618
  let v605 : BitVec 32 := Scalar.divsi v587 c4_i32_313
  let c1_i32_319 : BitVec 32 := 1#32
  let v620 : BitVec 32 := Scalar.subi v605 c1_i32_319
  let v621 : BitVec 32 := Scalar.select v619 v620 v605
  let c2_i32_320 : BitVec 32 := 2#32
  let c0_i32_321 : BitVec 32 := 0#32
  let v622 : BitVec 1 := Scalar.cmpi .eq c2_i32_320 c0_i32_321
  let c1_i32_322 : BitVec 32 := 1#32
  let v623 : BitVec 32 := Scalar.select v622 c1_i32_322 c2_i32_320
  let v624 : BitVec 32 := Scalar.remsi v621 v623
  let c0_i32_324 : BitVec 32 := 0#32
  let v626 : BitVec 1 := Scalar.cmpi .slt v624 c0_i32_324
  let c0_i32_325 : BitVec 32 := 0#32
  let v627 : BitVec 1 := Scalar.cmpi .slt v623 c0_i32_325
  let v628 : BitVec 1 := Scalar.xori v626 v627
  let c0_i32_323 : BitVec 32 := 0#32
  let v625 : BitVec 1 := Scalar.cmpi .ne v624 c0_i32_323
  let v629 : BitVec 1 := Scalar.andi v628 v625
  let v630 : BitVec 32 := Scalar.addi v624 v623
  let v631 : BitVec 32 := Scalar.select v629 v630 v624
  let c4_i32_335 : BitVec 32 := 4#32
  let v644 : BitVec 32 := Scalar.muli v631 c4_i32_335
  let v645 : BitVec 32 := Scalar.addi v643 v644
  let c4_i32_326 : BitVec 32 := 4#32
  let c0_i32_327 : BitVec 32 := 0#32
  let v632 : BitVec 1 := Scalar.cmpi .eq c4_i32_326 c0_i32_327
  let c1_i32_328 : BitVec 32 := 1#32
  let v633 : BitVec 32 := Scalar.select v632 c1_i32_328 c4_i32_326
  let v634 : BitVec 32 := Scalar.remsi v587 v633
  let c0_i32_330 : BitVec 32 := 0#32
  let v636 : BitVec 1 := Scalar.cmpi .slt v634 c0_i32_330
  let c0_i32_331 : BitVec 32 := 0#32
  let v637 : BitVec 1 := Scalar.cmpi .slt v633 c0_i32_331
  let v638 : BitVec 1 := Scalar.xori v636 v637
  let c0_i32_329 : BitVec 32 := 0#32
  let v635 : BitVec 1 := Scalar.cmpi .ne v634 c0_i32_329
  let v639 : BitVec 1 := Scalar.andi v638 v635
  let v640 : BitVec 32 := Scalar.addi v634 v633
  let v641 : BitVec 32 := Scalar.select v639 v640 v634
  let c1_i32_336 : BitVec 32 := 1#32
  let v646 : BitVec 32 := Scalar.muli v641 c1_i32_336
  let v647 : BitVec 32 := Scalar.addi v645 v646
  v647.toNat
def k0_dev11 (d0 : Dev nD) : Nat :=
  let c0_i32_366 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32 : BitVec 32 := 11#32
  let v648 : BitVec 32 := Scalar.addi v12 c11_i32
  let c16_i32_337 : BitVec 32 := 16#32
  let v649 : BitVec 32 := Scalar.remsi v648 c16_i32_337
  let c0_i32_339 : BitVec 32 := 0#32
  let v651 : BitVec 1 := Scalar.cmpi .sgt v649 c0_i32_339
  let v652 : BitVec 32 := Scalar.extui v651
  let c0_i32_340 : BitVec 32 := 0#32
  let v653 : BitVec 1 := Scalar.cmpi .slt v649 c0_i32_340
  let v654 : BitVec 32 := Scalar.extui v653
  let v655 : BitVec 32 := Scalar.subi v652 v654
  let c8_i32_338 : BitVec 32 := 8#32
  let c0_i32_341 : BitVec 32 := 0#32
  let v656 : BitVec 1 := Scalar.cmpi .sgt c8_i32_338 c0_i32_341
  let v657 : BitVec 32 := Scalar.extui v656
  let c0_i32_342 : BitVec 32 := 0#32
  let v658 : BitVec 1 := Scalar.cmpi .slt c8_i32_338 c0_i32_342
  let v659 : BitVec 32 := Scalar.extui v658
  let v660 : BitVec 32 := Scalar.subi v657 v659
  let v661 : BitVec 1 := Scalar.cmpi .ne v655 v660
  let v662 : BitVec 32 := Scalar.remsi v649 c8_i32_338
  let c0_i32_343 : BitVec 32 := 0#32
  let v663 : BitVec 1 := Scalar.cmpi .ne v662 c0_i32_343
  let v664 : BitVec 1 := Scalar.andi v661 v663
  let v650 : BitVec 32 := Scalar.divsi v649 c8_i32_338
  let c1_i32_344 : BitVec 32 := 1#32
  let v665 : BitVec 32 := Scalar.subi v650 c1_i32_344
  let v666 : BitVec 32 := Scalar.select v664 v665 v650
  let c8_i32_365 : BitVec 32 := 8#32
  let v704 : BitVec 32 := Scalar.muli v666 c8_i32_365
  let v705 : BitVec 32 := Scalar.addi c0_i32_366 v704
  let c0_i32_346 : BitVec 32 := 0#32
  let v668 : BitVec 1 := Scalar.cmpi .sgt v649 c0_i32_346
  let v669 : BitVec 32 := Scalar.extui v668
  let c0_i32_347 : BitVec 32 := 0#32
  let v670 : BitVec 1 := Scalar.cmpi .slt v649 c0_i32_347
  let v671 : BitVec 32 := Scalar.extui v670
  let v672 : BitVec 32 := Scalar.subi v669 v671
  let c4_i32_345 : BitVec 32 := 4#32
  let c0_i32_348 : BitVec 32 := 0#32
  let v673 : BitVec 1 := Scalar.cmpi .sgt c4_i32_345 c0_i32_348
  let v674 : BitVec 32 := Scalar.extui v673
  let c0_i32_349 : BitVec 32 := 0#32
  let v675 : BitVec 1 := Scalar.cmpi .slt c4_i32_345 c0_i32_349
  let v676 : BitVec 32 := Scalar.extui v675
  let v677 : BitVec 32 := Scalar.subi v674 v676
  let v678 : BitVec 1 := Scalar.cmpi .ne v672 v677
  let v679 : BitVec 32 := Scalar.remsi v649 c4_i32_345
  let c0_i32_350 : BitVec 32 := 0#32
  let v680 : BitVec 1 := Scalar.cmpi .ne v679 c0_i32_350
  let v681 : BitVec 1 := Scalar.andi v678 v680
  let v667 : BitVec 32 := Scalar.divsi v649 c4_i32_345
  let c1_i32_351 : BitVec 32 := 1#32
  let v682 : BitVec 32 := Scalar.subi v667 c1_i32_351
  let v683 : BitVec 32 := Scalar.select v681 v682 v667
  let c2_i32_352 : BitVec 32 := 2#32
  let c0_i32_353 : BitVec 32 := 0#32
  let v684 : BitVec 1 := Scalar.cmpi .eq c2_i32_352 c0_i32_353
  let c1_i32_354 : BitVec 32 := 1#32
  let v685 : BitVec 32 := Scalar.select v684 c1_i32_354 c2_i32_352
  let v686 : BitVec 32 := Scalar.remsi v683 v685
  let c0_i32_356 : BitVec 32 := 0#32
  let v688 : BitVec 1 := Scalar.cmpi .slt v686 c0_i32_356
  let c0_i32_357 : BitVec 32 := 0#32
  let v689 : BitVec 1 := Scalar.cmpi .slt v685 c0_i32_357
  let v690 : BitVec 1 := Scalar.xori v688 v689
  let c0_i32_355 : BitVec 32 := 0#32
  let v687 : BitVec 1 := Scalar.cmpi .ne v686 c0_i32_355
  let v691 : BitVec 1 := Scalar.andi v690 v687
  let v692 : BitVec 32 := Scalar.addi v686 v685
  let v693 : BitVec 32 := Scalar.select v691 v692 v686
  let c4_i32_367 : BitVec 32 := 4#32
  let v706 : BitVec 32 := Scalar.muli v693 c4_i32_367
  let v707 : BitVec 32 := Scalar.addi v705 v706
  let c4_i32_358 : BitVec 32 := 4#32
  let c0_i32_359 : BitVec 32 := 0#32
  let v694 : BitVec 1 := Scalar.cmpi .eq c4_i32_358 c0_i32_359
  let c1_i32_360 : BitVec 32 := 1#32
  let v695 : BitVec 32 := Scalar.select v694 c1_i32_360 c4_i32_358
  let v696 : BitVec 32 := Scalar.remsi v649 v695
  let c0_i32_362 : BitVec 32 := 0#32
  let v698 : BitVec 1 := Scalar.cmpi .slt v696 c0_i32_362
  let c0_i32_363 : BitVec 32 := 0#32
  let v699 : BitVec 1 := Scalar.cmpi .slt v695 c0_i32_363
  let v700 : BitVec 1 := Scalar.xori v698 v699
  let c0_i32_361 : BitVec 32 := 0#32
  let v697 : BitVec 1 := Scalar.cmpi .ne v696 c0_i32_361
  let v701 : BitVec 1 := Scalar.andi v700 v697
  let v702 : BitVec 32 := Scalar.addi v696 v695
  let v703 : BitVec 32 := Scalar.select v701 v702 v696
  let c1_i32_368 : BitVec 32 := 1#32
  let v708 : BitVec 32 := Scalar.muli v703 c1_i32_368
  let v709 : BitVec 32 := Scalar.addi v707 v708
  v709.toNat
def k0_dev12 (d0 : Dev nD) : Nat :=
  let c0_i32_398 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32 : BitVec 32 := 12#32
  let v710 : BitVec 32 := Scalar.addi v12 c12_i32
  let c16_i32_369 : BitVec 32 := 16#32
  let v711 : BitVec 32 := Scalar.remsi v710 c16_i32_369
  let c0_i32_371 : BitVec 32 := 0#32
  let v713 : BitVec 1 := Scalar.cmpi .sgt v711 c0_i32_371
  let v714 : BitVec 32 := Scalar.extui v713
  let c0_i32_372 : BitVec 32 := 0#32
  let v715 : BitVec 1 := Scalar.cmpi .slt v711 c0_i32_372
  let v716 : BitVec 32 := Scalar.extui v715
  let v717 : BitVec 32 := Scalar.subi v714 v716
  let c8_i32_370 : BitVec 32 := 8#32
  let c0_i32_373 : BitVec 32 := 0#32
  let v718 : BitVec 1 := Scalar.cmpi .sgt c8_i32_370 c0_i32_373
  let v719 : BitVec 32 := Scalar.extui v718
  let c0_i32_374 : BitVec 32 := 0#32
  let v720 : BitVec 1 := Scalar.cmpi .slt c8_i32_370 c0_i32_374
  let v721 : BitVec 32 := Scalar.extui v720
  let v722 : BitVec 32 := Scalar.subi v719 v721
  let v723 : BitVec 1 := Scalar.cmpi .ne v717 v722
  let v724 : BitVec 32 := Scalar.remsi v711 c8_i32_370
  let c0_i32_375 : BitVec 32 := 0#32
  let v725 : BitVec 1 := Scalar.cmpi .ne v724 c0_i32_375
  let v726 : BitVec 1 := Scalar.andi v723 v725
  let v712 : BitVec 32 := Scalar.divsi v711 c8_i32_370
  let c1_i32_376 : BitVec 32 := 1#32
  let v727 : BitVec 32 := Scalar.subi v712 c1_i32_376
  let v728 : BitVec 32 := Scalar.select v726 v727 v712
  let c8_i32_397 : BitVec 32 := 8#32
  let v766 : BitVec 32 := Scalar.muli v728 c8_i32_397
  let v767 : BitVec 32 := Scalar.addi c0_i32_398 v766
  let c0_i32_378 : BitVec 32 := 0#32
  let v730 : BitVec 1 := Scalar.cmpi .sgt v711 c0_i32_378
  let v731 : BitVec 32 := Scalar.extui v730
  let c0_i32_379 : BitVec 32 := 0#32
  let v732 : BitVec 1 := Scalar.cmpi .slt v711 c0_i32_379
  let v733 : BitVec 32 := Scalar.extui v732
  let v734 : BitVec 32 := Scalar.subi v731 v733
  let c4_i32_377 : BitVec 32 := 4#32
  let c0_i32_380 : BitVec 32 := 0#32
  let v735 : BitVec 1 := Scalar.cmpi .sgt c4_i32_377 c0_i32_380
  let v736 : BitVec 32 := Scalar.extui v735
  let c0_i32_381 : BitVec 32 := 0#32
  let v737 : BitVec 1 := Scalar.cmpi .slt c4_i32_377 c0_i32_381
  let v738 : BitVec 32 := Scalar.extui v737
  let v739 : BitVec 32 := Scalar.subi v736 v738
  let v740 : BitVec 1 := Scalar.cmpi .ne v734 v739
  let v741 : BitVec 32 := Scalar.remsi v711 c4_i32_377
  let c0_i32_382 : BitVec 32 := 0#32
  let v742 : BitVec 1 := Scalar.cmpi .ne v741 c0_i32_382
  let v743 : BitVec 1 := Scalar.andi v740 v742
  let v729 : BitVec 32 := Scalar.divsi v711 c4_i32_377
  let c1_i32_383 : BitVec 32 := 1#32
  let v744 : BitVec 32 := Scalar.subi v729 c1_i32_383
  let v745 : BitVec 32 := Scalar.select v743 v744 v729
  let c2_i32_384 : BitVec 32 := 2#32
  let c0_i32_385 : BitVec 32 := 0#32
  let v746 : BitVec 1 := Scalar.cmpi .eq c2_i32_384 c0_i32_385
  let c1_i32_386 : BitVec 32 := 1#32
  let v747 : BitVec 32 := Scalar.select v746 c1_i32_386 c2_i32_384
  let v748 : BitVec 32 := Scalar.remsi v745 v747
  let c0_i32_388 : BitVec 32 := 0#32
  let v750 : BitVec 1 := Scalar.cmpi .slt v748 c0_i32_388
  let c0_i32_389 : BitVec 32 := 0#32
  let v751 : BitVec 1 := Scalar.cmpi .slt v747 c0_i32_389
  let v752 : BitVec 1 := Scalar.xori v750 v751
  let c0_i32_387 : BitVec 32 := 0#32
  let v749 : BitVec 1 := Scalar.cmpi .ne v748 c0_i32_387
  let v753 : BitVec 1 := Scalar.andi v752 v749
  let v754 : BitVec 32 := Scalar.addi v748 v747
  let v755 : BitVec 32 := Scalar.select v753 v754 v748
  let c4_i32_399 : BitVec 32 := 4#32
  let v768 : BitVec 32 := Scalar.muli v755 c4_i32_399
  let v769 : BitVec 32 := Scalar.addi v767 v768
  let c4_i32_390 : BitVec 32 := 4#32
  let c0_i32_391 : BitVec 32 := 0#32
  let v756 : BitVec 1 := Scalar.cmpi .eq c4_i32_390 c0_i32_391
  let c1_i32_392 : BitVec 32 := 1#32
  let v757 : BitVec 32 := Scalar.select v756 c1_i32_392 c4_i32_390
  let v758 : BitVec 32 := Scalar.remsi v711 v757
  let c0_i32_394 : BitVec 32 := 0#32
  let v760 : BitVec 1 := Scalar.cmpi .slt v758 c0_i32_394
  let c0_i32_395 : BitVec 32 := 0#32
  let v761 : BitVec 1 := Scalar.cmpi .slt v757 c0_i32_395
  let v762 : BitVec 1 := Scalar.xori v760 v761
  let c0_i32_393 : BitVec 32 := 0#32
  let v759 : BitVec 1 := Scalar.cmpi .ne v758 c0_i32_393
  let v763 : BitVec 1 := Scalar.andi v762 v759
  let v764 : BitVec 32 := Scalar.addi v758 v757
  let v765 : BitVec 32 := Scalar.select v763 v764 v758
  let c1_i32_400 : BitVec 32 := 1#32
  let v770 : BitVec 32 := Scalar.muli v765 c1_i32_400
  let v771 : BitVec 32 := Scalar.addi v769 v770
  v771.toNat
def k0_dev13 (d0 : Dev nD) : Nat :=
  let c0_i32_430 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32 : BitVec 32 := 13#32
  let v772 : BitVec 32 := Scalar.addi v12 c13_i32
  let c16_i32_401 : BitVec 32 := 16#32
  let v773 : BitVec 32 := Scalar.remsi v772 c16_i32_401
  let c0_i32_403 : BitVec 32 := 0#32
  let v775 : BitVec 1 := Scalar.cmpi .sgt v773 c0_i32_403
  let v776 : BitVec 32 := Scalar.extui v775
  let c0_i32_404 : BitVec 32 := 0#32
  let v777 : BitVec 1 := Scalar.cmpi .slt v773 c0_i32_404
  let v778 : BitVec 32 := Scalar.extui v777
  let v779 : BitVec 32 := Scalar.subi v776 v778
  let c8_i32_402 : BitVec 32 := 8#32
  let c0_i32_405 : BitVec 32 := 0#32
  let v780 : BitVec 1 := Scalar.cmpi .sgt c8_i32_402 c0_i32_405
  let v781 : BitVec 32 := Scalar.extui v780
  let c0_i32_406 : BitVec 32 := 0#32
  let v782 : BitVec 1 := Scalar.cmpi .slt c8_i32_402 c0_i32_406
  let v783 : BitVec 32 := Scalar.extui v782
  let v784 : BitVec 32 := Scalar.subi v781 v783
  let v785 : BitVec 1 := Scalar.cmpi .ne v779 v784
  let v786 : BitVec 32 := Scalar.remsi v773 c8_i32_402
  let c0_i32_407 : BitVec 32 := 0#32
  let v787 : BitVec 1 := Scalar.cmpi .ne v786 c0_i32_407
  let v788 : BitVec 1 := Scalar.andi v785 v787
  let v774 : BitVec 32 := Scalar.divsi v773 c8_i32_402
  let c1_i32_408 : BitVec 32 := 1#32
  let v789 : BitVec 32 := Scalar.subi v774 c1_i32_408
  let v790 : BitVec 32 := Scalar.select v788 v789 v774
  let c8_i32_429 : BitVec 32 := 8#32
  let v828 : BitVec 32 := Scalar.muli v790 c8_i32_429
  let v829 : BitVec 32 := Scalar.addi c0_i32_430 v828
  let c0_i32_410 : BitVec 32 := 0#32
  let v792 : BitVec 1 := Scalar.cmpi .sgt v773 c0_i32_410
  let v793 : BitVec 32 := Scalar.extui v792
  let c0_i32_411 : BitVec 32 := 0#32
  let v794 : BitVec 1 := Scalar.cmpi .slt v773 c0_i32_411
  let v795 : BitVec 32 := Scalar.extui v794
  let v796 : BitVec 32 := Scalar.subi v793 v795
  let c4_i32_409 : BitVec 32 := 4#32
  let c0_i32_412 : BitVec 32 := 0#32
  let v797 : BitVec 1 := Scalar.cmpi .sgt c4_i32_409 c0_i32_412
  let v798 : BitVec 32 := Scalar.extui v797
  let c0_i32_413 : BitVec 32 := 0#32
  let v799 : BitVec 1 := Scalar.cmpi .slt c4_i32_409 c0_i32_413
  let v800 : BitVec 32 := Scalar.extui v799
  let v801 : BitVec 32 := Scalar.subi v798 v800
  let v802 : BitVec 1 := Scalar.cmpi .ne v796 v801
  let v803 : BitVec 32 := Scalar.remsi v773 c4_i32_409
  let c0_i32_414 : BitVec 32 := 0#32
  let v804 : BitVec 1 := Scalar.cmpi .ne v803 c0_i32_414
  let v805 : BitVec 1 := Scalar.andi v802 v804
  let v791 : BitVec 32 := Scalar.divsi v773 c4_i32_409
  let c1_i32_415 : BitVec 32 := 1#32
  let v806 : BitVec 32 := Scalar.subi v791 c1_i32_415
  let v807 : BitVec 32 := Scalar.select v805 v806 v791
  let c2_i32_416 : BitVec 32 := 2#32
  let c0_i32_417 : BitVec 32 := 0#32
  let v808 : BitVec 1 := Scalar.cmpi .eq c2_i32_416 c0_i32_417
  let c1_i32_418 : BitVec 32 := 1#32
  let v809 : BitVec 32 := Scalar.select v808 c1_i32_418 c2_i32_416
  let v810 : BitVec 32 := Scalar.remsi v807 v809
  let c0_i32_420 : BitVec 32 := 0#32
  let v812 : BitVec 1 := Scalar.cmpi .slt v810 c0_i32_420
  let c0_i32_421 : BitVec 32 := 0#32
  let v813 : BitVec 1 := Scalar.cmpi .slt v809 c0_i32_421
  let v814 : BitVec 1 := Scalar.xori v812 v813
  let c0_i32_419 : BitVec 32 := 0#32
  let v811 : BitVec 1 := Scalar.cmpi .ne v810 c0_i32_419
  let v815 : BitVec 1 := Scalar.andi v814 v811
  let v816 : BitVec 32 := Scalar.addi v810 v809
  let v817 : BitVec 32 := Scalar.select v815 v816 v810
  let c4_i32_431 : BitVec 32 := 4#32
  let v830 : BitVec 32 := Scalar.muli v817 c4_i32_431
  let v831 : BitVec 32 := Scalar.addi v829 v830
  let c4_i32_422 : BitVec 32 := 4#32
  let c0_i32_423 : BitVec 32 := 0#32
  let v818 : BitVec 1 := Scalar.cmpi .eq c4_i32_422 c0_i32_423
  let c1_i32_424 : BitVec 32 := 1#32
  let v819 : BitVec 32 := Scalar.select v818 c1_i32_424 c4_i32_422
  let v820 : BitVec 32 := Scalar.remsi v773 v819
  let c0_i32_426 : BitVec 32 := 0#32
  let v822 : BitVec 1 := Scalar.cmpi .slt v820 c0_i32_426
  let c0_i32_427 : BitVec 32 := 0#32
  let v823 : BitVec 1 := Scalar.cmpi .slt v819 c0_i32_427
  let v824 : BitVec 1 := Scalar.xori v822 v823
  let c0_i32_425 : BitVec 32 := 0#32
  let v821 : BitVec 1 := Scalar.cmpi .ne v820 c0_i32_425
  let v825 : BitVec 1 := Scalar.andi v824 v821
  let v826 : BitVec 32 := Scalar.addi v820 v819
  let v827 : BitVec 32 := Scalar.select v825 v826 v820
  let c1_i32_432 : BitVec 32 := 1#32
  let v832 : BitVec 32 := Scalar.muli v827 c1_i32_432
  let v833 : BitVec 32 := Scalar.addi v831 v832
  v833.toNat
def k0_dev14 (d0 : Dev nD) : Nat :=
  let c0_i32_462 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32 : BitVec 32 := 14#32
  let v834 : BitVec 32 := Scalar.addi v12 c14_i32
  let c16_i32_433 : BitVec 32 := 16#32
  let v835 : BitVec 32 := Scalar.remsi v834 c16_i32_433
  let c0_i32_435 : BitVec 32 := 0#32
  let v837 : BitVec 1 := Scalar.cmpi .sgt v835 c0_i32_435
  let v838 : BitVec 32 := Scalar.extui v837
  let c0_i32_436 : BitVec 32 := 0#32
  let v839 : BitVec 1 := Scalar.cmpi .slt v835 c0_i32_436
  let v840 : BitVec 32 := Scalar.extui v839
  let v841 : BitVec 32 := Scalar.subi v838 v840
  let c8_i32_434 : BitVec 32 := 8#32
  let c0_i32_437 : BitVec 32 := 0#32
  let v842 : BitVec 1 := Scalar.cmpi .sgt c8_i32_434 c0_i32_437
  let v843 : BitVec 32 := Scalar.extui v842
  let c0_i32_438 : BitVec 32 := 0#32
  let v844 : BitVec 1 := Scalar.cmpi .slt c8_i32_434 c0_i32_438
  let v845 : BitVec 32 := Scalar.extui v844
  let v846 : BitVec 32 := Scalar.subi v843 v845
  let v847 : BitVec 1 := Scalar.cmpi .ne v841 v846
  let v848 : BitVec 32 := Scalar.remsi v835 c8_i32_434
  let c0_i32_439 : BitVec 32 := 0#32
  let v849 : BitVec 1 := Scalar.cmpi .ne v848 c0_i32_439
  let v850 : BitVec 1 := Scalar.andi v847 v849
  let v836 : BitVec 32 := Scalar.divsi v835 c8_i32_434
  let c1_i32_440 : BitVec 32 := 1#32
  let v851 : BitVec 32 := Scalar.subi v836 c1_i32_440
  let v852 : BitVec 32 := Scalar.select v850 v851 v836
  let c8_i32_461 : BitVec 32 := 8#32
  let v890 : BitVec 32 := Scalar.muli v852 c8_i32_461
  let v891 : BitVec 32 := Scalar.addi c0_i32_462 v890
  let c0_i32_442 : BitVec 32 := 0#32
  let v854 : BitVec 1 := Scalar.cmpi .sgt v835 c0_i32_442
  let v855 : BitVec 32 := Scalar.extui v854
  let c0_i32_443 : BitVec 32 := 0#32
  let v856 : BitVec 1 := Scalar.cmpi .slt v835 c0_i32_443
  let v857 : BitVec 32 := Scalar.extui v856
  let v858 : BitVec 32 := Scalar.subi v855 v857
  let c4_i32_441 : BitVec 32 := 4#32
  let c0_i32_444 : BitVec 32 := 0#32
  let v859 : BitVec 1 := Scalar.cmpi .sgt c4_i32_441 c0_i32_444
  let v860 : BitVec 32 := Scalar.extui v859
  let c0_i32_445 : BitVec 32 := 0#32
  let v861 : BitVec 1 := Scalar.cmpi .slt c4_i32_441 c0_i32_445
  let v862 : BitVec 32 := Scalar.extui v861
  let v863 : BitVec 32 := Scalar.subi v860 v862
  let v864 : BitVec 1 := Scalar.cmpi .ne v858 v863
  let v865 : BitVec 32 := Scalar.remsi v835 c4_i32_441
  let c0_i32_446 : BitVec 32 := 0#32
  let v866 : BitVec 1 := Scalar.cmpi .ne v865 c0_i32_446
  let v867 : BitVec 1 := Scalar.andi v864 v866
  let v853 : BitVec 32 := Scalar.divsi v835 c4_i32_441
  let c1_i32_447 : BitVec 32 := 1#32
  let v868 : BitVec 32 := Scalar.subi v853 c1_i32_447
  let v869 : BitVec 32 := Scalar.select v867 v868 v853
  let c2_i32_448 : BitVec 32 := 2#32
  let c0_i32_449 : BitVec 32 := 0#32
  let v870 : BitVec 1 := Scalar.cmpi .eq c2_i32_448 c0_i32_449
  let c1_i32_450 : BitVec 32 := 1#32
  let v871 : BitVec 32 := Scalar.select v870 c1_i32_450 c2_i32_448
  let v872 : BitVec 32 := Scalar.remsi v869 v871
  let c0_i32_452 : BitVec 32 := 0#32
  let v874 : BitVec 1 := Scalar.cmpi .slt v872 c0_i32_452
  let c0_i32_453 : BitVec 32 := 0#32
  let v875 : BitVec 1 := Scalar.cmpi .slt v871 c0_i32_453
  let v876 : BitVec 1 := Scalar.xori v874 v875
  let c0_i32_451 : BitVec 32 := 0#32
  let v873 : BitVec 1 := Scalar.cmpi .ne v872 c0_i32_451
  let v877 : BitVec 1 := Scalar.andi v876 v873
  let v878 : BitVec 32 := Scalar.addi v872 v871
  let v879 : BitVec 32 := Scalar.select v877 v878 v872
  let c4_i32_463 : BitVec 32 := 4#32
  let v892 : BitVec 32 := Scalar.muli v879 c4_i32_463
  let v893 : BitVec 32 := Scalar.addi v891 v892
  let c4_i32_454 : BitVec 32 := 4#32
  let c0_i32_455 : BitVec 32 := 0#32
  let v880 : BitVec 1 := Scalar.cmpi .eq c4_i32_454 c0_i32_455
  let c1_i32_456 : BitVec 32 := 1#32
  let v881 : BitVec 32 := Scalar.select v880 c1_i32_456 c4_i32_454
  let v882 : BitVec 32 := Scalar.remsi v835 v881
  let c0_i32_458 : BitVec 32 := 0#32
  let v884 : BitVec 1 := Scalar.cmpi .slt v882 c0_i32_458
  let c0_i32_459 : BitVec 32 := 0#32
  let v885 : BitVec 1 := Scalar.cmpi .slt v881 c0_i32_459
  let v886 : BitVec 1 := Scalar.xori v884 v885
  let c0_i32_457 : BitVec 32 := 0#32
  let v883 : BitVec 1 := Scalar.cmpi .ne v882 c0_i32_457
  let v887 : BitVec 1 := Scalar.andi v886 v883
  let v888 : BitVec 32 := Scalar.addi v882 v881
  let v889 : BitVec 32 := Scalar.select v887 v888 v882
  let c1_i32_464 : BitVec 32 := 1#32
  let v894 : BitVec 32 := Scalar.muli v889 c1_i32_464
  let v895 : BitVec 32 := Scalar.addi v893 v894
  v895.toNat
def k0_dev15 (d0 : Dev nD) : Nat :=
  let c0_i32_494 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32 : BitVec 32 := 15#32
  let v896 : BitVec 32 := Scalar.addi v12 c15_i32
  let c16_i32_465 : BitVec 32 := 16#32
  let v897 : BitVec 32 := Scalar.remsi v896 c16_i32_465
  let c0_i32_467 : BitVec 32 := 0#32
  let v899 : BitVec 1 := Scalar.cmpi .sgt v897 c0_i32_467
  let v900 : BitVec 32 := Scalar.extui v899
  let c0_i32_468 : BitVec 32 := 0#32
  let v901 : BitVec 1 := Scalar.cmpi .slt v897 c0_i32_468
  let v902 : BitVec 32 := Scalar.extui v901
  let v903 : BitVec 32 := Scalar.subi v900 v902
  let c8_i32_466 : BitVec 32 := 8#32
  let c0_i32_469 : BitVec 32 := 0#32
  let v904 : BitVec 1 := Scalar.cmpi .sgt c8_i32_466 c0_i32_469
  let v905 : BitVec 32 := Scalar.extui v904
  let c0_i32_470 : BitVec 32 := 0#32
  let v906 : BitVec 1 := Scalar.cmpi .slt c8_i32_466 c0_i32_470
  let v907 : BitVec 32 := Scalar.extui v906
  let v908 : BitVec 32 := Scalar.subi v905 v907
  let v909 : BitVec 1 := Scalar.cmpi .ne v903 v908
  let v910 : BitVec 32 := Scalar.remsi v897 c8_i32_466
  let c0_i32_471 : BitVec 32 := 0#32
  let v911 : BitVec 1 := Scalar.cmpi .ne v910 c0_i32_471
  let v912 : BitVec 1 := Scalar.andi v909 v911
  let v898 : BitVec 32 := Scalar.divsi v897 c8_i32_466
  let c1_i32_472 : BitVec 32 := 1#32
  let v913 : BitVec 32 := Scalar.subi v898 c1_i32_472
  let v914 : BitVec 32 := Scalar.select v912 v913 v898
  let c8_i32_493 : BitVec 32 := 8#32
  let v952 : BitVec 32 := Scalar.muli v914 c8_i32_493
  let v953 : BitVec 32 := Scalar.addi c0_i32_494 v952
  let c0_i32_474 : BitVec 32 := 0#32
  let v916 : BitVec 1 := Scalar.cmpi .sgt v897 c0_i32_474
  let v917 : BitVec 32 := Scalar.extui v916
  let c0_i32_475 : BitVec 32 := 0#32
  let v918 : BitVec 1 := Scalar.cmpi .slt v897 c0_i32_475
  let v919 : BitVec 32 := Scalar.extui v918
  let v920 : BitVec 32 := Scalar.subi v917 v919
  let c4_i32_473 : BitVec 32 := 4#32
  let c0_i32_476 : BitVec 32 := 0#32
  let v921 : BitVec 1 := Scalar.cmpi .sgt c4_i32_473 c0_i32_476
  let v922 : BitVec 32 := Scalar.extui v921
  let c0_i32_477 : BitVec 32 := 0#32
  let v923 : BitVec 1 := Scalar.cmpi .slt c4_i32_473 c0_i32_477
  let v924 : BitVec 32 := Scalar.extui v923
  let v925 : BitVec 32 := Scalar.subi v922 v924
  let v926 : BitVec 1 := Scalar.cmpi .ne v920 v925
  let v927 : BitVec 32 := Scalar.remsi v897 c4_i32_473
  let c0_i32_478 : BitVec 32 := 0#32
  let v928 : BitVec 1 := Scalar.cmpi .ne v927 c0_i32_478
  let v929 : BitVec 1 := Scalar.andi v926 v928
  let v915 : BitVec 32 := Scalar.divsi v897 c4_i32_473
  let c1_i32_479 : BitVec 32 := 1#32
  let v930 : BitVec 32 := Scalar.subi v915 c1_i32_479
  let v931 : BitVec 32 := Scalar.select v929 v930 v915
  let c2_i32_480 : BitVec 32 := 2#32
  let c0_i32_481 : BitVec 32 := 0#32
  let v932 : BitVec 1 := Scalar.cmpi .eq c2_i32_480 c0_i32_481
  let c1_i32_482 : BitVec 32 := 1#32
  let v933 : BitVec 32 := Scalar.select v932 c1_i32_482 c2_i32_480
  let v934 : BitVec 32 := Scalar.remsi v931 v933
  let c0_i32_484 : BitVec 32 := 0#32
  let v936 : BitVec 1 := Scalar.cmpi .slt v934 c0_i32_484
  let c0_i32_485 : BitVec 32 := 0#32
  let v937 : BitVec 1 := Scalar.cmpi .slt v933 c0_i32_485
  let v938 : BitVec 1 := Scalar.xori v936 v937
  let c0_i32_483 : BitVec 32 := 0#32
  let v935 : BitVec 1 := Scalar.cmpi .ne v934 c0_i32_483
  let v939 : BitVec 1 := Scalar.andi v938 v935
  let v940 : BitVec 32 := Scalar.addi v934 v933
  let v941 : BitVec 32 := Scalar.select v939 v940 v934
  let c4_i32_495 : BitVec 32 := 4#32
  let v954 : BitVec 32 := Scalar.muli v941 c4_i32_495
  let v955 : BitVec 32 := Scalar.addi v953 v954
  let c4_i32_486 : BitVec 32 := 4#32
  let c0_i32_487 : BitVec 32 := 0#32
  let v942 : BitVec 1 := Scalar.cmpi .eq c4_i32_486 c0_i32_487
  let c1_i32_488 : BitVec 32 := 1#32
  let v943 : BitVec 32 := Scalar.select v942 c1_i32_488 c4_i32_486
  let v944 : BitVec 32 := Scalar.remsi v897 v943
  let c0_i32_490 : BitVec 32 := 0#32
  let v946 : BitVec 1 := Scalar.cmpi .slt v944 c0_i32_490
  let c0_i32_491 : BitVec 32 := 0#32
  let v947 : BitVec 1 := Scalar.cmpi .slt v943 c0_i32_491
  let v948 : BitVec 1 := Scalar.xori v946 v947
  let c0_i32_489 : BitVec 32 := 0#32
  let v945 : BitVec 1 := Scalar.cmpi .ne v944 c0_i32_489
  let v949 : BitVec 1 := Scalar.andi v948 v945
  let v950 : BitVec 32 := Scalar.addi v944 v943
  let v951 : BitVec 32 := Scalar.select v949 v950 v944
  let c1_i32_496 : BitVec 32 := 1#32
  let v956 : BitVec 32 := Scalar.muli v951 c1_i32_496
  let v957 : BitVec 32 := Scalar.addi v955 v956
  v957.toNat
def k0_dev16 (d0 : Dev nD) : Nat :=
  let c0_i32_562 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_530 : BitVec 32 := 1#32
  let v1020 : BitVec 32 := Scalar.addi v12 c1_i32_530
  let c16_i32_531 : BitVec 32 := 16#32
  let v1021 : BitVec 32 := Scalar.remsi v1020 c16_i32_531
  let c0_i32_533 : BitVec 32 := 0#32
  let v1023 : BitVec 1 := Scalar.cmpi .sgt v1021 c0_i32_533
  let v1024 : BitVec 32 := Scalar.extui v1023
  let c0_i32_534 : BitVec 32 := 0#32
  let v1025 : BitVec 1 := Scalar.cmpi .slt v1021 c0_i32_534
  let v1026 : BitVec 32 := Scalar.extui v1025
  let v1027 : BitVec 32 := Scalar.subi v1024 v1026
  let c8_i32_532 : BitVec 32 := 8#32
  let c0_i32_535 : BitVec 32 := 0#32
  let v1028 : BitVec 1 := Scalar.cmpi .sgt c8_i32_532 c0_i32_535
  let v1029 : BitVec 32 := Scalar.extui v1028
  let c0_i32_536 : BitVec 32 := 0#32
  let v1030 : BitVec 1 := Scalar.cmpi .slt c8_i32_532 c0_i32_536
  let v1031 : BitVec 32 := Scalar.extui v1030
  let v1032 : BitVec 32 := Scalar.subi v1029 v1031
  let v1033 : BitVec 1 := Scalar.cmpi .ne v1027 v1032
  let v1034 : BitVec 32 := Scalar.remsi v1021 c8_i32_532
  let c0_i32_537 : BitVec 32 := 0#32
  let v1035 : BitVec 1 := Scalar.cmpi .ne v1034 c0_i32_537
  let v1036 : BitVec 1 := Scalar.andi v1033 v1035
  let v1022 : BitVec 32 := Scalar.divsi v1021 c8_i32_532
  let c1_i32_538 : BitVec 32 := 1#32
  let v1037 : BitVec 32 := Scalar.subi v1022 c1_i32_538
  let v1038 : BitVec 32 := Scalar.select v1036 v1037 v1022
  let c8_i32_561 : BitVec 32 := 8#32
  let v1076 : BitVec 32 := Scalar.muli v1038 c8_i32_561
  let v1077 : BitVec 32 := Scalar.addi c0_i32_562 v1076
  let c0_i32_540 : BitVec 32 := 0#32
  let v1040 : BitVec 1 := Scalar.cmpi .sgt v1021 c0_i32_540
  let v1041 : BitVec 32 := Scalar.extui v1040
  let c0_i32_541 : BitVec 32 := 0#32
  let v1042 : BitVec 1 := Scalar.cmpi .slt v1021 c0_i32_541
  let v1043 : BitVec 32 := Scalar.extui v1042
  let v1044 : BitVec 32 := Scalar.subi v1041 v1043
  let c4_i32_539 : BitVec 32 := 4#32
  let c0_i32_542 : BitVec 32 := 0#32
  let v1045 : BitVec 1 := Scalar.cmpi .sgt c4_i32_539 c0_i32_542
  let v1046 : BitVec 32 := Scalar.extui v1045
  let c0_i32_543 : BitVec 32 := 0#32
  let v1047 : BitVec 1 := Scalar.cmpi .slt c4_i32_539 c0_i32_543
  let v1048 : BitVec 32 := Scalar.extui v1047
  let v1049 : BitVec 32 := Scalar.subi v1046 v1048
  let v1050 : BitVec 1 := Scalar.cmpi .ne v1044 v1049
  let v1051 : BitVec 32 := Scalar.remsi v1021 c4_i32_539
  let c0_i32_544 : BitVec 32 := 0#32
  let v1052 : BitVec 1 := Scalar.cmpi .ne v1051 c0_i32_544
  let v1053 : BitVec 1 := Scalar.andi v1050 v1052
  let v1039 : BitVec 32 := Scalar.divsi v1021 c4_i32_539
  let c1_i32_545 : BitVec 32 := 1#32
  let v1054 : BitVec 32 := Scalar.subi v1039 c1_i32_545
  let v1055 : BitVec 32 := Scalar.select v1053 v1054 v1039
  let c2_i32_546 : BitVec 32 := 2#32
  let c0_i32_547 : BitVec 32 := 0#32
  let v1056 : BitVec 1 := Scalar.cmpi .eq c2_i32_546 c0_i32_547
  let c1_i32_548 : BitVec 32 := 1#32
  let v1057 : BitVec 32 := Scalar.select v1056 c1_i32_548 c2_i32_546
  let v1058 : BitVec 32 := Scalar.remsi v1055 v1057
  let c0_i32_550 : BitVec 32 := 0#32
  let v1060 : BitVec 1 := Scalar.cmpi .slt v1058 c0_i32_550
  let c0_i32_551 : BitVec 32 := 0#32
  let v1061 : BitVec 1 := Scalar.cmpi .slt v1057 c0_i32_551
  let v1062 : BitVec 1 := Scalar.xori v1060 v1061
  let c0_i32_549 : BitVec 32 := 0#32
  let v1059 : BitVec 1 := Scalar.cmpi .ne v1058 c0_i32_549
  let v1063 : BitVec 1 := Scalar.andi v1062 v1059
  let v1064 : BitVec 32 := Scalar.addi v1058 v1057
  let v1065 : BitVec 32 := Scalar.select v1063 v1064 v1058
  let c4_i32_563 : BitVec 32 := 4#32
  let v1078 : BitVec 32 := Scalar.muli v1065 c4_i32_563
  let v1079 : BitVec 32 := Scalar.addi v1077 v1078
  let c4_i32_552 : BitVec 32 := 4#32
  let c0_i32_553 : BitVec 32 := 0#32
  let v1066 : BitVec 1 := Scalar.cmpi .eq c4_i32_552 c0_i32_553
  let c1_i32_554 : BitVec 32 := 1#32
  let v1067 : BitVec 32 := Scalar.select v1066 c1_i32_554 c4_i32_552
  let v1068 : BitVec 32 := Scalar.remsi v1021 v1067
  let c0_i32_556 : BitVec 32 := 0#32
  let v1070 : BitVec 1 := Scalar.cmpi .slt v1068 c0_i32_556
  let c0_i32_557 : BitVec 32 := 0#32
  let v1071 : BitVec 1 := Scalar.cmpi .slt v1067 c0_i32_557
  let v1072 : BitVec 1 := Scalar.xori v1070 v1071
  let c0_i32_555 : BitVec 32 := 0#32
  let v1069 : BitVec 1 := Scalar.cmpi .ne v1068 c0_i32_555
  let v1073 : BitVec 1 := Scalar.andi v1072 v1069
  let v1074 : BitVec 32 := Scalar.addi v1068 v1067
  let v1075 : BitVec 32 := Scalar.select v1073 v1074 v1068
  let c1_i32_564 : BitVec 32 := 1#32
  let v1080 : BitVec 32 := Scalar.muli v1075 c1_i32_564
  let v1081 : BitVec 32 := Scalar.addi v1079 v1080
  v1081.toNat
def k0_dev17 (d0 : Dev nD) : Nat :=
  let c0_i32_599 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_567 : BitVec 32 := 2#32
  let v1088 : BitVec 32 := Scalar.addi v12 c2_i32_567
  let c16_i32_568 : BitVec 32 := 16#32
  let v1089 : BitVec 32 := Scalar.remsi v1088 c16_i32_568
  let c0_i32_570 : BitVec 32 := 0#32
  let v1091 : BitVec 1 := Scalar.cmpi .sgt v1089 c0_i32_570
  let v1092 : BitVec 32 := Scalar.extui v1091
  let c0_i32_571 : BitVec 32 := 0#32
  let v1093 : BitVec 1 := Scalar.cmpi .slt v1089 c0_i32_571
  let v1094 : BitVec 32 := Scalar.extui v1093
  let v1095 : BitVec 32 := Scalar.subi v1092 v1094
  let c8_i32_569 : BitVec 32 := 8#32
  let c0_i32_572 : BitVec 32 := 0#32
  let v1096 : BitVec 1 := Scalar.cmpi .sgt c8_i32_569 c0_i32_572
  let v1097 : BitVec 32 := Scalar.extui v1096
  let c0_i32_573 : BitVec 32 := 0#32
  let v1098 : BitVec 1 := Scalar.cmpi .slt c8_i32_569 c0_i32_573
  let v1099 : BitVec 32 := Scalar.extui v1098
  let v1100 : BitVec 32 := Scalar.subi v1097 v1099
  let v1101 : BitVec 1 := Scalar.cmpi .ne v1095 v1100
  let v1102 : BitVec 32 := Scalar.remsi v1089 c8_i32_569
  let c0_i32_574 : BitVec 32 := 0#32
  let v1103 : BitVec 1 := Scalar.cmpi .ne v1102 c0_i32_574
  let v1104 : BitVec 1 := Scalar.andi v1101 v1103
  let v1090 : BitVec 32 := Scalar.divsi v1089 c8_i32_569
  let c1_i32_575 : BitVec 32 := 1#32
  let v1105 : BitVec 32 := Scalar.subi v1090 c1_i32_575
  let v1106 : BitVec 32 := Scalar.select v1104 v1105 v1090
  let c8_i32_598 : BitVec 32 := 8#32
  let v1144 : BitVec 32 := Scalar.muli v1106 c8_i32_598
  let v1145 : BitVec 32 := Scalar.addi c0_i32_599 v1144
  let c0_i32_577 : BitVec 32 := 0#32
  let v1108 : BitVec 1 := Scalar.cmpi .sgt v1089 c0_i32_577
  let v1109 : BitVec 32 := Scalar.extui v1108
  let c0_i32_578 : BitVec 32 := 0#32
  let v1110 : BitVec 1 := Scalar.cmpi .slt v1089 c0_i32_578
  let v1111 : BitVec 32 := Scalar.extui v1110
  let v1112 : BitVec 32 := Scalar.subi v1109 v1111
  let c4_i32_576 : BitVec 32 := 4#32
  let c0_i32_579 : BitVec 32 := 0#32
  let v1113 : BitVec 1 := Scalar.cmpi .sgt c4_i32_576 c0_i32_579
  let v1114 : BitVec 32 := Scalar.extui v1113
  let c0_i32_580 : BitVec 32 := 0#32
  let v1115 : BitVec 1 := Scalar.cmpi .slt c4_i32_576 c0_i32_580
  let v1116 : BitVec 32 := Scalar.extui v1115
  let v1117 : BitVec 32 := Scalar.subi v1114 v1116
  let v1118 : BitVec 1 := Scalar.cmpi .ne v1112 v1117
  let v1119 : BitVec 32 := Scalar.remsi v1089 c4_i32_576
  let c0_i32_581 : BitVec 32 := 0#32
  let v1120 : BitVec 1 := Scalar.cmpi .ne v1119 c0_i32_581
  let v1121 : BitVec 1 := Scalar.andi v1118 v1120
  let v1107 : BitVec 32 := Scalar.divsi v1089 c4_i32_576
  let c1_i32_582 : BitVec 32 := 1#32
  let v1122 : BitVec 32 := Scalar.subi v1107 c1_i32_582
  let v1123 : BitVec 32 := Scalar.select v1121 v1122 v1107
  let c2_i32_583 : BitVec 32 := 2#32
  let c0_i32_584 : BitVec 32 := 0#32
  let v1124 : BitVec 1 := Scalar.cmpi .eq c2_i32_583 c0_i32_584
  let c1_i32_585 : BitVec 32 := 1#32
  let v1125 : BitVec 32 := Scalar.select v1124 c1_i32_585 c2_i32_583
  let v1126 : BitVec 32 := Scalar.remsi v1123 v1125
  let c0_i32_587 : BitVec 32 := 0#32
  let v1128 : BitVec 1 := Scalar.cmpi .slt v1126 c0_i32_587
  let c0_i32_588 : BitVec 32 := 0#32
  let v1129 : BitVec 1 := Scalar.cmpi .slt v1125 c0_i32_588
  let v1130 : BitVec 1 := Scalar.xori v1128 v1129
  let c0_i32_586 : BitVec 32 := 0#32
  let v1127 : BitVec 1 := Scalar.cmpi .ne v1126 c0_i32_586
  let v1131 : BitVec 1 := Scalar.andi v1130 v1127
  let v1132 : BitVec 32 := Scalar.addi v1126 v1125
  let v1133 : BitVec 32 := Scalar.select v1131 v1132 v1126
  let c4_i32_600 : BitVec 32 := 4#32
  let v1146 : BitVec 32 := Scalar.muli v1133 c4_i32_600
  let v1147 : BitVec 32 := Scalar.addi v1145 v1146
  let c4_i32_589 : BitVec 32 := 4#32
  let c0_i32_590 : BitVec 32 := 0#32
  let v1134 : BitVec 1 := Scalar.cmpi .eq c4_i32_589 c0_i32_590
  let c1_i32_591 : BitVec 32 := 1#32
  let v1135 : BitVec 32 := Scalar.select v1134 c1_i32_591 c4_i32_589
  let v1136 : BitVec 32 := Scalar.remsi v1089 v1135
  let c0_i32_593 : BitVec 32 := 0#32
  let v1138 : BitVec 1 := Scalar.cmpi .slt v1136 c0_i32_593
  let c0_i32_594 : BitVec 32 := 0#32
  let v1139 : BitVec 1 := Scalar.cmpi .slt v1135 c0_i32_594
  let v1140 : BitVec 1 := Scalar.xori v1138 v1139
  let c0_i32_592 : BitVec 32 := 0#32
  let v1137 : BitVec 1 := Scalar.cmpi .ne v1136 c0_i32_592
  let v1141 : BitVec 1 := Scalar.andi v1140 v1137
  let v1142 : BitVec 32 := Scalar.addi v1136 v1135
  let v1143 : BitVec 32 := Scalar.select v1141 v1142 v1136
  let c1_i32_601 : BitVec 32 := 1#32
  let v1148 : BitVec 32 := Scalar.muli v1143 c1_i32_601
  let v1149 : BitVec 32 := Scalar.addi v1147 v1148
  v1149.toNat
def k0_dev18 (d0 : Dev nD) : Nat :=
  let c0_i32_636 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32_604 : BitVec 32 := 3#32
  let v1156 : BitVec 32 := Scalar.addi v12 c3_i32_604
  let c16_i32_605 : BitVec 32 := 16#32
  let v1157 : BitVec 32 := Scalar.remsi v1156 c16_i32_605
  let c0_i32_607 : BitVec 32 := 0#32
  let v1159 : BitVec 1 := Scalar.cmpi .sgt v1157 c0_i32_607
  let v1160 : BitVec 32 := Scalar.extui v1159
  let c0_i32_608 : BitVec 32 := 0#32
  let v1161 : BitVec 1 := Scalar.cmpi .slt v1157 c0_i32_608
  let v1162 : BitVec 32 := Scalar.extui v1161
  let v1163 : BitVec 32 := Scalar.subi v1160 v1162
  let c8_i32_606 : BitVec 32 := 8#32
  let c0_i32_609 : BitVec 32 := 0#32
  let v1164 : BitVec 1 := Scalar.cmpi .sgt c8_i32_606 c0_i32_609
  let v1165 : BitVec 32 := Scalar.extui v1164
  let c0_i32_610 : BitVec 32 := 0#32
  let v1166 : BitVec 1 := Scalar.cmpi .slt c8_i32_606 c0_i32_610
  let v1167 : BitVec 32 := Scalar.extui v1166
  let v1168 : BitVec 32 := Scalar.subi v1165 v1167
  let v1169 : BitVec 1 := Scalar.cmpi .ne v1163 v1168
  let v1170 : BitVec 32 := Scalar.remsi v1157 c8_i32_606
  let c0_i32_611 : BitVec 32 := 0#32
  let v1171 : BitVec 1 := Scalar.cmpi .ne v1170 c0_i32_611
  let v1172 : BitVec 1 := Scalar.andi v1169 v1171
  let v1158 : BitVec 32 := Scalar.divsi v1157 c8_i32_606
  let c1_i32_612 : BitVec 32 := 1#32
  let v1173 : BitVec 32 := Scalar.subi v1158 c1_i32_612
  let v1174 : BitVec 32 := Scalar.select v1172 v1173 v1158
  let c8_i32_635 : BitVec 32 := 8#32
  let v1212 : BitVec 32 := Scalar.muli v1174 c8_i32_635
  let v1213 : BitVec 32 := Scalar.addi c0_i32_636 v1212
  let c0_i32_614 : BitVec 32 := 0#32
  let v1176 : BitVec 1 := Scalar.cmpi .sgt v1157 c0_i32_614
  let v1177 : BitVec 32 := Scalar.extui v1176
  let c0_i32_615 : BitVec 32 := 0#32
  let v1178 : BitVec 1 := Scalar.cmpi .slt v1157 c0_i32_615
  let v1179 : BitVec 32 := Scalar.extui v1178
  let v1180 : BitVec 32 := Scalar.subi v1177 v1179
  let c4_i32_613 : BitVec 32 := 4#32
  let c0_i32_616 : BitVec 32 := 0#32
  let v1181 : BitVec 1 := Scalar.cmpi .sgt c4_i32_613 c0_i32_616
  let v1182 : BitVec 32 := Scalar.extui v1181
  let c0_i32_617 : BitVec 32 := 0#32
  let v1183 : BitVec 1 := Scalar.cmpi .slt c4_i32_613 c0_i32_617
  let v1184 : BitVec 32 := Scalar.extui v1183
  let v1185 : BitVec 32 := Scalar.subi v1182 v1184
  let v1186 : BitVec 1 := Scalar.cmpi .ne v1180 v1185
  let v1187 : BitVec 32 := Scalar.remsi v1157 c4_i32_613
  let c0_i32_618 : BitVec 32 := 0#32
  let v1188 : BitVec 1 := Scalar.cmpi .ne v1187 c0_i32_618
  let v1189 : BitVec 1 := Scalar.andi v1186 v1188
  let v1175 : BitVec 32 := Scalar.divsi v1157 c4_i32_613
  let c1_i32_619 : BitVec 32 := 1#32
  let v1190 : BitVec 32 := Scalar.subi v1175 c1_i32_619
  let v1191 : BitVec 32 := Scalar.select v1189 v1190 v1175
  let c2_i32_620 : BitVec 32 := 2#32
  let c0_i32_621 : BitVec 32 := 0#32
  let v1192 : BitVec 1 := Scalar.cmpi .eq c2_i32_620 c0_i32_621
  let c1_i32_622 : BitVec 32 := 1#32
  let v1193 : BitVec 32 := Scalar.select v1192 c1_i32_622 c2_i32_620
  let v1194 : BitVec 32 := Scalar.remsi v1191 v1193
  let c0_i32_624 : BitVec 32 := 0#32
  let v1196 : BitVec 1 := Scalar.cmpi .slt v1194 c0_i32_624
  let c0_i32_625 : BitVec 32 := 0#32
  let v1197 : BitVec 1 := Scalar.cmpi .slt v1193 c0_i32_625
  let v1198 : BitVec 1 := Scalar.xori v1196 v1197
  let c0_i32_623 : BitVec 32 := 0#32
  let v1195 : BitVec 1 := Scalar.cmpi .ne v1194 c0_i32_623
  let v1199 : BitVec 1 := Scalar.andi v1198 v1195
  let v1200 : BitVec 32 := Scalar.addi v1194 v1193
  let v1201 : BitVec 32 := Scalar.select v1199 v1200 v1194
  let c4_i32_637 : BitVec 32 := 4#32
  let v1214 : BitVec 32 := Scalar.muli v1201 c4_i32_637
  let v1215 : BitVec 32 := Scalar.addi v1213 v1214
  let c4_i32_626 : BitVec 32 := 4#32
  let c0_i32_627 : BitVec 32 := 0#32
  let v1202 : BitVec 1 := Scalar.cmpi .eq c4_i32_626 c0_i32_627
  let c1_i32_628 : BitVec 32 := 1#32
  let v1203 : BitVec 32 := Scalar.select v1202 c1_i32_628 c4_i32_626
  let v1204 : BitVec 32 := Scalar.remsi v1157 v1203
  let c0_i32_630 : BitVec 32 := 0#32
  let v1206 : BitVec 1 := Scalar.cmpi .slt v1204 c0_i32_630
  let c0_i32_631 : BitVec 32 := 0#32
  let v1207 : BitVec 1 := Scalar.cmpi .slt v1203 c0_i32_631
  let v1208 : BitVec 1 := Scalar.xori v1206 v1207
  let c0_i32_629 : BitVec 32 := 0#32
  let v1205 : BitVec 1 := Scalar.cmpi .ne v1204 c0_i32_629
  let v1209 : BitVec 1 := Scalar.andi v1208 v1205
  let v1210 : BitVec 32 := Scalar.addi v1204 v1203
  let v1211 : BitVec 32 := Scalar.select v1209 v1210 v1204
  let c1_i32_638 : BitVec 32 := 1#32
  let v1216 : BitVec 32 := Scalar.muli v1211 c1_i32_638
  let v1217 : BitVec 32 := Scalar.addi v1215 v1216
  v1217.toNat
def k0_dev19 (d0 : Dev nD) : Nat :=
  let c0_i32_673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_641 : BitVec 32 := 4#32
  let v1224 : BitVec 32 := Scalar.addi v12 c4_i32_641
  let c16_i32_642 : BitVec 32 := 16#32
  let v1225 : BitVec 32 := Scalar.remsi v1224 c16_i32_642
  let c0_i32_644 : BitVec 32 := 0#32
  let v1227 : BitVec 1 := Scalar.cmpi .sgt v1225 c0_i32_644
  let v1228 : BitVec 32 := Scalar.extui v1227
  let c0_i32_645 : BitVec 32 := 0#32
  let v1229 : BitVec 1 := Scalar.cmpi .slt v1225 c0_i32_645
  let v1230 : BitVec 32 := Scalar.extui v1229
  let v1231 : BitVec 32 := Scalar.subi v1228 v1230
  let c8_i32_643 : BitVec 32 := 8#32
  let c0_i32_646 : BitVec 32 := 0#32
  let v1232 : BitVec 1 := Scalar.cmpi .sgt c8_i32_643 c0_i32_646
  let v1233 : BitVec 32 := Scalar.extui v1232
  let c0_i32_647 : BitVec 32 := 0#32
  let v1234 : BitVec 1 := Scalar.cmpi .slt c8_i32_643 c0_i32_647
  let v1235 : BitVec 32 := Scalar.extui v1234
  let v1236 : BitVec 32 := Scalar.subi v1233 v1235
  let v1237 : BitVec 1 := Scalar.cmpi .ne v1231 v1236
  let v1238 : BitVec 32 := Scalar.remsi v1225 c8_i32_643
  let c0_i32_648 : BitVec 32 := 0#32
  let v1239 : BitVec 1 := Scalar.cmpi .ne v1238 c0_i32_648
  let v1240 : BitVec 1 := Scalar.andi v1237 v1239
  let v1226 : BitVec 32 := Scalar.divsi v1225 c8_i32_643
  let c1_i32_649 : BitVec 32 := 1#32
  let v1241 : BitVec 32 := Scalar.subi v1226 c1_i32_649
  let v1242 : BitVec 32 := Scalar.select v1240 v1241 v1226
  let c8_i32_672 : BitVec 32 := 8#32
  let v1280 : BitVec 32 := Scalar.muli v1242 c8_i32_672
  let v1281 : BitVec 32 := Scalar.addi c0_i32_673 v1280
  let c0_i32_651 : BitVec 32 := 0#32
  let v1244 : BitVec 1 := Scalar.cmpi .sgt v1225 c0_i32_651
  let v1245 : BitVec 32 := Scalar.extui v1244
  let c0_i32_652 : BitVec 32 := 0#32
  let v1246 : BitVec 1 := Scalar.cmpi .slt v1225 c0_i32_652
  let v1247 : BitVec 32 := Scalar.extui v1246
  let v1248 : BitVec 32 := Scalar.subi v1245 v1247
  let c4_i32_650 : BitVec 32 := 4#32
  let c0_i32_653 : BitVec 32 := 0#32
  let v1249 : BitVec 1 := Scalar.cmpi .sgt c4_i32_650 c0_i32_653
  let v1250 : BitVec 32 := Scalar.extui v1249
  let c0_i32_654 : BitVec 32 := 0#32
  let v1251 : BitVec 1 := Scalar.cmpi .slt c4_i32_650 c0_i32_654
  let v1252 : BitVec 32 := Scalar.extui v1251
  let v1253 : BitVec 32 := Scalar.subi v1250 v1252
  let v1254 : BitVec 1 := Scalar.cmpi .ne v1248 v1253
  let v1255 : BitVec 32 := Scalar.remsi v1225 c4_i32_650
  let c0_i32_655 : BitVec 32 := 0#32
  let v1256 : BitVec 1 := Scalar.cmpi .ne v1255 c0_i32_655
  let v1257 : BitVec 1 := Scalar.andi v1254 v1256
  let v1243 : BitVec 32 := Scalar.divsi v1225 c4_i32_650
  let c1_i32_656 : BitVec 32 := 1#32
  let v1258 : BitVec 32 := Scalar.subi v1243 c1_i32_656
  let v1259 : BitVec 32 := Scalar.select v1257 v1258 v1243
  let c2_i32_657 : BitVec 32 := 2#32
  let c0_i32_658 : BitVec 32 := 0#32
  let v1260 : BitVec 1 := Scalar.cmpi .eq c2_i32_657 c0_i32_658
  let c1_i32_659 : BitVec 32 := 1#32
  let v1261 : BitVec 32 := Scalar.select v1260 c1_i32_659 c2_i32_657
  let v1262 : BitVec 32 := Scalar.remsi v1259 v1261
  let c0_i32_661 : BitVec 32 := 0#32
  let v1264 : BitVec 1 := Scalar.cmpi .slt v1262 c0_i32_661
  let c0_i32_662 : BitVec 32 := 0#32
  let v1265 : BitVec 1 := Scalar.cmpi .slt v1261 c0_i32_662
  let v1266 : BitVec 1 := Scalar.xori v1264 v1265
  let c0_i32_660 : BitVec 32 := 0#32
  let v1263 : BitVec 1 := Scalar.cmpi .ne v1262 c0_i32_660
  let v1267 : BitVec 1 := Scalar.andi v1266 v1263
  let v1268 : BitVec 32 := Scalar.addi v1262 v1261
  let v1269 : BitVec 32 := Scalar.select v1267 v1268 v1262
  let c4_i32_674 : BitVec 32 := 4#32
  let v1282 : BitVec 32 := Scalar.muli v1269 c4_i32_674
  let v1283 : BitVec 32 := Scalar.addi v1281 v1282
  let c4_i32_663 : BitVec 32 := 4#32
  let c0_i32_664 : BitVec 32 := 0#32
  let v1270 : BitVec 1 := Scalar.cmpi .eq c4_i32_663 c0_i32_664
  let c1_i32_665 : BitVec 32 := 1#32
  let v1271 : BitVec 32 := Scalar.select v1270 c1_i32_665 c4_i32_663
  let v1272 : BitVec 32 := Scalar.remsi v1225 v1271
  let c0_i32_667 : BitVec 32 := 0#32
  let v1274 : BitVec 1 := Scalar.cmpi .slt v1272 c0_i32_667
  let c0_i32_668 : BitVec 32 := 0#32
  let v1275 : BitVec 1 := Scalar.cmpi .slt v1271 c0_i32_668
  let v1276 : BitVec 1 := Scalar.xori v1274 v1275
  let c0_i32_666 : BitVec 32 := 0#32
  let v1273 : BitVec 1 := Scalar.cmpi .ne v1272 c0_i32_666
  let v1277 : BitVec 1 := Scalar.andi v1276 v1273
  let v1278 : BitVec 32 := Scalar.addi v1272 v1271
  let v1279 : BitVec 32 := Scalar.select v1277 v1278 v1272
  let c1_i32_675 : BitVec 32 := 1#32
  let v1284 : BitVec 32 := Scalar.muli v1279 c1_i32_675
  let v1285 : BitVec 32 := Scalar.addi v1283 v1284
  v1285.toNat
def k0_dev20 (d0 : Dev nD) : Nat :=
  let c0_i32_710 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32_678 : BitVec 32 := 5#32
  let v1292 : BitVec 32 := Scalar.addi v12 c5_i32_678
  let c16_i32_679 : BitVec 32 := 16#32
  let v1293 : BitVec 32 := Scalar.remsi v1292 c16_i32_679
  let c0_i32_681 : BitVec 32 := 0#32
  let v1295 : BitVec 1 := Scalar.cmpi .sgt v1293 c0_i32_681
  let v1296 : BitVec 32 := Scalar.extui v1295
  let c0_i32_682 : BitVec 32 := 0#32
  let v1297 : BitVec 1 := Scalar.cmpi .slt v1293 c0_i32_682
  let v1298 : BitVec 32 := Scalar.extui v1297
  let v1299 : BitVec 32 := Scalar.subi v1296 v1298
  let c8_i32_680 : BitVec 32 := 8#32
  let c0_i32_683 : BitVec 32 := 0#32
  let v1300 : BitVec 1 := Scalar.cmpi .sgt c8_i32_680 c0_i32_683
  let v1301 : BitVec 32 := Scalar.extui v1300
  let c0_i32_684 : BitVec 32 := 0#32
  let v1302 : BitVec 1 := Scalar.cmpi .slt c8_i32_680 c0_i32_684
  let v1303 : BitVec 32 := Scalar.extui v1302
  let v1304 : BitVec 32 := Scalar.subi v1301 v1303
  let v1305 : BitVec 1 := Scalar.cmpi .ne v1299 v1304
  let v1306 : BitVec 32 := Scalar.remsi v1293 c8_i32_680
  let c0_i32_685 : BitVec 32 := 0#32
  let v1307 : BitVec 1 := Scalar.cmpi .ne v1306 c0_i32_685
  let v1308 : BitVec 1 := Scalar.andi v1305 v1307
  let v1294 : BitVec 32 := Scalar.divsi v1293 c8_i32_680
  let c1_i32_686 : BitVec 32 := 1#32
  let v1309 : BitVec 32 := Scalar.subi v1294 c1_i32_686
  let v1310 : BitVec 32 := Scalar.select v1308 v1309 v1294
  let c8_i32_709 : BitVec 32 := 8#32
  let v1348 : BitVec 32 := Scalar.muli v1310 c8_i32_709
  let v1349 : BitVec 32 := Scalar.addi c0_i32_710 v1348
  let c0_i32_688 : BitVec 32 := 0#32
  let v1312 : BitVec 1 := Scalar.cmpi .sgt v1293 c0_i32_688
  let v1313 : BitVec 32 := Scalar.extui v1312
  let c0_i32_689 : BitVec 32 := 0#32
  let v1314 : BitVec 1 := Scalar.cmpi .slt v1293 c0_i32_689
  let v1315 : BitVec 32 := Scalar.extui v1314
  let v1316 : BitVec 32 := Scalar.subi v1313 v1315
  let c4_i32_687 : BitVec 32 := 4#32
  let c0_i32_690 : BitVec 32 := 0#32
  let v1317 : BitVec 1 := Scalar.cmpi .sgt c4_i32_687 c0_i32_690
  let v1318 : BitVec 32 := Scalar.extui v1317
  let c0_i32_691 : BitVec 32 := 0#32
  let v1319 : BitVec 1 := Scalar.cmpi .slt c4_i32_687 c0_i32_691
  let v1320 : BitVec 32 := Scalar.extui v1319
  let v1321 : BitVec 32 := Scalar.subi v1318 v1320
  let v1322 : BitVec 1 := Scalar.cmpi .ne v1316 v1321
  let v1323 : BitVec 32 := Scalar.remsi v1293 c4_i32_687
  let c0_i32_692 : BitVec 32 := 0#32
  let v1324 : BitVec 1 := Scalar.cmpi .ne v1323 c0_i32_692
  let v1325 : BitVec 1 := Scalar.andi v1322 v1324
  let v1311 : BitVec 32 := Scalar.divsi v1293 c4_i32_687
  let c1_i32_693 : BitVec 32 := 1#32
  let v1326 : BitVec 32 := Scalar.subi v1311 c1_i32_693
  let v1327 : BitVec 32 := Scalar.select v1325 v1326 v1311
  let c2_i32_694 : BitVec 32 := 2#32
  let c0_i32_695 : BitVec 32 := 0#32
  let v1328 : BitVec 1 := Scalar.cmpi .eq c2_i32_694 c0_i32_695
  let c1_i32_696 : BitVec 32 := 1#32
  let v1329 : BitVec 32 := Scalar.select v1328 c1_i32_696 c2_i32_694
  let v1330 : BitVec 32 := Scalar.remsi v1327 v1329
  let c0_i32_698 : BitVec 32 := 0#32
  let v1332 : BitVec 1 := Scalar.cmpi .slt v1330 c0_i32_698
  let c0_i32_699 : BitVec 32 := 0#32
  let v1333 : BitVec 1 := Scalar.cmpi .slt v1329 c0_i32_699
  let v1334 : BitVec 1 := Scalar.xori v1332 v1333
  let c0_i32_697 : BitVec 32 := 0#32
  let v1331 : BitVec 1 := Scalar.cmpi .ne v1330 c0_i32_697
  let v1335 : BitVec 1 := Scalar.andi v1334 v1331
  let v1336 : BitVec 32 := Scalar.addi v1330 v1329
  let v1337 : BitVec 32 := Scalar.select v1335 v1336 v1330
  let c4_i32_711 : BitVec 32 := 4#32
  let v1350 : BitVec 32 := Scalar.muli v1337 c4_i32_711
  let v1351 : BitVec 32 := Scalar.addi v1349 v1350
  let c4_i32_700 : BitVec 32 := 4#32
  let c0_i32_701 : BitVec 32 := 0#32
  let v1338 : BitVec 1 := Scalar.cmpi .eq c4_i32_700 c0_i32_701
  let c1_i32_702 : BitVec 32 := 1#32
  let v1339 : BitVec 32 := Scalar.select v1338 c1_i32_702 c4_i32_700
  let v1340 : BitVec 32 := Scalar.remsi v1293 v1339
  let c0_i32_704 : BitVec 32 := 0#32
  let v1342 : BitVec 1 := Scalar.cmpi .slt v1340 c0_i32_704
  let c0_i32_705 : BitVec 32 := 0#32
  let v1343 : BitVec 1 := Scalar.cmpi .slt v1339 c0_i32_705
  let v1344 : BitVec 1 := Scalar.xori v1342 v1343
  let c0_i32_703 : BitVec 32 := 0#32
  let v1341 : BitVec 1 := Scalar.cmpi .ne v1340 c0_i32_703
  let v1345 : BitVec 1 := Scalar.andi v1344 v1341
  let v1346 : BitVec 32 := Scalar.addi v1340 v1339
  let v1347 : BitVec 32 := Scalar.select v1345 v1346 v1340
  let c1_i32_712 : BitVec 32 := 1#32
  let v1352 : BitVec 32 := Scalar.muli v1347 c1_i32_712
  let v1353 : BitVec 32 := Scalar.addi v1351 v1352
  v1353.toNat
def k0_dev21 (d0 : Dev nD) : Nat :=
  let c0_i32_747 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32_715 : BitVec 32 := 6#32
  let v1360 : BitVec 32 := Scalar.addi v12 c6_i32_715
  let c16_i32_716 : BitVec 32 := 16#32
  let v1361 : BitVec 32 := Scalar.remsi v1360 c16_i32_716
  let c0_i32_718 : BitVec 32 := 0#32
  let v1363 : BitVec 1 := Scalar.cmpi .sgt v1361 c0_i32_718
  let v1364 : BitVec 32 := Scalar.extui v1363
  let c0_i32_719 : BitVec 32 := 0#32
  let v1365 : BitVec 1 := Scalar.cmpi .slt v1361 c0_i32_719
  let v1366 : BitVec 32 := Scalar.extui v1365
  let v1367 : BitVec 32 := Scalar.subi v1364 v1366
  let c8_i32_717 : BitVec 32 := 8#32
  let c0_i32_720 : BitVec 32 := 0#32
  let v1368 : BitVec 1 := Scalar.cmpi .sgt c8_i32_717 c0_i32_720
  let v1369 : BitVec 32 := Scalar.extui v1368
  let c0_i32_721 : BitVec 32 := 0#32
  let v1370 : BitVec 1 := Scalar.cmpi .slt c8_i32_717 c0_i32_721
  let v1371 : BitVec 32 := Scalar.extui v1370
  let v1372 : BitVec 32 := Scalar.subi v1369 v1371
  let v1373 : BitVec 1 := Scalar.cmpi .ne v1367 v1372
  let v1374 : BitVec 32 := Scalar.remsi v1361 c8_i32_717
  let c0_i32_722 : BitVec 32 := 0#32
  let v1375 : BitVec 1 := Scalar.cmpi .ne v1374 c0_i32_722
  let v1376 : BitVec 1 := Scalar.andi v1373 v1375
  let v1362 : BitVec 32 := Scalar.divsi v1361 c8_i32_717
  let c1_i32_723 : BitVec 32 := 1#32
  let v1377 : BitVec 32 := Scalar.subi v1362 c1_i32_723
  let v1378 : BitVec 32 := Scalar.select v1376 v1377 v1362
  let c8_i32_746 : BitVec 32 := 8#32
  let v1416 : BitVec 32 := Scalar.muli v1378 c8_i32_746
  let v1417 : BitVec 32 := Scalar.addi c0_i32_747 v1416
  let c0_i32_725 : BitVec 32 := 0#32
  let v1380 : BitVec 1 := Scalar.cmpi .sgt v1361 c0_i32_725
  let v1381 : BitVec 32 := Scalar.extui v1380
  let c0_i32_726 : BitVec 32 := 0#32
  let v1382 : BitVec 1 := Scalar.cmpi .slt v1361 c0_i32_726
  let v1383 : BitVec 32 := Scalar.extui v1382
  let v1384 : BitVec 32 := Scalar.subi v1381 v1383
  let c4_i32_724 : BitVec 32 := 4#32
  let c0_i32_727 : BitVec 32 := 0#32
  let v1385 : BitVec 1 := Scalar.cmpi .sgt c4_i32_724 c0_i32_727
  let v1386 : BitVec 32 := Scalar.extui v1385
  let c0_i32_728 : BitVec 32 := 0#32
  let v1387 : BitVec 1 := Scalar.cmpi .slt c4_i32_724 c0_i32_728
  let v1388 : BitVec 32 := Scalar.extui v1387
  let v1389 : BitVec 32 := Scalar.subi v1386 v1388
  let v1390 : BitVec 1 := Scalar.cmpi .ne v1384 v1389
  let v1391 : BitVec 32 := Scalar.remsi v1361 c4_i32_724
  let c0_i32_729 : BitVec 32 := 0#32
  let v1392 : BitVec 1 := Scalar.cmpi .ne v1391 c0_i32_729
  let v1393 : BitVec 1 := Scalar.andi v1390 v1392
  let v1379 : BitVec 32 := Scalar.divsi v1361 c4_i32_724
  let c1_i32_730 : BitVec 32 := 1#32
  let v1394 : BitVec 32 := Scalar.subi v1379 c1_i32_730
  let v1395 : BitVec 32 := Scalar.select v1393 v1394 v1379
  let c2_i32_731 : BitVec 32 := 2#32
  let c0_i32_732 : BitVec 32 := 0#32
  let v1396 : BitVec 1 := Scalar.cmpi .eq c2_i32_731 c0_i32_732
  let c1_i32_733 : BitVec 32 := 1#32
  let v1397 : BitVec 32 := Scalar.select v1396 c1_i32_733 c2_i32_731
  let v1398 : BitVec 32 := Scalar.remsi v1395 v1397
  let c0_i32_735 : BitVec 32 := 0#32
  let v1400 : BitVec 1 := Scalar.cmpi .slt v1398 c0_i32_735
  let c0_i32_736 : BitVec 32 := 0#32
  let v1401 : BitVec 1 := Scalar.cmpi .slt v1397 c0_i32_736
  let v1402 : BitVec 1 := Scalar.xori v1400 v1401
  let c0_i32_734 : BitVec 32 := 0#32
  let v1399 : BitVec 1 := Scalar.cmpi .ne v1398 c0_i32_734
  let v1403 : BitVec 1 := Scalar.andi v1402 v1399
  let v1404 : BitVec 32 := Scalar.addi v1398 v1397
  let v1405 : BitVec 32 := Scalar.select v1403 v1404 v1398
  let c4_i32_748 : BitVec 32 := 4#32
  let v1418 : BitVec 32 := Scalar.muli v1405 c4_i32_748
  let v1419 : BitVec 32 := Scalar.addi v1417 v1418
  let c4_i32_737 : BitVec 32 := 4#32
  let c0_i32_738 : BitVec 32 := 0#32
  let v1406 : BitVec 1 := Scalar.cmpi .eq c4_i32_737 c0_i32_738
  let c1_i32_739 : BitVec 32 := 1#32
  let v1407 : BitVec 32 := Scalar.select v1406 c1_i32_739 c4_i32_737
  let v1408 : BitVec 32 := Scalar.remsi v1361 v1407
  let c0_i32_741 : BitVec 32 := 0#32
  let v1410 : BitVec 1 := Scalar.cmpi .slt v1408 c0_i32_741
  let c0_i32_742 : BitVec 32 := 0#32
  let v1411 : BitVec 1 := Scalar.cmpi .slt v1407 c0_i32_742
  let v1412 : BitVec 1 := Scalar.xori v1410 v1411
  let c0_i32_740 : BitVec 32 := 0#32
  let v1409 : BitVec 1 := Scalar.cmpi .ne v1408 c0_i32_740
  let v1413 : BitVec 1 := Scalar.andi v1412 v1409
  let v1414 : BitVec 32 := Scalar.addi v1408 v1407
  let v1415 : BitVec 32 := Scalar.select v1413 v1414 v1408
  let c1_i32_749 : BitVec 32 := 1#32
  let v1420 : BitVec 32 := Scalar.muli v1415 c1_i32_749
  let v1421 : BitVec 32 := Scalar.addi v1419 v1420
  v1421.toNat
def k0_dev22 (d0 : Dev nD) : Nat :=
  let c0_i32_784 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32_752 : BitVec 32 := 7#32
  let v1428 : BitVec 32 := Scalar.addi v12 c7_i32_752
  let c16_i32_753 : BitVec 32 := 16#32
  let v1429 : BitVec 32 := Scalar.remsi v1428 c16_i32_753
  let c0_i32_755 : BitVec 32 := 0#32
  let v1431 : BitVec 1 := Scalar.cmpi .sgt v1429 c0_i32_755
  let v1432 : BitVec 32 := Scalar.extui v1431
  let c0_i32_756 : BitVec 32 := 0#32
  let v1433 : BitVec 1 := Scalar.cmpi .slt v1429 c0_i32_756
  let v1434 : BitVec 32 := Scalar.extui v1433
  let v1435 : BitVec 32 := Scalar.subi v1432 v1434
  let c8_i32_754 : BitVec 32 := 8#32
  let c0_i32_757 : BitVec 32 := 0#32
  let v1436 : BitVec 1 := Scalar.cmpi .sgt c8_i32_754 c0_i32_757
  let v1437 : BitVec 32 := Scalar.extui v1436
  let c0_i32_758 : BitVec 32 := 0#32
  let v1438 : BitVec 1 := Scalar.cmpi .slt c8_i32_754 c0_i32_758
  let v1439 : BitVec 32 := Scalar.extui v1438
  let v1440 : BitVec 32 := Scalar.subi v1437 v1439
  let v1441 : BitVec 1 := Scalar.cmpi .ne v1435 v1440
  let v1442 : BitVec 32 := Scalar.remsi v1429 c8_i32_754
  let c0_i32_759 : BitVec 32 := 0#32
  let v1443 : BitVec 1 := Scalar.cmpi .ne v1442 c0_i32_759
  let v1444 : BitVec 1 := Scalar.andi v1441 v1443
  let v1430 : BitVec 32 := Scalar.divsi v1429 c8_i32_754
  let c1_i32_760 : BitVec 32 := 1#32
  let v1445 : BitVec 32 := Scalar.subi v1430 c1_i32_760
  let v1446 : BitVec 32 := Scalar.select v1444 v1445 v1430
  let c8_i32_783 : BitVec 32 := 8#32
  let v1484 : BitVec 32 := Scalar.muli v1446 c8_i32_783
  let v1485 : BitVec 32 := Scalar.addi c0_i32_784 v1484
  let c0_i32_762 : BitVec 32 := 0#32
  let v1448 : BitVec 1 := Scalar.cmpi .sgt v1429 c0_i32_762
  let v1449 : BitVec 32 := Scalar.extui v1448
  let c0_i32_763 : BitVec 32 := 0#32
  let v1450 : BitVec 1 := Scalar.cmpi .slt v1429 c0_i32_763
  let v1451 : BitVec 32 := Scalar.extui v1450
  let v1452 : BitVec 32 := Scalar.subi v1449 v1451
  let c4_i32_761 : BitVec 32 := 4#32
  let c0_i32_764 : BitVec 32 := 0#32
  let v1453 : BitVec 1 := Scalar.cmpi .sgt c4_i32_761 c0_i32_764
  let v1454 : BitVec 32 := Scalar.extui v1453
  let c0_i32_765 : BitVec 32 := 0#32
  let v1455 : BitVec 1 := Scalar.cmpi .slt c4_i32_761 c0_i32_765
  let v1456 : BitVec 32 := Scalar.extui v1455
  let v1457 : BitVec 32 := Scalar.subi v1454 v1456
  let v1458 : BitVec 1 := Scalar.cmpi .ne v1452 v1457
  let v1459 : BitVec 32 := Scalar.remsi v1429 c4_i32_761
  let c0_i32_766 : BitVec 32 := 0#32
  let v1460 : BitVec 1 := Scalar.cmpi .ne v1459 c0_i32_766
  let v1461 : BitVec 1 := Scalar.andi v1458 v1460
  let v1447 : BitVec 32 := Scalar.divsi v1429 c4_i32_761
  let c1_i32_767 : BitVec 32 := 1#32
  let v1462 : BitVec 32 := Scalar.subi v1447 c1_i32_767
  let v1463 : BitVec 32 := Scalar.select v1461 v1462 v1447
  let c2_i32_768 : BitVec 32 := 2#32
  let c0_i32_769 : BitVec 32 := 0#32
  let v1464 : BitVec 1 := Scalar.cmpi .eq c2_i32_768 c0_i32_769
  let c1_i32_770 : BitVec 32 := 1#32
  let v1465 : BitVec 32 := Scalar.select v1464 c1_i32_770 c2_i32_768
  let v1466 : BitVec 32 := Scalar.remsi v1463 v1465
  let c0_i32_772 : BitVec 32 := 0#32
  let v1468 : BitVec 1 := Scalar.cmpi .slt v1466 c0_i32_772
  let c0_i32_773 : BitVec 32 := 0#32
  let v1469 : BitVec 1 := Scalar.cmpi .slt v1465 c0_i32_773
  let v1470 : BitVec 1 := Scalar.xori v1468 v1469
  let c0_i32_771 : BitVec 32 := 0#32
  let v1467 : BitVec 1 := Scalar.cmpi .ne v1466 c0_i32_771
  let v1471 : BitVec 1 := Scalar.andi v1470 v1467
  let v1472 : BitVec 32 := Scalar.addi v1466 v1465
  let v1473 : BitVec 32 := Scalar.select v1471 v1472 v1466
  let c4_i32_785 : BitVec 32 := 4#32
  let v1486 : BitVec 32 := Scalar.muli v1473 c4_i32_785
  let v1487 : BitVec 32 := Scalar.addi v1485 v1486
  let c4_i32_774 : BitVec 32 := 4#32
  let c0_i32_775 : BitVec 32 := 0#32
  let v1474 : BitVec 1 := Scalar.cmpi .eq c4_i32_774 c0_i32_775
  let c1_i32_776 : BitVec 32 := 1#32
  let v1475 : BitVec 32 := Scalar.select v1474 c1_i32_776 c4_i32_774
  let v1476 : BitVec 32 := Scalar.remsi v1429 v1475
  let c0_i32_778 : BitVec 32 := 0#32
  let v1478 : BitVec 1 := Scalar.cmpi .slt v1476 c0_i32_778
  let c0_i32_779 : BitVec 32 := 0#32
  let v1479 : BitVec 1 := Scalar.cmpi .slt v1475 c0_i32_779
  let v1480 : BitVec 1 := Scalar.xori v1478 v1479
  let c0_i32_777 : BitVec 32 := 0#32
  let v1477 : BitVec 1 := Scalar.cmpi .ne v1476 c0_i32_777
  let v1481 : BitVec 1 := Scalar.andi v1480 v1477
  let v1482 : BitVec 32 := Scalar.addi v1476 v1475
  let v1483 : BitVec 32 := Scalar.select v1481 v1482 v1476
  let c1_i32_786 : BitVec 32 := 1#32
  let v1488 : BitVec 32 := Scalar.muli v1483 c1_i32_786
  let v1489 : BitVec 32 := Scalar.addi v1487 v1488
  v1489.toNat
def k0_dev23 (d0 : Dev nD) : Nat :=
  let c0_i32_821 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_789 : BitVec 32 := 8#32
  let v1496 : BitVec 32 := Scalar.addi v12 c8_i32_789
  let c16_i32_790 : BitVec 32 := 16#32
  let v1497 : BitVec 32 := Scalar.remsi v1496 c16_i32_790
  let c0_i32_792 : BitVec 32 := 0#32
  let v1499 : BitVec 1 := Scalar.cmpi .sgt v1497 c0_i32_792
  let v1500 : BitVec 32 := Scalar.extui v1499
  let c0_i32_793 : BitVec 32 := 0#32
  let v1501 : BitVec 1 := Scalar.cmpi .slt v1497 c0_i32_793
  let v1502 : BitVec 32 := Scalar.extui v1501
  let v1503 : BitVec 32 := Scalar.subi v1500 v1502
  let c8_i32_791 : BitVec 32 := 8#32
  let c0_i32_794 : BitVec 32 := 0#32
  let v1504 : BitVec 1 := Scalar.cmpi .sgt c8_i32_791 c0_i32_794
  let v1505 : BitVec 32 := Scalar.extui v1504
  let c0_i32_795 : BitVec 32 := 0#32
  let v1506 : BitVec 1 := Scalar.cmpi .slt c8_i32_791 c0_i32_795
  let v1507 : BitVec 32 := Scalar.extui v1506
  let v1508 : BitVec 32 := Scalar.subi v1505 v1507
  let v1509 : BitVec 1 := Scalar.cmpi .ne v1503 v1508
  let v1510 : BitVec 32 := Scalar.remsi v1497 c8_i32_791
  let c0_i32_796 : BitVec 32 := 0#32
  let v1511 : BitVec 1 := Scalar.cmpi .ne v1510 c0_i32_796
  let v1512 : BitVec 1 := Scalar.andi v1509 v1511
  let v1498 : BitVec 32 := Scalar.divsi v1497 c8_i32_791
  let c1_i32_797 : BitVec 32 := 1#32
  let v1513 : BitVec 32 := Scalar.subi v1498 c1_i32_797
  let v1514 : BitVec 32 := Scalar.select v1512 v1513 v1498
  let c8_i32_820 : BitVec 32 := 8#32
  let v1552 : BitVec 32 := Scalar.muli v1514 c8_i32_820
  let v1553 : BitVec 32 := Scalar.addi c0_i32_821 v1552
  let c0_i32_799 : BitVec 32 := 0#32
  let v1516 : BitVec 1 := Scalar.cmpi .sgt v1497 c0_i32_799
  let v1517 : BitVec 32 := Scalar.extui v1516
  let c0_i32_800 : BitVec 32 := 0#32
  let v1518 : BitVec 1 := Scalar.cmpi .slt v1497 c0_i32_800
  let v1519 : BitVec 32 := Scalar.extui v1518
  let v1520 : BitVec 32 := Scalar.subi v1517 v1519
  let c4_i32_798 : BitVec 32 := 4#32
  let c0_i32_801 : BitVec 32 := 0#32
  let v1521 : BitVec 1 := Scalar.cmpi .sgt c4_i32_798 c0_i32_801
  let v1522 : BitVec 32 := Scalar.extui v1521
  let c0_i32_802 : BitVec 32 := 0#32
  let v1523 : BitVec 1 := Scalar.cmpi .slt c4_i32_798 c0_i32_802
  let v1524 : BitVec 32 := Scalar.extui v1523
  let v1525 : BitVec 32 := Scalar.subi v1522 v1524
  let v1526 : BitVec 1 := Scalar.cmpi .ne v1520 v1525
  let v1527 : BitVec 32 := Scalar.remsi v1497 c4_i32_798
  let c0_i32_803 : BitVec 32 := 0#32
  let v1528 : BitVec 1 := Scalar.cmpi .ne v1527 c0_i32_803
  let v1529 : BitVec 1 := Scalar.andi v1526 v1528
  let v1515 : BitVec 32 := Scalar.divsi v1497 c4_i32_798
  let c1_i32_804 : BitVec 32 := 1#32
  let v1530 : BitVec 32 := Scalar.subi v1515 c1_i32_804
  let v1531 : BitVec 32 := Scalar.select v1529 v1530 v1515
  let c2_i32_805 : BitVec 32 := 2#32
  let c0_i32_806 : BitVec 32 := 0#32
  let v1532 : BitVec 1 := Scalar.cmpi .eq c2_i32_805 c0_i32_806
  let c1_i32_807 : BitVec 32 := 1#32
  let v1533 : BitVec 32 := Scalar.select v1532 c1_i32_807 c2_i32_805
  let v1534 : BitVec 32 := Scalar.remsi v1531 v1533
  let c0_i32_809 : BitVec 32 := 0#32
  let v1536 : BitVec 1 := Scalar.cmpi .slt v1534 c0_i32_809
  let c0_i32_810 : BitVec 32 := 0#32
  let v1537 : BitVec 1 := Scalar.cmpi .slt v1533 c0_i32_810
  let v1538 : BitVec 1 := Scalar.xori v1536 v1537
  let c0_i32_808 : BitVec 32 := 0#32
  let v1535 : BitVec 1 := Scalar.cmpi .ne v1534 c0_i32_808
  let v1539 : BitVec 1 := Scalar.andi v1538 v1535
  let v1540 : BitVec 32 := Scalar.addi v1534 v1533
  let v1541 : BitVec 32 := Scalar.select v1539 v1540 v1534
  let c4_i32_822 : BitVec 32 := 4#32
  let v1554 : BitVec 32 := Scalar.muli v1541 c4_i32_822
  let v1555 : BitVec 32 := Scalar.addi v1553 v1554
  let c4_i32_811 : BitVec 32 := 4#32
  let c0_i32_812 : BitVec 32 := 0#32
  let v1542 : BitVec 1 := Scalar.cmpi .eq c4_i32_811 c0_i32_812
  let c1_i32_813 : BitVec 32 := 1#32
  let v1543 : BitVec 32 := Scalar.select v1542 c1_i32_813 c4_i32_811
  let v1544 : BitVec 32 := Scalar.remsi v1497 v1543
  let c0_i32_815 : BitVec 32 := 0#32
  let v1546 : BitVec 1 := Scalar.cmpi .slt v1544 c0_i32_815
  let c0_i32_816 : BitVec 32 := 0#32
  let v1547 : BitVec 1 := Scalar.cmpi .slt v1543 c0_i32_816
  let v1548 : BitVec 1 := Scalar.xori v1546 v1547
  let c0_i32_814 : BitVec 32 := 0#32
  let v1545 : BitVec 1 := Scalar.cmpi .ne v1544 c0_i32_814
  let v1549 : BitVec 1 := Scalar.andi v1548 v1545
  let v1550 : BitVec 32 := Scalar.addi v1544 v1543
  let v1551 : BitVec 32 := Scalar.select v1549 v1550 v1544
  let c1_i32_823 : BitVec 32 := 1#32
  let v1556 : BitVec 32 := Scalar.muli v1551 c1_i32_823
  let v1557 : BitVec 32 := Scalar.addi v1555 v1556
  v1557.toNat
def k0_dev24 (d0 : Dev nD) : Nat :=
  let c0_i32_858 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32_826 : BitVec 32 := 9#32
  let v1564 : BitVec 32 := Scalar.addi v12 c9_i32_826
  let c16_i32_827 : BitVec 32 := 16#32
  let v1565 : BitVec 32 := Scalar.remsi v1564 c16_i32_827
  let c0_i32_829 : BitVec 32 := 0#32
  let v1567 : BitVec 1 := Scalar.cmpi .sgt v1565 c0_i32_829
  let v1568 : BitVec 32 := Scalar.extui v1567
  let c0_i32_830 : BitVec 32 := 0#32
  let v1569 : BitVec 1 := Scalar.cmpi .slt v1565 c0_i32_830
  let v1570 : BitVec 32 := Scalar.extui v1569
  let v1571 : BitVec 32 := Scalar.subi v1568 v1570
  let c8_i32_828 : BitVec 32 := 8#32
  let c0_i32_831 : BitVec 32 := 0#32
  let v1572 : BitVec 1 := Scalar.cmpi .sgt c8_i32_828 c0_i32_831
  let v1573 : BitVec 32 := Scalar.extui v1572
  let c0_i32_832 : BitVec 32 := 0#32
  let v1574 : BitVec 1 := Scalar.cmpi .slt c8_i32_828 c0_i32_832
  let v1575 : BitVec 32 := Scalar.extui v1574
  let v1576 : BitVec 32 := Scalar.subi v1573 v1575
  let v1577 : BitVec 1 := Scalar.cmpi .ne v1571 v1576
  let v1578 : BitVec 32 := Scalar.remsi v1565 c8_i32_828
  let c0_i32_833 : BitVec 32 := 0#32
  let v1579 : BitVec 1 := Scalar.cmpi .ne v1578 c0_i32_833
  let v1580 : BitVec 1 := Scalar.andi v1577 v1579
  let v1566 : BitVec 32 := Scalar.divsi v1565 c8_i32_828
  let c1_i32_834 : BitVec 32 := 1#32
  let v1581 : BitVec 32 := Scalar.subi v1566 c1_i32_834
  let v1582 : BitVec 32 := Scalar.select v1580 v1581 v1566
  let c8_i32_857 : BitVec 32 := 8#32
  let v1620 : BitVec 32 := Scalar.muli v1582 c8_i32_857
  let v1621 : BitVec 32 := Scalar.addi c0_i32_858 v1620
  let c0_i32_836 : BitVec 32 := 0#32
  let v1584 : BitVec 1 := Scalar.cmpi .sgt v1565 c0_i32_836
  let v1585 : BitVec 32 := Scalar.extui v1584
  let c0_i32_837 : BitVec 32 := 0#32
  let v1586 : BitVec 1 := Scalar.cmpi .slt v1565 c0_i32_837
  let v1587 : BitVec 32 := Scalar.extui v1586
  let v1588 : BitVec 32 := Scalar.subi v1585 v1587
  let c4_i32_835 : BitVec 32 := 4#32
  let c0_i32_838 : BitVec 32 := 0#32
  let v1589 : BitVec 1 := Scalar.cmpi .sgt c4_i32_835 c0_i32_838
  let v1590 : BitVec 32 := Scalar.extui v1589
  let c0_i32_839 : BitVec 32 := 0#32
  let v1591 : BitVec 1 := Scalar.cmpi .slt c4_i32_835 c0_i32_839
  let v1592 : BitVec 32 := Scalar.extui v1591
  let v1593 : BitVec 32 := Scalar.subi v1590 v1592
  let v1594 : BitVec 1 := Scalar.cmpi .ne v1588 v1593
  let v1595 : BitVec 32 := Scalar.remsi v1565 c4_i32_835
  let c0_i32_840 : BitVec 32 := 0#32
  let v1596 : BitVec 1 := Scalar.cmpi .ne v1595 c0_i32_840
  let v1597 : BitVec 1 := Scalar.andi v1594 v1596
  let v1583 : BitVec 32 := Scalar.divsi v1565 c4_i32_835
  let c1_i32_841 : BitVec 32 := 1#32
  let v1598 : BitVec 32 := Scalar.subi v1583 c1_i32_841
  let v1599 : BitVec 32 := Scalar.select v1597 v1598 v1583
  let c2_i32_842 : BitVec 32 := 2#32
  let c0_i32_843 : BitVec 32 := 0#32
  let v1600 : BitVec 1 := Scalar.cmpi .eq c2_i32_842 c0_i32_843
  let c1_i32_844 : BitVec 32 := 1#32
  let v1601 : BitVec 32 := Scalar.select v1600 c1_i32_844 c2_i32_842
  let v1602 : BitVec 32 := Scalar.remsi v1599 v1601
  let c0_i32_846 : BitVec 32 := 0#32
  let v1604 : BitVec 1 := Scalar.cmpi .slt v1602 c0_i32_846
  let c0_i32_847 : BitVec 32 := 0#32
  let v1605 : BitVec 1 := Scalar.cmpi .slt v1601 c0_i32_847
  let v1606 : BitVec 1 := Scalar.xori v1604 v1605
  let c0_i32_845 : BitVec 32 := 0#32
  let v1603 : BitVec 1 := Scalar.cmpi .ne v1602 c0_i32_845
  let v1607 : BitVec 1 := Scalar.andi v1606 v1603
  let v1608 : BitVec 32 := Scalar.addi v1602 v1601
  let v1609 : BitVec 32 := Scalar.select v1607 v1608 v1602
  let c4_i32_859 : BitVec 32 := 4#32
  let v1622 : BitVec 32 := Scalar.muli v1609 c4_i32_859
  let v1623 : BitVec 32 := Scalar.addi v1621 v1622
  let c4_i32_848 : BitVec 32 := 4#32
  let c0_i32_849 : BitVec 32 := 0#32
  let v1610 : BitVec 1 := Scalar.cmpi .eq c4_i32_848 c0_i32_849
  let c1_i32_850 : BitVec 32 := 1#32
  let v1611 : BitVec 32 := Scalar.select v1610 c1_i32_850 c4_i32_848
  let v1612 : BitVec 32 := Scalar.remsi v1565 v1611
  let c0_i32_852 : BitVec 32 := 0#32
  let v1614 : BitVec 1 := Scalar.cmpi .slt v1612 c0_i32_852
  let c0_i32_853 : BitVec 32 := 0#32
  let v1615 : BitVec 1 := Scalar.cmpi .slt v1611 c0_i32_853
  let v1616 : BitVec 1 := Scalar.xori v1614 v1615
  let c0_i32_851 : BitVec 32 := 0#32
  let v1613 : BitVec 1 := Scalar.cmpi .ne v1612 c0_i32_851
  let v1617 : BitVec 1 := Scalar.andi v1616 v1613
  let v1618 : BitVec 32 := Scalar.addi v1612 v1611
  let v1619 : BitVec 32 := Scalar.select v1617 v1618 v1612
  let c1_i32_860 : BitVec 32 := 1#32
  let v1624 : BitVec 32 := Scalar.muli v1619 c1_i32_860
  let v1625 : BitVec 32 := Scalar.addi v1623 v1624
  v1625.toNat
def k0_dev25 (d0 : Dev nD) : Nat :=
  let c0_i32_895 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32_863 : BitVec 32 := 10#32
  let v1632 : BitVec 32 := Scalar.addi v12 c10_i32_863
  let c16_i32_864 : BitVec 32 := 16#32
  let v1633 : BitVec 32 := Scalar.remsi v1632 c16_i32_864
  let c0_i32_866 : BitVec 32 := 0#32
  let v1635 : BitVec 1 := Scalar.cmpi .sgt v1633 c0_i32_866
  let v1636 : BitVec 32 := Scalar.extui v1635
  let c0_i32_867 : BitVec 32 := 0#32
  let v1637 : BitVec 1 := Scalar.cmpi .slt v1633 c0_i32_867
  let v1638 : BitVec 32 := Scalar.extui v1637
  let v1639 : BitVec 32 := Scalar.subi v1636 v1638
  let c8_i32_865 : BitVec 32 := 8#32
  let c0_i32_868 : BitVec 32 := 0#32
  let v1640 : BitVec 1 := Scalar.cmpi .sgt c8_i32_865 c0_i32_868
  let v1641 : BitVec 32 := Scalar.extui v1640
  let c0_i32_869 : BitVec 32 := 0#32
  let v1642 : BitVec 1 := Scalar.cmpi .slt c8_i32_865 c0_i32_869
  let v1643 : BitVec 32 := Scalar.extui v1642
  let v1644 : BitVec 32 := Scalar.subi v1641 v1643
  let v1645 : BitVec 1 := Scalar.cmpi .ne v1639 v1644
  let v1646 : BitVec 32 := Scalar.remsi v1633 c8_i32_865
  let c0_i32_870 : BitVec 32 := 0#32
  let v1647 : BitVec 1 := Scalar.cmpi .ne v1646 c0_i32_870
  let v1648 : BitVec 1 := Scalar.andi v1645 v1647
  let v1634 : BitVec 32 := Scalar.divsi v1633 c8_i32_865
  let c1_i32_871 : BitVec 32 := 1#32
  let v1649 : BitVec 32 := Scalar.subi v1634 c1_i32_871
  let v1650 : BitVec 32 := Scalar.select v1648 v1649 v1634
  let c8_i32_894 : BitVec 32 := 8#32
  let v1688 : BitVec 32 := Scalar.muli v1650 c8_i32_894
  let v1689 : BitVec 32 := Scalar.addi c0_i32_895 v1688
  let c0_i32_873 : BitVec 32 := 0#32
  let v1652 : BitVec 1 := Scalar.cmpi .sgt v1633 c0_i32_873
  let v1653 : BitVec 32 := Scalar.extui v1652
  let c0_i32_874 : BitVec 32 := 0#32
  let v1654 : BitVec 1 := Scalar.cmpi .slt v1633 c0_i32_874
  let v1655 : BitVec 32 := Scalar.extui v1654
  let v1656 : BitVec 32 := Scalar.subi v1653 v1655
  let c4_i32_872 : BitVec 32 := 4#32
  let c0_i32_875 : BitVec 32 := 0#32
  let v1657 : BitVec 1 := Scalar.cmpi .sgt c4_i32_872 c0_i32_875
  let v1658 : BitVec 32 := Scalar.extui v1657
  let c0_i32_876 : BitVec 32 := 0#32
  let v1659 : BitVec 1 := Scalar.cmpi .slt c4_i32_872 c0_i32_876
  let v1660 : BitVec 32 := Scalar.extui v1659
  let v1661 : BitVec 32 := Scalar.subi v1658 v1660
  let v1662 : BitVec 1 := Scalar.cmpi .ne v1656 v1661
  let v1663 : BitVec 32 := Scalar.remsi v1633 c4_i32_872
  let c0_i32_877 : BitVec 32 := 0#32
  let v1664 : BitVec 1 := Scalar.cmpi .ne v1663 c0_i32_877
  let v1665 : BitVec 1 := Scalar.andi v1662 v1664
  let v1651 : BitVec 32 := Scalar.divsi v1633 c4_i32_872
  let c1_i32_878 : BitVec 32 := 1#32
  let v1666 : BitVec 32 := Scalar.subi v1651 c1_i32_878
  let v1667 : BitVec 32 := Scalar.select v1665 v1666 v1651
  let c2_i32_879 : BitVec 32 := 2#32
  let c0_i32_880 : BitVec 32 := 0#32
  let v1668 : BitVec 1 := Scalar.cmpi .eq c2_i32_879 c0_i32_880
  let c1_i32_881 : BitVec 32 := 1#32
  let v1669 : BitVec 32 := Scalar.select v1668 c1_i32_881 c2_i32_879
  let v1670 : BitVec 32 := Scalar.remsi v1667 v1669
  let c0_i32_883 : BitVec 32 := 0#32
  let v1672 : BitVec 1 := Scalar.cmpi .slt v1670 c0_i32_883
  let c0_i32_884 : BitVec 32 := 0#32
  let v1673 : BitVec 1 := Scalar.cmpi .slt v1669 c0_i32_884
  let v1674 : BitVec 1 := Scalar.xori v1672 v1673
  let c0_i32_882 : BitVec 32 := 0#32
  let v1671 : BitVec 1 := Scalar.cmpi .ne v1670 c0_i32_882
  let v1675 : BitVec 1 := Scalar.andi v1674 v1671
  let v1676 : BitVec 32 := Scalar.addi v1670 v1669
  let v1677 : BitVec 32 := Scalar.select v1675 v1676 v1670
  let c4_i32_896 : BitVec 32 := 4#32
  let v1690 : BitVec 32 := Scalar.muli v1677 c4_i32_896
  let v1691 : BitVec 32 := Scalar.addi v1689 v1690
  let c4_i32_885 : BitVec 32 := 4#32
  let c0_i32_886 : BitVec 32 := 0#32
  let v1678 : BitVec 1 := Scalar.cmpi .eq c4_i32_885 c0_i32_886
  let c1_i32_887 : BitVec 32 := 1#32
  let v1679 : BitVec 32 := Scalar.select v1678 c1_i32_887 c4_i32_885
  let v1680 : BitVec 32 := Scalar.remsi v1633 v1679
  let c0_i32_889 : BitVec 32 := 0#32
  let v1682 : BitVec 1 := Scalar.cmpi .slt v1680 c0_i32_889
  let c0_i32_890 : BitVec 32 := 0#32
  let v1683 : BitVec 1 := Scalar.cmpi .slt v1679 c0_i32_890
  let v1684 : BitVec 1 := Scalar.xori v1682 v1683
  let c0_i32_888 : BitVec 32 := 0#32
  let v1681 : BitVec 1 := Scalar.cmpi .ne v1680 c0_i32_888
  let v1685 : BitVec 1 := Scalar.andi v1684 v1681
  let v1686 : BitVec 32 := Scalar.addi v1680 v1679
  let v1687 : BitVec 32 := Scalar.select v1685 v1686 v1680
  let c1_i32_897 : BitVec 32 := 1#32
  let v1692 : BitVec 32 := Scalar.muli v1687 c1_i32_897
  let v1693 : BitVec 32 := Scalar.addi v1691 v1692
  v1693.toNat
def k0_dev26 (d0 : Dev nD) : Nat :=
  let c0_i32_932 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32_900 : BitVec 32 := 11#32
  let v1700 : BitVec 32 := Scalar.addi v12 c11_i32_900
  let c16_i32_901 : BitVec 32 := 16#32
  let v1701 : BitVec 32 := Scalar.remsi v1700 c16_i32_901
  let c0_i32_903 : BitVec 32 := 0#32
  let v1703 : BitVec 1 := Scalar.cmpi .sgt v1701 c0_i32_903
  let v1704 : BitVec 32 := Scalar.extui v1703
  let c0_i32_904 : BitVec 32 := 0#32
  let v1705 : BitVec 1 := Scalar.cmpi .slt v1701 c0_i32_904
  let v1706 : BitVec 32 := Scalar.extui v1705
  let v1707 : BitVec 32 := Scalar.subi v1704 v1706
  let c8_i32_902 : BitVec 32 := 8#32
  let c0_i32_905 : BitVec 32 := 0#32
  let v1708 : BitVec 1 := Scalar.cmpi .sgt c8_i32_902 c0_i32_905
  let v1709 : BitVec 32 := Scalar.extui v1708
  let c0_i32_906 : BitVec 32 := 0#32
  let v1710 : BitVec 1 := Scalar.cmpi .slt c8_i32_902 c0_i32_906
  let v1711 : BitVec 32 := Scalar.extui v1710
  let v1712 : BitVec 32 := Scalar.subi v1709 v1711
  let v1713 : BitVec 1 := Scalar.cmpi .ne v1707 v1712
  let v1714 : BitVec 32 := Scalar.remsi v1701 c8_i32_902
  let c0_i32_907 : BitVec 32 := 0#32
  let v1715 : BitVec 1 := Scalar.cmpi .ne v1714 c0_i32_907
  let v1716 : BitVec 1 := Scalar.andi v1713 v1715
  let v1702 : BitVec 32 := Scalar.divsi v1701 c8_i32_902
  let c1_i32_908 : BitVec 32 := 1#32
  let v1717 : BitVec 32 := Scalar.subi v1702 c1_i32_908
  let v1718 : BitVec 32 := Scalar.select v1716 v1717 v1702
  let c8_i32_931 : BitVec 32 := 8#32
  let v1756 : BitVec 32 := Scalar.muli v1718 c8_i32_931
  let v1757 : BitVec 32 := Scalar.addi c0_i32_932 v1756
  let c0_i32_910 : BitVec 32 := 0#32
  let v1720 : BitVec 1 := Scalar.cmpi .sgt v1701 c0_i32_910
  let v1721 : BitVec 32 := Scalar.extui v1720
  let c0_i32_911 : BitVec 32 := 0#32
  let v1722 : BitVec 1 := Scalar.cmpi .slt v1701 c0_i32_911
  let v1723 : BitVec 32 := Scalar.extui v1722
  let v1724 : BitVec 32 := Scalar.subi v1721 v1723
  let c4_i32_909 : BitVec 32 := 4#32
  let c0_i32_912 : BitVec 32 := 0#32
  let v1725 : BitVec 1 := Scalar.cmpi .sgt c4_i32_909 c0_i32_912
  let v1726 : BitVec 32 := Scalar.extui v1725
  let c0_i32_913 : BitVec 32 := 0#32
  let v1727 : BitVec 1 := Scalar.cmpi .slt c4_i32_909 c0_i32_913
  let v1728 : BitVec 32 := Scalar.extui v1727
  let v1729 : BitVec 32 := Scalar.subi v1726 v1728
  let v1730 : BitVec 1 := Scalar.cmpi .ne v1724 v1729
  let v1731 : BitVec 32 := Scalar.remsi v1701 c4_i32_909
  let c0_i32_914 : BitVec 32 := 0#32
  let v1732 : BitVec 1 := Scalar.cmpi .ne v1731 c0_i32_914
  let v1733 : BitVec 1 := Scalar.andi v1730 v1732
  let v1719 : BitVec 32 := Scalar.divsi v1701 c4_i32_909
  let c1_i32_915 : BitVec 32 := 1#32
  let v1734 : BitVec 32 := Scalar.subi v1719 c1_i32_915
  let v1735 : BitVec 32 := Scalar.select v1733 v1734 v1719
  let c2_i32_916 : BitVec 32 := 2#32
  let c0_i32_917 : BitVec 32 := 0#32
  let v1736 : BitVec 1 := Scalar.cmpi .eq c2_i32_916 c0_i32_917
  let c1_i32_918 : BitVec 32 := 1#32
  let v1737 : BitVec 32 := Scalar.select v1736 c1_i32_918 c2_i32_916
  let v1738 : BitVec 32 := Scalar.remsi v1735 v1737
  let c0_i32_920 : BitVec 32 := 0#32
  let v1740 : BitVec 1 := Scalar.cmpi .slt v1738 c0_i32_920
  let c0_i32_921 : BitVec 32 := 0#32
  let v1741 : BitVec 1 := Scalar.cmpi .slt v1737 c0_i32_921
  let v1742 : BitVec 1 := Scalar.xori v1740 v1741
  let c0_i32_919 : BitVec 32 := 0#32
  let v1739 : BitVec 1 := Scalar.cmpi .ne v1738 c0_i32_919
  let v1743 : BitVec 1 := Scalar.andi v1742 v1739
  let v1744 : BitVec 32 := Scalar.addi v1738 v1737
  let v1745 : BitVec 32 := Scalar.select v1743 v1744 v1738
  let c4_i32_933 : BitVec 32 := 4#32
  let v1758 : BitVec 32 := Scalar.muli v1745 c4_i32_933
  let v1759 : BitVec 32 := Scalar.addi v1757 v1758
  let c4_i32_922 : BitVec 32 := 4#32
  let c0_i32_923 : BitVec 32 := 0#32
  let v1746 : BitVec 1 := Scalar.cmpi .eq c4_i32_922 c0_i32_923
  let c1_i32_924 : BitVec 32 := 1#32
  let v1747 : BitVec 32 := Scalar.select v1746 c1_i32_924 c4_i32_922
  let v1748 : BitVec 32 := Scalar.remsi v1701 v1747
  let c0_i32_926 : BitVec 32 := 0#32
  let v1750 : BitVec 1 := Scalar.cmpi .slt v1748 c0_i32_926
  let c0_i32_927 : BitVec 32 := 0#32
  let v1751 : BitVec 1 := Scalar.cmpi .slt v1747 c0_i32_927
  let v1752 : BitVec 1 := Scalar.xori v1750 v1751
  let c0_i32_925 : BitVec 32 := 0#32
  let v1749 : BitVec 1 := Scalar.cmpi .ne v1748 c0_i32_925
  let v1753 : BitVec 1 := Scalar.andi v1752 v1749
  let v1754 : BitVec 32 := Scalar.addi v1748 v1747
  let v1755 : BitVec 32 := Scalar.select v1753 v1754 v1748
  let c1_i32_934 : BitVec 32 := 1#32
  let v1760 : BitVec 32 := Scalar.muli v1755 c1_i32_934
  let v1761 : BitVec 32 := Scalar.addi v1759 v1760
  v1761.toNat
def k0_dev27 (d0 : Dev nD) : Nat :=
  let c0_i32_969 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32_937 : BitVec 32 := 12#32
  let v1768 : BitVec 32 := Scalar.addi v12 c12_i32_937
  let c16_i32_938 : BitVec 32 := 16#32
  let v1769 : BitVec 32 := Scalar.remsi v1768 c16_i32_938
  let c0_i32_940 : BitVec 32 := 0#32
  let v1771 : BitVec 1 := Scalar.cmpi .sgt v1769 c0_i32_940
  let v1772 : BitVec 32 := Scalar.extui v1771
  let c0_i32_941 : BitVec 32 := 0#32
  let v1773 : BitVec 1 := Scalar.cmpi .slt v1769 c0_i32_941
  let v1774 : BitVec 32 := Scalar.extui v1773
  let v1775 : BitVec 32 := Scalar.subi v1772 v1774
  let c8_i32_939 : BitVec 32 := 8#32
  let c0_i32_942 : BitVec 32 := 0#32
  let v1776 : BitVec 1 := Scalar.cmpi .sgt c8_i32_939 c0_i32_942
  let v1777 : BitVec 32 := Scalar.extui v1776
  let c0_i32_943 : BitVec 32 := 0#32
  let v1778 : BitVec 1 := Scalar.cmpi .slt c8_i32_939 c0_i32_943
  let v1779 : BitVec 32 := Scalar.extui v1778
  let v1780 : BitVec 32 := Scalar.subi v1777 v1779
  let v1781 : BitVec 1 := Scalar.cmpi .ne v1775 v1780
  let v1782 : BitVec 32 := Scalar.remsi v1769 c8_i32_939
  let c0_i32_944 : BitVec 32 := 0#32
  let v1783 : BitVec 1 := Scalar.cmpi .ne v1782 c0_i32_944
  let v1784 : BitVec 1 := Scalar.andi v1781 v1783
  let v1770 : BitVec 32 := Scalar.divsi v1769 c8_i32_939
  let c1_i32_945 : BitVec 32 := 1#32
  let v1785 : BitVec 32 := Scalar.subi v1770 c1_i32_945
  let v1786 : BitVec 32 := Scalar.select v1784 v1785 v1770
  let c8_i32_968 : BitVec 32 := 8#32
  let v1824 : BitVec 32 := Scalar.muli v1786 c8_i32_968
  let v1825 : BitVec 32 := Scalar.addi c0_i32_969 v1824
  let c0_i32_947 : BitVec 32 := 0#32
  let v1788 : BitVec 1 := Scalar.cmpi .sgt v1769 c0_i32_947
  let v1789 : BitVec 32 := Scalar.extui v1788
  let c0_i32_948 : BitVec 32 := 0#32
  let v1790 : BitVec 1 := Scalar.cmpi .slt v1769 c0_i32_948
  let v1791 : BitVec 32 := Scalar.extui v1790
  let v1792 : BitVec 32 := Scalar.subi v1789 v1791
  let c4_i32_946 : BitVec 32 := 4#32
  let c0_i32_949 : BitVec 32 := 0#32
  let v1793 : BitVec 1 := Scalar.cmpi .sgt c4_i32_946 c0_i32_949
  let v1794 : BitVec 32 := Scalar.extui v1793
  let c0_i32_950 : BitVec 32 := 0#32
  let v1795 : BitVec 1 := Scalar.cmpi .slt c4_i32_946 c0_i32_950
  let v1796 : BitVec 32 := Scalar.extui v1795
  let v1797 : BitVec 32 := Scalar.subi v1794 v1796
  let v1798 : BitVec 1 := Scalar.cmpi .ne v1792 v1797
  let v1799 : BitVec 32 := Scalar.remsi v1769 c4_i32_946
  let c0_i32_951 : BitVec 32 := 0#32
  let v1800 : BitVec 1 := Scalar.cmpi .ne v1799 c0_i32_951
  let v1801 : BitVec 1 := Scalar.andi v1798 v1800
  let v1787 : BitVec 32 := Scalar.divsi v1769 c4_i32_946
  let c1_i32_952 : BitVec 32 := 1#32
  let v1802 : BitVec 32 := Scalar.subi v1787 c1_i32_952
  let v1803 : BitVec 32 := Scalar.select v1801 v1802 v1787
  let c2_i32_953 : BitVec 32 := 2#32
  let c0_i32_954 : BitVec 32 := 0#32
  let v1804 : BitVec 1 := Scalar.cmpi .eq c2_i32_953 c0_i32_954
  let c1_i32_955 : BitVec 32 := 1#32
  let v1805 : BitVec 32 := Scalar.select v1804 c1_i32_955 c2_i32_953
  let v1806 : BitVec 32 := Scalar.remsi v1803 v1805
  let c0_i32_957 : BitVec 32 := 0#32
  let v1808 : BitVec 1 := Scalar.cmpi .slt v1806 c0_i32_957
  let c0_i32_958 : BitVec 32 := 0#32
  let v1809 : BitVec 1 := Scalar.cmpi .slt v1805 c0_i32_958
  let v1810 : BitVec 1 := Scalar.xori v1808 v1809
  let c0_i32_956 : BitVec 32 := 0#32
  let v1807 : BitVec 1 := Scalar.cmpi .ne v1806 c0_i32_956
  let v1811 : BitVec 1 := Scalar.andi v1810 v1807
  let v1812 : BitVec 32 := Scalar.addi v1806 v1805
  let v1813 : BitVec 32 := Scalar.select v1811 v1812 v1806
  let c4_i32_970 : BitVec 32 := 4#32
  let v1826 : BitVec 32 := Scalar.muli v1813 c4_i32_970
  let v1827 : BitVec 32 := Scalar.addi v1825 v1826
  let c4_i32_959 : BitVec 32 := 4#32
  let c0_i32_960 : BitVec 32 := 0#32
  let v1814 : BitVec 1 := Scalar.cmpi .eq c4_i32_959 c0_i32_960
  let c1_i32_961 : BitVec 32 := 1#32
  let v1815 : BitVec 32 := Scalar.select v1814 c1_i32_961 c4_i32_959
  let v1816 : BitVec 32 := Scalar.remsi v1769 v1815
  let c0_i32_963 : BitVec 32 := 0#32
  let v1818 : BitVec 1 := Scalar.cmpi .slt v1816 c0_i32_963
  let c0_i32_964 : BitVec 32 := 0#32
  let v1819 : BitVec 1 := Scalar.cmpi .slt v1815 c0_i32_964
  let v1820 : BitVec 1 := Scalar.xori v1818 v1819
  let c0_i32_962 : BitVec 32 := 0#32
  let v1817 : BitVec 1 := Scalar.cmpi .ne v1816 c0_i32_962
  let v1821 : BitVec 1 := Scalar.andi v1820 v1817
  let v1822 : BitVec 32 := Scalar.addi v1816 v1815
  let v1823 : BitVec 32 := Scalar.select v1821 v1822 v1816
  let c1_i32_971 : BitVec 32 := 1#32
  let v1828 : BitVec 32 := Scalar.muli v1823 c1_i32_971
  let v1829 : BitVec 32 := Scalar.addi v1827 v1828
  v1829.toNat
def k0_dev28 (d0 : Dev nD) : Nat :=
  let c0_i32_1006 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32_974 : BitVec 32 := 13#32
  let v1836 : BitVec 32 := Scalar.addi v12 c13_i32_974
  let c16_i32_975 : BitVec 32 := 16#32
  let v1837 : BitVec 32 := Scalar.remsi v1836 c16_i32_975
  let c0_i32_977 : BitVec 32 := 0#32
  let v1839 : BitVec 1 := Scalar.cmpi .sgt v1837 c0_i32_977
  let v1840 : BitVec 32 := Scalar.extui v1839
  let c0_i32_978 : BitVec 32 := 0#32
  let v1841 : BitVec 1 := Scalar.cmpi .slt v1837 c0_i32_978
  let v1842 : BitVec 32 := Scalar.extui v1841
  let v1843 : BitVec 32 := Scalar.subi v1840 v1842
  let c8_i32_976 : BitVec 32 := 8#32
  let c0_i32_979 : BitVec 32 := 0#32
  let v1844 : BitVec 1 := Scalar.cmpi .sgt c8_i32_976 c0_i32_979
  let v1845 : BitVec 32 := Scalar.extui v1844
  let c0_i32_980 : BitVec 32 := 0#32
  let v1846 : BitVec 1 := Scalar.cmpi .slt c8_i32_976 c0_i32_980
  let v1847 : BitVec 32 := Scalar.extui v1846
  let v1848 : BitVec 32 := Scalar.subi v1845 v1847
  let v1849 : BitVec 1 := Scalar.cmpi .ne v1843 v1848
  let v1850 : BitVec 32 := Scalar.remsi v1837 c8_i32_976
  let c0_i32_981 : BitVec 32 := 0#32
  let v1851 : BitVec 1 := Scalar.cmpi .ne v1850 c0_i32_981
  let v1852 : BitVec 1 := Scalar.andi v1849 v1851
  let v1838 : BitVec 32 := Scalar.divsi v1837 c8_i32_976
  let c1_i32_982 : BitVec 32 := 1#32
  let v1853 : BitVec 32 := Scalar.subi v1838 c1_i32_982
  let v1854 : BitVec 32 := Scalar.select v1852 v1853 v1838
  let c8_i32_1005 : BitVec 32 := 8#32
  let v1892 : BitVec 32 := Scalar.muli v1854 c8_i32_1005
  let v1893 : BitVec 32 := Scalar.addi c0_i32_1006 v1892
  let c0_i32_984 : BitVec 32 := 0#32
  let v1856 : BitVec 1 := Scalar.cmpi .sgt v1837 c0_i32_984
  let v1857 : BitVec 32 := Scalar.extui v1856
  let c0_i32_985 : BitVec 32 := 0#32
  let v1858 : BitVec 1 := Scalar.cmpi .slt v1837 c0_i32_985
  let v1859 : BitVec 32 := Scalar.extui v1858
  let v1860 : BitVec 32 := Scalar.subi v1857 v1859
  let c4_i32_983 : BitVec 32 := 4#32
  let c0_i32_986 : BitVec 32 := 0#32
  let v1861 : BitVec 1 := Scalar.cmpi .sgt c4_i32_983 c0_i32_986
  let v1862 : BitVec 32 := Scalar.extui v1861
  let c0_i32_987 : BitVec 32 := 0#32
  let v1863 : BitVec 1 := Scalar.cmpi .slt c4_i32_983 c0_i32_987
  let v1864 : BitVec 32 := Scalar.extui v1863
  let v1865 : BitVec 32 := Scalar.subi v1862 v1864
  let v1866 : BitVec 1 := Scalar.cmpi .ne v1860 v1865
  let v1867 : BitVec 32 := Scalar.remsi v1837 c4_i32_983
  let c0_i32_988 : BitVec 32 := 0#32
  let v1868 : BitVec 1 := Scalar.cmpi .ne v1867 c0_i32_988
  let v1869 : BitVec 1 := Scalar.andi v1866 v1868
  let v1855 : BitVec 32 := Scalar.divsi v1837 c4_i32_983
  let c1_i32_989 : BitVec 32 := 1#32
  let v1870 : BitVec 32 := Scalar.subi v1855 c1_i32_989
  let v1871 : BitVec 32 := Scalar.select v1869 v1870 v1855
  let c2_i32_990 : BitVec 32 := 2#32
  let c0_i32_991 : BitVec 32 := 0#32
  let v1872 : BitVec 1 := Scalar.cmpi .eq c2_i32_990 c0_i32_991
  let c1_i32_992 : BitVec 32 := 1#32
  let v1873 : BitVec 32 := Scalar.select v1872 c1_i32_992 c2_i32_990
  let v1874 : BitVec 32 := Scalar.remsi v1871 v1873
  let c0_i32_994 : BitVec 32 := 0#32
  let v1876 : BitVec 1 := Scalar.cmpi .slt v1874 c0_i32_994
  let c0_i32_995 : BitVec 32 := 0#32
  let v1877 : BitVec 1 := Scalar.cmpi .slt v1873 c0_i32_995
  let v1878 : BitVec 1 := Scalar.xori v1876 v1877
  let c0_i32_993 : BitVec 32 := 0#32
  let v1875 : BitVec 1 := Scalar.cmpi .ne v1874 c0_i32_993
  let v1879 : BitVec 1 := Scalar.andi v1878 v1875
  let v1880 : BitVec 32 := Scalar.addi v1874 v1873
  let v1881 : BitVec 32 := Scalar.select v1879 v1880 v1874
  let c4_i32_1007 : BitVec 32 := 4#32
  let v1894 : BitVec 32 := Scalar.muli v1881 c4_i32_1007
  let v1895 : BitVec 32 := Scalar.addi v1893 v1894
  let c4_i32_996 : BitVec 32 := 4#32
  let c0_i32_997 : BitVec 32 := 0#32
  let v1882 : BitVec 1 := Scalar.cmpi .eq c4_i32_996 c0_i32_997
  let c1_i32_998 : BitVec 32 := 1#32
  let v1883 : BitVec 32 := Scalar.select v1882 c1_i32_998 c4_i32_996
  let v1884 : BitVec 32 := Scalar.remsi v1837 v1883
  let c0_i32_1000 : BitVec 32 := 0#32
  let v1886 : BitVec 1 := Scalar.cmpi .slt v1884 c0_i32_1000
  let c0_i32_1001 : BitVec 32 := 0#32
  let v1887 : BitVec 1 := Scalar.cmpi .slt v1883 c0_i32_1001
  let v1888 : BitVec 1 := Scalar.xori v1886 v1887
  let c0_i32_999 : BitVec 32 := 0#32
  let v1885 : BitVec 1 := Scalar.cmpi .ne v1884 c0_i32_999
  let v1889 : BitVec 1 := Scalar.andi v1888 v1885
  let v1890 : BitVec 32 := Scalar.addi v1884 v1883
  let v1891 : BitVec 32 := Scalar.select v1889 v1890 v1884
  let c1_i32_1008 : BitVec 32 := 1#32
  let v1896 : BitVec 32 := Scalar.muli v1891 c1_i32_1008
  let v1897 : BitVec 32 := Scalar.addi v1895 v1896
  v1897.toNat
def k0_dev29 (d0 : Dev nD) : Nat :=
  let c0_i32_1043 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32_1011 : BitVec 32 := 14#32
  let v1904 : BitVec 32 := Scalar.addi v12 c14_i32_1011
  let c16_i32_1012 : BitVec 32 := 16#32
  let v1905 : BitVec 32 := Scalar.remsi v1904 c16_i32_1012
  let c0_i32_1014 : BitVec 32 := 0#32
  let v1907 : BitVec 1 := Scalar.cmpi .sgt v1905 c0_i32_1014
  let v1908 : BitVec 32 := Scalar.extui v1907
  let c0_i32_1015 : BitVec 32 := 0#32
  let v1909 : BitVec 1 := Scalar.cmpi .slt v1905 c0_i32_1015
  let v1910 : BitVec 32 := Scalar.extui v1909
  let v1911 : BitVec 32 := Scalar.subi v1908 v1910
  let c8_i32_1013 : BitVec 32 := 8#32
  let c0_i32_1016 : BitVec 32 := 0#32
  let v1912 : BitVec 1 := Scalar.cmpi .sgt c8_i32_1013 c0_i32_1016
  let v1913 : BitVec 32 := Scalar.extui v1912
  let c0_i32_1017 : BitVec 32 := 0#32
  let v1914 : BitVec 1 := Scalar.cmpi .slt c8_i32_1013 c0_i32_1017
  let v1915 : BitVec 32 := Scalar.extui v1914
  let v1916 : BitVec 32 := Scalar.subi v1913 v1915
  let v1917 : BitVec 1 := Scalar.cmpi .ne v1911 v1916
  let v1918 : BitVec 32 := Scalar.remsi v1905 c8_i32_1013
  let c0_i32_1018 : BitVec 32 := 0#32
  let v1919 : BitVec 1 := Scalar.cmpi .ne v1918 c0_i32_1018
  let v1920 : BitVec 1 := Scalar.andi v1917 v1919
  let v1906 : BitVec 32 := Scalar.divsi v1905 c8_i32_1013
  let c1_i32_1019 : BitVec 32 := 1#32
  let v1921 : BitVec 32 := Scalar.subi v1906 c1_i32_1019
  let v1922 : BitVec 32 := Scalar.select v1920 v1921 v1906
  let c8_i32_1042 : BitVec 32 := 8#32
  let v1960 : BitVec 32 := Scalar.muli v1922 c8_i32_1042
  let v1961 : BitVec 32 := Scalar.addi c0_i32_1043 v1960
  let c0_i32_1021 : BitVec 32 := 0#32
  let v1924 : BitVec 1 := Scalar.cmpi .sgt v1905 c0_i32_1021
  let v1925 : BitVec 32 := Scalar.extui v1924
  let c0_i32_1022 : BitVec 32 := 0#32
  let v1926 : BitVec 1 := Scalar.cmpi .slt v1905 c0_i32_1022
  let v1927 : BitVec 32 := Scalar.extui v1926
  let v1928 : BitVec 32 := Scalar.subi v1925 v1927
  let c4_i32_1020 : BitVec 32 := 4#32
  let c0_i32_1023 : BitVec 32 := 0#32
  let v1929 : BitVec 1 := Scalar.cmpi .sgt c4_i32_1020 c0_i32_1023
  let v1930 : BitVec 32 := Scalar.extui v1929
  let c0_i32_1024 : BitVec 32 := 0#32
  let v1931 : BitVec 1 := Scalar.cmpi .slt c4_i32_1020 c0_i32_1024
  let v1932 : BitVec 32 := Scalar.extui v1931
  let v1933 : BitVec 32 := Scalar.subi v1930 v1932
  let v1934 : BitVec 1 := Scalar.cmpi .ne v1928 v1933
  let v1935 : BitVec 32 := Scalar.remsi v1905 c4_i32_1020
  let c0_i32_1025 : BitVec 32 := 0#32
  let v1936 : BitVec 1 := Scalar.cmpi .ne v1935 c0_i32_1025
  let v1937 : BitVec 1 := Scalar.andi v1934 v1936
  let v1923 : BitVec 32 := Scalar.divsi v1905 c4_i32_1020
  let c1_i32_1026 : BitVec 32 := 1#32
  let v1938 : BitVec 32 := Scalar.subi v1923 c1_i32_1026
  let v1939 : BitVec 32 := Scalar.select v1937 v1938 v1923
  let c2_i32_1027 : BitVec 32 := 2#32
  let c0_i32_1028 : BitVec 32 := 0#32
  let v1940 : BitVec 1 := Scalar.cmpi .eq c2_i32_1027 c0_i32_1028
  let c1_i32_1029 : BitVec 32 := 1#32
  let v1941 : BitVec 32 := Scalar.select v1940 c1_i32_1029 c2_i32_1027
  let v1942 : BitVec 32 := Scalar.remsi v1939 v1941
  let c0_i32_1031 : BitVec 32 := 0#32
  let v1944 : BitVec 1 := Scalar.cmpi .slt v1942 c0_i32_1031
  let c0_i32_1032 : BitVec 32 := 0#32
  let v1945 : BitVec 1 := Scalar.cmpi .slt v1941 c0_i32_1032
  let v1946 : BitVec 1 := Scalar.xori v1944 v1945
  let c0_i32_1030 : BitVec 32 := 0#32
  let v1943 : BitVec 1 := Scalar.cmpi .ne v1942 c0_i32_1030
  let v1947 : BitVec 1 := Scalar.andi v1946 v1943
  let v1948 : BitVec 32 := Scalar.addi v1942 v1941
  let v1949 : BitVec 32 := Scalar.select v1947 v1948 v1942
  let c4_i32_1044 : BitVec 32 := 4#32
  let v1962 : BitVec 32 := Scalar.muli v1949 c4_i32_1044
  let v1963 : BitVec 32 := Scalar.addi v1961 v1962
  let c4_i32_1033 : BitVec 32 := 4#32
  let c0_i32_1034 : BitVec 32 := 0#32
  let v1950 : BitVec 1 := Scalar.cmpi .eq c4_i32_1033 c0_i32_1034
  let c1_i32_1035 : BitVec 32 := 1#32
  let v1951 : BitVec 32 := Scalar.select v1950 c1_i32_1035 c4_i32_1033
  let v1952 : BitVec 32 := Scalar.remsi v1905 v1951
  let c0_i32_1037 : BitVec 32 := 0#32
  let v1954 : BitVec 1 := Scalar.cmpi .slt v1952 c0_i32_1037
  let c0_i32_1038 : BitVec 32 := 0#32
  let v1955 : BitVec 1 := Scalar.cmpi .slt v1951 c0_i32_1038
  let v1956 : BitVec 1 := Scalar.xori v1954 v1955
  let c0_i32_1036 : BitVec 32 := 0#32
  let v1953 : BitVec 1 := Scalar.cmpi .ne v1952 c0_i32_1036
  let v1957 : BitVec 1 := Scalar.andi v1956 v1953
  let v1958 : BitVec 32 := Scalar.addi v1952 v1951
  let v1959 : BitVec 32 := Scalar.select v1957 v1958 v1952
  let c1_i32_1045 : BitVec 32 := 1#32
  let v1964 : BitVec 32 := Scalar.muli v1959 c1_i32_1045
  let v1965 : BitVec 32 := Scalar.addi v1963 v1964
  v1965.toNat
def k0_dev30 (d0 : Dev nD) : Nat :=
  let c0_i32_1080 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32_1048 : BitVec 32 := 15#32
  let v1972 : BitVec 32 := Scalar.addi v12 c15_i32_1048
  let c16_i32_1049 : BitVec 32 := 16#32
  let v1973 : BitVec 32 := Scalar.remsi v1972 c16_i32_1049
  let c0_i32_1051 : BitVec 32 := 0#32
  let v1975 : BitVec 1 := Scalar.cmpi .sgt v1973 c0_i32_1051
  let v1976 : BitVec 32 := Scalar.extui v1975
  let c0_i32_1052 : BitVec 32 := 0#32
  let v1977 : BitVec 1 := Scalar.cmpi .slt v1973 c0_i32_1052
  let v1978 : BitVec 32 := Scalar.extui v1977
  let v1979 : BitVec 32 := Scalar.subi v1976 v1978
  let c8_i32_1050 : BitVec 32 := 8#32
  let c0_i32_1053 : BitVec 32 := 0#32
  let v1980 : BitVec 1 := Scalar.cmpi .sgt c8_i32_1050 c0_i32_1053
  let v1981 : BitVec 32 := Scalar.extui v1980
  let c0_i32_1054 : BitVec 32 := 0#32
  let v1982 : BitVec 1 := Scalar.cmpi .slt c8_i32_1050 c0_i32_1054
  let v1983 : BitVec 32 := Scalar.extui v1982
  let v1984 : BitVec 32 := Scalar.subi v1981 v1983
  let v1985 : BitVec 1 := Scalar.cmpi .ne v1979 v1984
  let v1986 : BitVec 32 := Scalar.remsi v1973 c8_i32_1050
  let c0_i32_1055 : BitVec 32 := 0#32
  let v1987 : BitVec 1 := Scalar.cmpi .ne v1986 c0_i32_1055
  let v1988 : BitVec 1 := Scalar.andi v1985 v1987
  let v1974 : BitVec 32 := Scalar.divsi v1973 c8_i32_1050
  let c1_i32_1056 : BitVec 32 := 1#32
  let v1989 : BitVec 32 := Scalar.subi v1974 c1_i32_1056
  let v1990 : BitVec 32 := Scalar.select v1988 v1989 v1974
  let c8_i32_1079 : BitVec 32 := 8#32
  let v2028 : BitVec 32 := Scalar.muli v1990 c8_i32_1079
  let v2029 : BitVec 32 := Scalar.addi c0_i32_1080 v2028
  let c0_i32_1058 : BitVec 32 := 0#32
  let v1992 : BitVec 1 := Scalar.cmpi .sgt v1973 c0_i32_1058
  let v1993 : BitVec 32 := Scalar.extui v1992
  let c0_i32_1059 : BitVec 32 := 0#32
  let v1994 : BitVec 1 := Scalar.cmpi .slt v1973 c0_i32_1059
  let v1995 : BitVec 32 := Scalar.extui v1994
  let v1996 : BitVec 32 := Scalar.subi v1993 v1995
  let c4_i32_1057 : BitVec 32 := 4#32
  let c0_i32_1060 : BitVec 32 := 0#32
  let v1997 : BitVec 1 := Scalar.cmpi .sgt c4_i32_1057 c0_i32_1060
  let v1998 : BitVec 32 := Scalar.extui v1997
  let c0_i32_1061 : BitVec 32 := 0#32
  let v1999 : BitVec 1 := Scalar.cmpi .slt c4_i32_1057 c0_i32_1061
  let v2000 : BitVec 32 := Scalar.extui v1999
  let v2001 : BitVec 32 := Scalar.subi v1998 v2000
  let v2002 : BitVec 1 := Scalar.cmpi .ne v1996 v2001
  let v2003 : BitVec 32 := Scalar.remsi v1973 c4_i32_1057
  let c0_i32_1062 : BitVec 32 := 0#32
  let v2004 : BitVec 1 := Scalar.cmpi .ne v2003 c0_i32_1062
  let v2005 : BitVec 1 := Scalar.andi v2002 v2004
  let v1991 : BitVec 32 := Scalar.divsi v1973 c4_i32_1057
  let c1_i32_1063 : BitVec 32 := 1#32
  let v2006 : BitVec 32 := Scalar.subi v1991 c1_i32_1063
  let v2007 : BitVec 32 := Scalar.select v2005 v2006 v1991
  let c2_i32_1064 : BitVec 32 := 2#32
  let c0_i32_1065 : BitVec 32 := 0#32
  let v2008 : BitVec 1 := Scalar.cmpi .eq c2_i32_1064 c0_i32_1065
  let c1_i32_1066 : BitVec 32 := 1#32
  let v2009 : BitVec 32 := Scalar.select v2008 c1_i32_1066 c2_i32_1064
  let v2010 : BitVec 32 := Scalar.remsi v2007 v2009
  let c0_i32_1068 : BitVec 32 := 0#32
  let v2012 : BitVec 1 := Scalar.cmpi .slt v2010 c0_i32_1068
  let c0_i32_1069 : BitVec 32 := 0#32
  let v2013 : BitVec 1 := Scalar.cmpi .slt v2009 c0_i32_1069
  let v2014 : BitVec 1 := Scalar.xori v2012 v2013
  let c0_i32_1067 : BitVec 32 := 0#32
  let v2011 : BitVec 1 := Scalar.cmpi .ne v2010 c0_i32_1067
  let v2015 : BitVec 1 := Scalar.andi v2014 v2011
  let v2016 : BitVec 32 := Scalar.addi v2010 v2009
  let v2017 : BitVec 32 := Scalar.select v2015 v2016 v2010
  let c4_i32_1081 : BitVec 32 := 4#32
  let v2030 : BitVec 32 := Scalar.muli v2017 c4_i32_1081
  let v2031 : BitVec 32 := Scalar.addi v2029 v2030
  let c4_i32_1070 : BitVec 32 := 4#32
  let c0_i32_1071 : BitVec 32 := 0#32
  let v2018 : BitVec 1 := Scalar.cmpi .eq c4_i32_1070 c0_i32_1071
  let c1_i32_1072 : BitVec 32 := 1#32
  let v2019 : BitVec 32 := Scalar.select v2018 c1_i32_1072 c4_i32_1070
  let v2020 : BitVec 32 := Scalar.remsi v1973 v2019
  let c0_i32_1074 : BitVec 32 := 0#32
  let v2022 : BitVec 1 := Scalar.cmpi .slt v2020 c0_i32_1074
  let c0_i32_1075 : BitVec 32 := 0#32
  let v2023 : BitVec 1 := Scalar.cmpi .slt v2019 c0_i32_1075
  let v2024 : BitVec 1 := Scalar.xori v2022 v2023
  let c0_i32_1073 : BitVec 32 := 0#32
  let v2021 : BitVec 1 := Scalar.cmpi .ne v2020 c0_i32_1073
  let v2025 : BitVec 1 := Scalar.andi v2024 v2021
  let v2026 : BitVec 32 := Scalar.addi v2020 v2019
  let v2027 : BitVec 32 := Scalar.select v2025 v2026 v2020
  let c1_i32_1082 : BitVec 32 := 1#32
  let v2032 : BitVec 32 := Scalar.muli v2027 c1_i32_1082
  let v2033 : BitVec 32 := Scalar.addi v2031 v2032
  v2033.toNat
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x1 : Shape := ⟨2, ![512, 1]⟩
abbrev S512 : Shape := ⟨1, ![512]⟩
abbrev S512x16384 : Shape := ⟨2, ![512, 16384]⟩
abbrev S_ : Shape := ⟨0, ![]⟩
abbrev S512x2 : Shape := ⟨2, ![512, 2]⟩
abbrev S1x512 : Shape := ⟨2, ![1, 512]⟩

abbrev nBuf : Space → Nat
  | .hbm => 38
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x1, .i32⟩
  | .hbm, ⟨3, _⟩ => ⟨S512, .i32⟩
  | .hbm, ⟨4, _⟩ => ⟨S512x16384, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x16384, .f32⟩
  | .hbm, ⟨9, _⟩ => ⟨S512x16384, .f32⟩
  | .hbm, ⟨10, _⟩ => ⟨S512x16384, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512, .f32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S512x1, .i32⟩
  | .hbm, ⟨34, _⟩ => ⟨S512x2, .i32⟩
  | .hbm, ⟨35, _⟩ => ⟨S512, .f32⟩
  | .hbm, ⟨36, _⟩ => ⟨S512, .f32⟩
  | .hbm, ⟨37, _⟩ => ⟨S1x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.KernelIdeal.Program.lean ====
/-
  The kernel's body as one short program: what each device does in order, with the fifteen
  signals, the fifteen remote copies and the thirty waits each written as a walk over the list of
  peers. The printed body is this program by definition.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Own

open Cert.KernelIdeal Cert.KernelIdeal.Gen
open Idealize.ShloMosaic
open Idealize.ShloMosaic.TcCoe
open Idealize.SL.Sem

variable {F : FTy → Type} [FloatOps F]

/-! ## The peers -/

/-- The device `j + 1` places after `c` around the sixteen. -/
def peer (c : Dev nD) (j : Fin 15) : Dev nD := ⟨(c.val + j.val + 1) % 16, Nat.mod_lt _ (by decide)⟩
/-- The device `j + 1` places before `c`. -/
def back (c : Dev nD) (j : Fin 15) : Dev nD := ⟨(c.val + 15 - j.val) % 16, Nat.mod_lt _ (by decide)⟩

/-- The fifteen peers' numbers in program order. -/
abbrev peers : List (Fin 15) := [0, 1, 2, 3, 4, 5, 6, 7, 8, 9, 10, 11, 12, 13, 14]

/-- The device the `j`-th signal names, as the program computes it. -/
def sigDev (c : Dev nD) : Fin 15 → Dev nD := fun
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩ | 7 => ⟨k0_dev8 c, k0_dev8_lt c⟩ | 8 => ⟨k0_dev9 c, k0_dev9_lt c⟩
  | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩

/-- The device the `j`-th remote copy writes to, as the program computes it. -/
def copyDev (c : Dev nD) : Fin 15 → Dev nD := fun
  | 0 => ⟨k0_dev16 c, k0_dev16_lt c⟩ | 1 => ⟨k0_dev17 c, k0_dev17_lt c⟩ | 2 => ⟨k0_dev18 c, k0_dev18_lt c⟩
  | 3 => ⟨k0_dev19 c, k0_dev19_lt c⟩ | 4 => ⟨k0_dev20 c, k0_dev20_lt c⟩ | 5 => ⟨k0_dev21 c, k0_dev21_lt c⟩
  | 6 => ⟨k0_dev22 c, k0_dev22_lt c⟩ | 7 => ⟨k0_dev23 c, k0_dev23_lt c⟩ | 8 => ⟨k0_dev24 c, k0_dev24_lt c⟩
  | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | 14 => ⟨k0_dev30 c, k0_dev30_lt c⟩

/-- Signal `j` goes to the device `j + 1` places on. -/
theorem sigDev_eq (c : Dev nD) (j : Fin 15) : sigDev c j = peer c j := by revert c j; decide
/-- Remote copy `j` goes to the device `j + 1` places on. -/
theorem copyDev_eq (c : Dev nD) (j : Fin 15) : copyDev c j = peer c j := by revert c j; decide

/-! ## The buffers and the semaphores -/

/-- The activations in HBM. -/
abbrev xHbm : Memref sig .tc .hbm S512x1024 .f32 := Memref.whole main_arg0
/-- The weights in HBM. -/
abbrev wHbm : Memref sig .tc .hbm S1024x8192 .f32 := Memref.whole main_arg1
/-- The staged labels. -/
abbrev labM : Memref sig .tc .vmem S512x1 .i32 := Memref.whole cc0_stg0_0
/-- The staged result. -/
abbrev outM : Memref sig .tc .vmem S1x512 .f32 := Memref.whole cc0_stg1_0
/-- The activations in VMEM. -/
abbrev xM : Memref sig .tc .vmem S512x1024 .f32 := Memref.whole cc0_scratch0
/-- The weights in VMEM. -/
abbrev wM : Memref sig .tc .vmem S1024x1024 .f32 := Memref.whole cc0_scratch1
/-- The send buffer. -/
abbrev sendM : Memref sig .tc .vmem S2x512 .f32 := Memref.whole cc0_scratch2
/-- The receive buffer. -/
abbrev recvM : Memref sig .tc .vmem S15x2x512 .f32 := Memref.whole cc0_scratch3

/-- Half `r` of the vocabulary tile in HBM, at the device's own offset. -/
abbrev wSrc (c : Dev nD) (r : Fin 2) : Memref sig .tc .hbm S1024x512 .f32 :=
  wHbm.slice (Rect.unit (s := S1024x8192) (k0_off1 c (BitVec.ofNat 32 (512 * r.val))) S1024x512.size (k0_off1_inb c r)) (fun _ => rfl)

/-- A half tile lies inside the weights buffer. -/
theorem wDst_inb (r : Fin 2) : ∀ a, (![0, 512 * r.val] : Fin 2 → Nat) a + S1024x512.size a ≤ S1024x1024.size a := by revert r; decide
/-- Half `r` of the vocabulary tile in VMEM. -/
abbrev wDst (r : Fin 2) : Memref sig .tc .vmem S1024x512 .f32 :=
  wM.slice (Rect.unit (s := S1024x1024) ![0, 512 * r.val] S1024x512.size (wDst_inb r)) (fun _ => rfl)

/-- A slot lies inside the receive buffer. -/
theorem slot_inb (j : Fin 15) : ∀ a, (![j.val, 0, 0] : Fin 3 → Nat) a + S1x2x512.size a ≤ S15x2x512.size a := by revert j; decide
/-- Slot `j` of the receive buffer. -/
abbrev slotRect (j : Fin 15) : Rect S15x2x512 := Rect.unit (s := S15x2x512) ![j.val, 0, 0] S1x2x512.size (slot_inb j)
/-- Slot `j` as a memory reference of the packed sums' shape. -/
abbrev slotM (j : Fin 15) : Memref sig .tc .vmem S2x512 .f32 :=
  (recvM.slice (slotRect j) (fun _ => rfl)).squeeze S2x512 squeezes_S1x2x512_S2x512

/-- A half tile's semaphore is one of the two. -/
theorem sem2_inb (r : Fin 2) : ∀ a, (![r.val] : Fin 1 → Nat) a + S1.size a ≤ S2.size a := by revert r; decide
/-- A peer's semaphore is one of the fifteen. -/
theorem sem15_inb (j : Fin 15) : ∀ a, (![j.val] : Fin 1 → Nat) a + S1.size a ≤ S15.size a := by revert j; decide
/-- The barrier semaphore. -/
abbrev barS : Sem sig := (SemArray.scalar (sig.barrier 0 rfl) : Sems sig S_).sem
/-- The semaphore of the activations' copy. -/
abbrev xS : DmaSem sig := cc0_scratch4.sem
/-- The semaphore of a half tile's copy. -/
abbrev wS (r : Fin 2) : DmaSem sig :=
  ((cc0_scratch5.slice (Rect.unit (s := S2) ![r.val] S1.size (sem2_inb r))).squeeze S_ squeezes_S1_S_).sem
/-- The semaphore of a departure. -/
abbrev sendS (j : Fin 15) : DmaSem sig :=
  ((cc0_scratch6.slice (Rect.unit (s := S15) ![j.val] S1.size (sem15_inb j))).squeeze S_ squeezes_S1_S_).sem
/-- The semaphore of an arrival. -/
abbrev recvS (j : Fin 15) : DmaSem sig :=
  ((cc0_scratch7.slice (Rect.unit (s := S15) ![j.val] S1.size (sem15_inb j))).squeeze S_ squeezes_S1_S_).sem

/-! ## The program -/

/-- The effects of the kernel's body. -/
abbrev Eff (F : FTy → Type) [FloatOps F] := TpuEff nD τ sig (Elt F) Λ₀ .tc

/-- A walk over a list of peers, one effect each, then `k`. -/
def walk (e : Fin 15 → Eff F PUnit) : List (Fin 15) → Prog (Eff F) PUnit → Prog (Eff F) PUnit
  | [], k => k
  | j :: l, k => .op (e j) fun _ => walk e l k

/-- Signal `j` to the peer's barrier. -/
abbrev sigE (c : Dev nD) (j : Fin 15) : Eff F PUnit := .semSignal ((sigDev c j, .tc) : Thread nD τ) barS ((1#32 : BitVec 32).toInt)
/-- Remote copy `j` of the packed partial sums into the peer's slot `j`. -/
abbrev copyE (c : Dev nD) (j : Fin 15) : Eff F PUnit :=
  .enqueueDma sendM (.remote (Dev.tc (copyDev c j)) (slotM j) (.dma (sendS j))) (.dma (recvS j)) (Memref.isWhole_whole _).wordExact
    ((View.wordExact_bits rfl).reshape _ _) ⟨⟨rfl, Or.inl rfl⟩, trivial⟩
/-- Wait for copy `j` to have left. -/
abbrev sentE (j : Fin 15) : Eff F PUnit :=
  .waitDma2 (sendS j) (slotM j) sendM ((View.wordExact_bits rfl).reshape _ _) (Memref.isWhole_whole _).wordExact
/-- Wait for slot `j` to have been filled. -/
abbrev gotE (j : Fin 15) : Eff F PUnit :=
  .waitDma2 (recvS j) sendM (slotM j) (Memref.isWhole_whole _).wordExact ((View.wordExact_bits rfl).reshape _ _)

/-- The copy of `x` into VMEM. -/
abbrev xE : Eff F PUnit :=
  .enqueueDma xHbm (.here xM) (.dma xS) (Memref.isWhole_whole _).wordExact (Memref.isWhole_whole _).wordExact ⟨Or.inl rfl, trivial⟩
/-- The copy of half `r` of the vocabulary tile into VMEM. -/
abbrev wE (c : Dev nD) (r : Fin 2) : Eff F PUnit :=
  .enqueueDma (wSrc c r) (.here (wDst r)) (.dma (wS r)) (View.wordExact_bits rfl) (View.wordExact_bits rfl) ⟨Or.inl rfl, trivial⟩

/-- All of the activations buffer. -/
abbrev rX : Rect S512x1024 := Rect.unit (s := S512x1024) ![0, 0] S512x1024.size inb_S512x1024_S512x1024_0_0
/-- Half `r` of the weights buffer. -/
abbrev rW (r : Fin 2) : Rect S1024x1024 := Rect.unit (s := S1024x1024) ![0, 512 * r.val] S1024x512.size (wDst_inb r)
/-- All of the labels. -/
abbrev rL : Rect S512x1 := Rect.unit (s := S512x1) ![0, 0] S512x1.size inb_S512x1_S512x1_0_0
/-- All of the send buffer. -/
abbrev rS : Rect S2x512 := Rect.unit (s := S2x512) ![0, 0] S2x512.size inb_S2x512_S2x512_0_0
/-- All of the receive buffer. -/
abbrev rR : Rect S15x2x512 := Rect.unit (s := S15x2x512) ![0, 0, 0] S15x2x512.size inb_S15x2x512_S15x2x512_0_0_0
/-- All of the result. -/
abbrev rO : Rect S1x512 := Rect.unit (s := S1x512) ![0, 0] S1x512.size inb_S1x512_S1x512_0_0

/-- The device's place along "x", and its place among the eight that share that block. -/
def wx (c : Dev nD) : BitVec 32 := Scalar.remsi (Scalar.divsi (Dev.word c) 8#32) 2#32
/-- The device's place among the eight that share its block of the weights. -/
def wyz (c : Dev nD) : BitVec 32 :=
  Scalar.addi (Scalar.muli (Scalar.remsi (Scalar.divsi (Dev.word c) 4#32) 2#32) 4#32) (Scalar.remsi (Scalar.divsi (Dev.word c) 1#32) 4#32)

/-- The packed partial sums of device `c`, from the activations, the two halves of its vocabulary tile and the labels. -/
def packed (c : Dev nD) (x : Vec F S512x1024 .f32) (w0 w1 : Vec F S1024x512 .f32) (lab : Vec F S512x1 .i32) : Vec F S2x512 .f32 :=
  k0_pay7 (wx c) (wyz c) (iota .tc S512x512 32 [1] iota_S512x512_d1_w32)
    (k0_pay4 (k0_pay2 x) (Scalar.ofBits .f32 0x00000000#32) w0)
    (k0_pay5 (wx c) (wyz c) (k0_pay2 x) (iota .tc S512x512 32 [1] iota_S512x512_d1_w32) w0 lab)
    (k0_pay6 (k0_pay2 x) w1) lab

/-- After the exchange: the last waits, the reads and the result's store. -/
def tailP : Prog (Eff F) PUnit :=
  walk (fun j => gotE j) peers <|
  .op (.load sendM rS.toLoadRect (View.loadsAt_vmem h_S2x512)) fun own =>
  .op (.load recvM rR.toLoadRect (View.loadsAt_vmem h_S15x2x512)) fun all =>
  .op (.load outM rO.toLoadRect (View.loadsAt_vmem h_S1x512)) fun _ =>
  .op (.store outM rO (k0_pay1 own all) Finset.univ (View.stores_vmem_bits_univ h_S1x512 rfl) (.inl rfl)) fun _ =>
  .ret ⟨⟩

/-- The exchange: the barrier wait, the fifteen copies out, their departures, and `tailP`. -/
def exchangeP (c : Dev nD) : Prog (Eff F) PUnit :=
  .op (.semWait barS ((15#32 : BitVec 32).toInt)) fun _ =>
  walk (fun j => copyE c j) peers <| walk (fun j => sentE j) peers <| tailP

/-- The local computation between the signals and the barrier wait. -/
def middleP (c : Dev nD) : Prog (Eff F) PUnit :=
  .op (.waitDma2 xS xHbm xM (Memref.isWhole_whole _).wordExact (Memref.isWhole_whole _).wordExact) fun _ =>
  .op (.load xM rX.toLoadRect (View.loadsAt_vmem h_S512x1024)) fun x =>
  .op (.waitDma2 (wS 0) (wSrc c 0) (wDst 0) (View.wordExact_bits rfl) (View.wordExact_bits rfl)) fun _ =>
  .op (.load wM (rW 0).toLoadRect (View.loadsAt_vmem h_S1024x512)) fun w0 =>
  .op (.load labM rL.toLoadRect (View.loadsAt_vmem h_S512x1)) fun lab0 =>
  .op (.waitDma2 (wS 1) (wSrc c 1) (wDst 1) (View.wordExact_bits rfl) (View.wordExact_bits rfl)) fun _ =>
  .op (.load wM (rW 1).toLoadRect (View.loadsAt_vmem h_S1024x512)) fun w1 =>
  .op (.load labM rL.toLoadRect (View.loadsAt_vmem h_S512x1)) fun lab1 =>
  .op (.load sendM rS.toLoadRect (View.loadsAt_vmem h_S2x512)) fun _ =>
  .op (.store sendM rS
    (k0_pay7 (wx c) (wyz c) (iota .tc S512x512 32 [1] iota_S512x512_d1_w32)
      (k0_pay4 (k0_pay2 x) (Scalar.ofBits .f32 0x00000000#32) w0)
      (k0_pay5 (wx c) (wyz c) (k0_pay2 x) (iota .tc S512x512 32 [1] iota_S512x512_d1_w32) w0 lab0)
      (k0_pay6 (k0_pay2 x) w1) lab1) Finset.univ (View.stores_vmem_bits_univ h_S2x512 rfl) (.inl rfl)) fun _ =>
  exchangeP c

/-- The whole body on device `c`, its device number read. -/
def deviceP (c : Dev nD) : Prog (Eff F) PUnit :=
  .op xE fun _ => .op (wE c 0) fun _ => .op (wE c 1) fun _ =>
  walk (fun j => sigE c j) peers <| middleP c

set_option maxRecDepth 65536 in
/-- The printed body is `deviceP` of the device it reads. -/
theorem body_eq :
    cc0_body (F := F) (Memref.whole main_arg0) (Memref.isWhole_whole _) (Memref.whole main_arg1) (Memref.isWhole_whole _)
      (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7
    = .op .deviceId fun c => deviceP c := rfl

end Cert.KernelIdeal.Own

end
-- ==== Proof.KernelIdeal.Protocol.lean ====
/-
  The protocol: which semaphore pays for what. Every semaphore the kernel uses is a cell with one
  round of duties: the barrier has fifteen duties of one unit, one per peer, each handing over the
  peer's landing slot this device writes to; every DMA semaphore has one duty, of its transfer's
  credit, handing back the source's share or the landed contents.
-/
module

public import proofs.«01_k».proof.Proof.KernelIdeal.Program
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra -/

/-- The cells' part of the ghost state. -/
abbrev UB : Type := URounds (GSem nD τ sig) (Fin 15)
/-- The ghost state. -/
abbrev UU : Type := UR sig nD τ × UB

local notation "𝕄" => MT nD τ sig Unit (Elt F) ℕ UU ℕ

/-- Where the pipeline's part sits. -/
abbrev EP : Emb (UR sig nD τ) (MT nD τ sig Unit (Elt F) ℕ UU ℕ) := embL
/-- Where the cells' part sits. -/
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Peers go around -/

/-- Going on and back again. -/
theorem back_peer (c : Dev nD) (j : Fin 15) : back (peer c j) j = c := by revert c j; decide
/-- Going back and on again. -/
theorem peer_back (c : Dev nD) (j : Fin 15) : peer (back c j) j = c := by revert c j; decide
/-- Going back so many places is going on the other way round. -/
theorem back_rev (c : Dev nD) (j : Fin 15) : back c j.rev = peer c j := by revert c j; decide

/-- Stepping `j + 1` places on, as a permutation of the devices. -/
def around (j : Fin 15) : Dev nD ≃ Dev nD := ⟨fun c => peer c j, fun c => back c j, fun c => back_peer c j, fun c => peer_back c j⟩

/-! ## The cells -/

/-- The kernel's own semaphores: `x`'s and the two halves' copies; the departures and the arrivals. -/
abbrev OK : Type := Fin 3 ⊕ (Fin 15 ⊕ Fin 15)
/-- All the cells of a device: the barrier and its own. -/
abbrev CK : Type := Unit ⊕ OK

/-- The semaphores of the three local copies. -/
abbrev locS : Fin 3 → DmaSem sig := fun | 0 => xS | 1 => wS 0 | 2 => wS 1
/-- The semaphore of each own cell. -/
abbrev osem : OK → SemLoc sig := fun
  | .inl k => .dma (locS k) | .inr (.inl j) => .dma (sendS j) | .inr (.inr j) => .dma (recvS j)
/-- The semaphore of each cell. -/
abbrev csem : CK → SemLoc sig := fun | .inl _ => .reg barS | .inr k => osem k

/-- A device's barrier cell. -/
abbrev barCell (c : Dev nD) : GSem nD τ sig := ((c : Thread nD τ), .reg barS)
/-- A device's local copy cell. -/
abbrev locCell (c : Dev nD) (k : Fin 3) : GSem nD τ sig := ((c : Thread nD τ), .dma (locS k))
/-- A device's departure cell. -/
abbrev sendCell (c : Dev nD) (j : Fin 15) : GSem nD τ sig := ((c : Thread nD τ), .dma (sendS j))
/-- A device's arrival cell. -/
abbrev recvCell (c : Dev nD) (j : Fin 15) : GSem nD τ sig := ((c : Thread nD τ), .dma (recvS j))
/-- A device's cell of any kind. -/
abbrev kcell (ck : Dev nD × CK) : GSem nD τ sig := ((ck.1 : Thread nD τ), csem ck.2)

/-- Own cells have different semaphores. -/
theorem osem_injective : Function.Injective osem := by decide
/-- No own cell is at the barrier semaphore. -/
theorem osem_ne_bar (k : OK) : osem k ≠ .reg barS := by rcases k with k | j | j <;> exact fun h => by cases h
/-- Cells of a device have different semaphores. -/
theorem csem_injective : Function.Injective csem := by
  rintro (⟨⟩ | k) (⟨⟩ | k') h
  · rfl
  · exact absurd h.symm (osem_ne_bar k')
  · exact absurd h (osem_ne_bar k)
  · exact congrArg _ (osem_injective h)
/-- Different cells are at different semaphores. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which cell of its device a semaphore is, if any. -/
def kind (sm : SemLoc sig) : Option CK := Function.partialInv csem sm
/-- The kind of a cell's semaphore is the cell's. -/
theorem kind_csem (k : CK) : kind (csem k) = some k := Function.partialInv_left csem_injective k

/-! ## Contents -/

/-- The activations device `c` holds. -/
def xv (c : Dev nD) : Vec F S512x1024 .f32 := m ((c : Thread nD τ).loc main_arg0)
/-- Half `r` of device `c`'s vocabulary tile. -/
def wv (c : Dev nD) (r : Fin 2) : Vec F S1024x512 .f32 := (wSrc c r).view.read (Elt F) (m ((c : Thread nD τ).loc main_arg1))
/-- The labels device `c` holds, as staged. -/
def labv (c : Dev nD) : (cc0_stg0_0 : Ref sig .tc).ty.Contents (Elt F) :=
  (win0_0.blk (0 : Fin 1)).view.read (Elt F) (m ((c : Thread nD τ).loc main_arg2))
/-- Device `c`'s packed partial sums. -/
def pv (c : Dev nD) : Vec F S2x512 .f32 := packed c (xv m c) (wv m c 0) (wv m c 1) (labv m c)
/-- The receive buffer once every peer's packed sums have landed. -/
def landed (c : Dev nD) : Vec F S15x2x512 .f32 := fun i => pv m (back c (i 0)) (ix2 (i 1) (i 2))

/-! ## Credits -/

/-- The credit of one transfer of packed sums. -/
abbrev N : ℕ := sendM.view.dmaCredit
/-- A remote copy's credit is positive. -/
theorem N_pos : 0 < N := View.dmaCredit_pos _ (by decide)
/-- A slot's credit is the send buffer's. -/
theorem N_slot (j : Fin 15) : (slotM j).view.dmaCredit = N := rfl
/-- The credits of the local copies. -/
abbrev locN : Fin 3 → ℕ := fun | 0 => xM.view.dmaCredit | 1 => (wDst 0).view.dmaCredit | 2 => (wDst 1).view.dmaCredit
/-- A local copy's credit is positive. -/
theorem locN_pos (k : Fin 3) : 0 < locN k := by
  fin_cases k <;> exact View.dmaCredit_pos _ (by decide)

/-! ## Payloads -/

/-- Slot `j` of device `c`'s receive buffer, holding anything. -/
def slotPts (c : Dev nD) (j : Fin 15) : sProp 𝕄 :=
  iprop(∃ f : Buf (Elt F) ((slotM j).view.loc (c : Thread nD τ)), (slotM j).view.loc (c : Thread nD τ) ↦[(slotM j).view.set]{fullShare} f)
/-- What the `i`-th signal a device receives hands over: the landing slot at the device it came from. -/
def barPay (c : Dev nD) (i : Fin 15) : sProp 𝕄 := slotPts (F := F) (back c i) i.rev
/-- A share of the packed sums in the send buffer. -/
def sendPts (c : Dev nD) (q : PosShare TreeShare) : sProp 𝕄 :=
  sendM.view.loc (c : Thread nD τ) ↦[sendM.view.set]{q} (pv m c : Buf (Elt F) (sendM.view.loc (c : Thread nD τ)))
/-- Slot `j` filled by the device `j + 1` places before. -/
def recvPay (c : Dev nD) (j : Fin 15) : sProp 𝕄 := owns (c : Thread nD τ) (slotM j) fullShare (pv m (back c j))
/-- The activations in VMEM, and their source back. -/
def xPay (c : Dev nD) : sProp 𝕄 :=
  iprop((xM.view.loc (c : Thread nD τ) ↦[xM.view.set]{fullShare} (xv m c : Buf (Elt F) (xM.view.loc (c : Thread nD τ))))
    ∗ (xHbm.view.loc (c : Thread nD τ) ↦[xHbm.view.set]{fullShare} m (xHbm.view.loc (c : Thread nD τ))))
/-- The share of the weights copy `r` reads through. -/
abbrev wq (r : Fin 2) : PosShare TreeShare := Transfers.shareTok fullShare 2 r
/-- Half `r` of the tile in VMEM, and its source's share back. -/
def wPay (c : Dev nD) (r : Fin 2) : sProp 𝕄 :=
  iprop(owns (c : Thread nD τ) (wDst r) fullShare (wv m c r)
    ∗ ((wSrc c r).view.loc (c : Thread nD τ) ↦[(wSrc c r).view.set]{wq r} m ((wSrc c r).view.loc (c : Thread nD τ))))
/-- What a local copy hands back. -/
def locPay (c : Dev nD) : Fin 3 → sProp 𝕄 := fun | 0 => xPay m c | 1 => wPay m c 0 | 2 => wPay m c 1

/-- The share copy `j` reads the send buffer through. -/
abbrev sq (j : Fin 15) : PosShare TreeShare := Transfers.shareTok fullShare 15 j

/-- What a duty of a cell hands over. -/
def cellPay (c : Dev nD) (d : Fin 15) : CK → sProp 𝕄 := fun
  | .inl _ => barPay c d | .inr (.inl k) => locPay m c k
  | .inr (.inr (.inl j)) => sendPts m c (sq j) | .inr (.inr (.inr j)) => recvPay m c j
/-- What a duty of a cell pays. -/
def cellAmt : CK → ℕ := fun | .inl _ => 1 | .inr (.inl k) => locN k | .inr (.inr _) => N
/-- The duties of a cell. -/
def cellDuties : CK → Finset (Fin 15) := fun | .inl _ => Finset.univ | .inr _ => {0}

/-- Every duty pays something. -/
theorem cellAmt_pos (k : CK) : 0 < cellAmt k := by
  rcases k with _ | k | j
  · exact Nat.one_pos
  · exact locN_pos k
  · exact N_pos

/-- A slot may be handed over. -/
instance slotPts_storable (c : Dev nD) (j : Fin 15) : BI.Storable (upEmb : UEmb _ 𝕄) (slotPts (F := F) c j) := by unfold slotPts; infer_instance
/-- A share of the send buffer may be handed over. -/
instance sendPts_storable (c : Dev nD) (q) : BI.Storable (upEmb : UEmb _ 𝕄) (sendPts (F := F) m c q) := by unfold sendPts; infer_instance
/-- A filled slot may be handed over. -/
instance recvPay_storable (c : Dev nD) (j : Fin 15) : BI.Storable (upEmb : UEmb _ 𝕄) (recvPay (F := F) m c j) := by unfold recvPay; infer_instance
/-- The copied activations may be handed over. -/
instance xPay_storable (c : Dev nD) : BI.Storable (upEmb : UEmb _ 𝕄) (xPay (F := F) m c) := by unfold xPay; infer_instance
/-- A copied half tile may be handed over. -/
instance wPay_storable (c : Dev nD) (r : Fin 2) : BI.Storable (upEmb : UEmb _ 𝕄) (wPay (F := F) m c r) := by unfold wPay; infer_instance
/-- A local copy's result may be handed over. -/
instance locPay_storable (c : Dev nD) (k : Fin 3) : BI.Storable (upEmb : UEmb _ 𝕄) (locPay (F := F) m c k) := by
  fin_cases k
  · show BI.Storable _ (xPay m c); infer_instance
  · show BI.Storable _ (wPay m c 0); infer_instance
  · show BI.Storable _ (wPay m c 1); infer_instance
/-- A cell's payload may be handed over. -/
instance cellPay_storable (c : Dev nD) (d : Fin 15) (k : CK) : BI.Storable (upEmb : UEmb _ 𝕄) (cellPay (F := F) m c d k) := by
  rcases k with _ | k | j | j
  · show BI.Storable _ (barPay c d); unfold barPay; infer_instance
  · show BI.Storable _ (locPay m c k); infer_instance
  · show BI.Storable _ (sendPts m c (sq j)); infer_instance
  · show BI.Storable _ (recvPay m c j); infer_instance

/-! ## The schedule -/

/-- The one round of every cell. -/
def sched : Rounds.Schedule (GSem nD τ sig) (Fin 15) 𝕄 where
  duties g r := if r = 0 ∧ g.1.2 = .tc then (kind g.2).elim ∅ cellDuties else ∅
  unitless _ := False
  amount g _ _ := (kind g.2).elim 1 cellAmt
  payload g _ d := (kind g.2).elim iprop(emp) (cellPay m g.1.1 d)
  amount_pos g _ _ _ := by
    rcases kind g.2 with _ | k
    · exact Nat.one_pos
    · exact cellAmt_pos k

/-- Every payload of the schedule may be handed over. -/
instance sched_storable (g : GSem nD τ sig) (r : ℕ) (d : Fin 15) :
    BI.Storable (upEmb : UEmb _ 𝕄) ((sched (F := F) m).payload g r d) := by
  show BI.Storable upEmb ((kind g.2).elim iprop(emp) (cellPay m g.1.1 d))
  rcases kind g.2 with _ | k
  · show BI.Storable upEmb iprop(emp); infer_instance
  · show BI.Storable upEmb (cellPay m g.1.1 d k); infer_instance

section Sched
variable (c : Dev nD) (k : CK)

/-- A cell's duties in the one round. -/
theorem duties_at : (sched (F := F) m).duties (kcell (c, k)) 0 = cellDuties k := by
  dsimp only [sched]; rw [if_pos ⟨rfl, rfl⟩, kind_csem]; rfl
/-- No duties after the one round. -/
theorem duties_later (g : GSem nD τ sig) : ∀ r, 1 ≤ r → (sched (F := F) m).duties g r = ∅ :=
  fun r hr => by dsimp only [sched]; rw [if_neg fun h => by omega]
/-- A cell's amount in the one round. -/
theorem amount_at (d : Fin 15) : (sched (F := F) m).amount (kcell (c, k)) 0 d = cellAmt k := by
  dsimp only [sched]; rw [kind_csem]; rfl
/-- A cell's payload in the one round. -/
theorem payload_at (d : Fin 15) : (sched (F := F) m).payload (kcell (c, k)) 0 d = cellPay m c d k := by
  dsimp only [sched]; rw [kind_csem]; rfl
/-- A barrier expects fifteen units. -/
theorem expect_bar : (sched (F := F) m).expect (barCell c) 0 = 15 := by
  unfold Schedule.expect Schedule.amountOf
  rw [duties_at m c (.inl ()), Finset.sum_congr rfl fun d _ => amount_at m c (.inl ()) d]; rfl
/-- An own cell expects its one transfer's credit. -/
theorem expect_own (k : OK) : (sched (F := F) m).expect (kcell (c, .inr k)) 0 = cellAmt (.inr k) := by
  unfold Schedule.expect Schedule.amountOf
  rw [duties_at m c (.inr k)]
  show ∑ d ∈ ({0} : Finset (Fin 15)), _ = _
  rw [Finset.sum_singleton, amount_at]
/-- The whole of the barrier's round: every peer's landing slot for this device. -/
theorem rest_bar : bigSep ((sched (F := F) m).duties (barCell c) 0 \ ∅) (fun d => (sched (F := F) m).payload (barCell c) 0 d)
    = bigSep Finset.univ fun d => barPay (F := F) c d := by
  rw [Finset.sdiff_empty, duties_at m c (.inl ())]
  exact bigSep_congr fun d _ => payload_at m c (.inl ()) d
/-- The whole of another cell's round: its one payload. -/
theorem rest_own (k : OK) : bigSep ((sched (F := F) m).duties (kcell (c, .inr k)) 0 \ ∅) (fun d => (sched (F := F) m).payload (kcell (c, .inr k)) 0 d)
    = cellPay m c 0 (.inr k) := by
  rw [Finset.sdiff_empty, duties_at m c (.inr k)]
  show bigSep {0} _ = _
  rw [bigSep_singleton, payload_at]

end Sched

/-! ## What a device owes, and the levels -/

/-- The arrivals device `c` owes its peers in `l`. -/
def owedRecv (c : Dev nD) (l : List (Fin 15)) : CellTallies nD τ sig Unit := (l.map fun j => tallyAt (recvCell (peer c j) j) () N).sum
/-- The signals device `c` owes its peers in `l`. -/
def owedBar (c : Dev nD) (l : List (Fin 15)) : CellTallies nD τ sig Unit := (l.map fun i => tallyAt (barCell (peer c i)) () 1).sum
/-- What device `c` owes at launch. -/
def O₀ (c : Dev nD) : CellTallies nD τ sig Unit := owedRecv c peers + owedBar c peers

/-- The copies owed, one peer more. -/
theorem owedRecv_cons (c : Dev nD) (j : Fin 15) (l) : owedRecv c (j :: l) = owedRecv c l + tallyAt (recvCell (peer c j) j) () N := by
  unfold owedRecv; rw [List.map_cons, List.sum_cons, add_comm]
/-- The signals owed, one peer more. -/
theorem owedBar_cons (c : Dev nD) (j : Fin 15) (l) : owedBar c (j :: l) = owedBar c l + tallyAt (barCell (peer c j)) () 1 := by
  unfold owedBar; rw [List.map_cons, List.sum_cons, add_comm]

/-- The obligations' names at a semaphore. -/
def L (g : GSem nD τ sig) : Finset Unit := if g.1.2 = .tc then {()} else ∅
/-- The order of waiting: local copies and departures, then the barrier, then the arrivals. -/
def lv (g : GSem nD τ sig) (_ : Unit) : ℕ := if g.2 = .reg barS then 1 else if ∃ j, g.2 = .dma (recvS j) then 2 else 0

/-- Only the TensorCore's semaphores have obligations. -/
theorem L_of_ne (g : GSem nD τ sig) (h : g.1.2 ≠ .tc) : L g = ∅ := if_neg h
/-- Its semaphores have one name each. -/
theorem L_tc (c : Dev nD) (sm : SemLoc sig) : L ((c : Thread nD τ), sm) = {()} := if_pos rfl
/-- A barrier is at level one. -/
theorem lv_bar (c : Dev nD) : lv (barCell c) () = 1 := if_pos rfl
/-- An arrival is at level two. -/
theorem lv_recv (c : Dev nD) (j : Fin 15) : lv (recvCell c j) () = 2 := by
  unfold lv; rw [if_neg (fun h => by cases h), if_pos ⟨j, rfl⟩]
/-- Any other transfer is at level zero. -/
theorem lv_zero (c : Dev nD) (q : DmaSem sig) (h : ∀ j, q ≠ recvS j) : lv ((c : Thread nD τ), .dma q) () = 0 := by
  unfold lv; rw [if_neg (fun h => by cases h), if_neg]
  rintro ⟨j, e⟩; exact h j (by cases e; rfl)

/-- A tally counts only at its own cell. -/
theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h
/-- What remote copies owe is at arrivals. -/
theorem owedRecv_pos {c : Dev nD} {l : List (Fin 15)} {g : GSem nD τ sig} {u : Unit} (h : 0 < owedRecv c l g u) : ∃ d j, g = recvCell d j := by
  induction l with
  | nil => exact absurd h (Nat.lt_irrefl 0)
  | cons j l ih =>
    rw [owedRecv_cons, Pi.add_apply, Finsupp.add_apply] at h
    rcases Nat.pos_of_ne_zero (Nat.ne_of_gt h) |> Nat.add_pos_iff_pos_or_pos.mp with h | h
    · exact ih h
    · exact ⟨_, _, tallyAt_pos h⟩
/-- What signals owe is at barriers. -/
theorem owedBar_pos {c : Dev nD} {l : List (Fin 15)} {g : GSem nD τ sig} {u : Unit} (h : 0 < owedBar c l g u) : ∃ d, g = barCell d := by
  induction l with
  | nil => exact absurd h (Nat.lt_irrefl 0)
  | cons j l ih =>
    rw [owedBar_cons, Pi.add_apply, Finsupp.add_apply] at h
    rcases Nat.add_pos_iff_pos_or_pos.mp h with h | h
    · exact ih h
    · exact ⟨_, tallyAt_pos h⟩
/-- What a device owes at launch is at arrivals and barriers. -/
theorem O₀_pos {c : Dev nD} {g : GSem nD τ sig} {u : Unit} (h : 0 < O₀ c g u) : (∃ d j, g = recvCell d j) ∨ ∃ d, g = barCell d := by
  unfold O₀ at h
  rw [Pi.add_apply, Finsupp.add_apply] at h
  rcases Nat.add_pos_iff_pos_or_pos.mp h with h | h
  · exact .inl (owedRecv_pos h)
  · exact .inr (owedBar_pos h)

/-- A device that owes only arrivals may wait on any cell below them. -/
theorem mayWait_owedRecv (c : Dev nD) (sm : SemLoc sig) (l : List (Fin 15)) (hs : lv ((c : Thread nD τ), sm) () ≤ 1) :
    (levAts L lv : sProp 𝕄) ⊢ MayWait (c : Thread nD τ) sm () (owedRecv c l) :=
  MayOwe.of_cut (L := L) (lev := lv) 1 (fun p hp => by rw [Finset.mem_singleton.mp hp, L_tc]; exact Finset.mem_singleton_self _)
    (fun g u hg => by obtain ⟨d, j, rfl⟩ := owedRecv_pos hg; rw [L_tc]; exact Finset.mem_singleton_self _)
    (fun p hp => by rw [Finset.mem_singleton.mp hp]; exact hs)
    (fun g u hg => by obtain ⟨d, j, rfl⟩ := owedRecv_pos hg; rw [lv_recv]; decide)

/-- The staging semaphores may be waited on with everything owed, or nothing. -/
theorem mayWait_stage (c : Dev nD) (q : DmaSem sig) (hq : ∀ j, q ≠ recvS j) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by
        rcases O₀_pos hg with ⟨d, j, rfl⟩ | ⟨d, rfl⟩ <;> (rw [L_tc]; exact Finset.mem_singleton_self _))
      (fun p hp => by rw [Finset.mem_singleton.mp hp]; exact le_of_eq (lv_zero c q hq))
      (fun g u hg => by
        rcases O₀_pos hg with ⟨d, j, rfl⟩ | ⟨d, rfl⟩
        · rw [lv_recv]; decide
        · rw [lv_bar]; decide)
  · rw [MayWait_zero]; iintro -; iempintro

/-- A local copy's level is at most one. -/
theorem wait_loc_level (c : Dev nD) (k : Fin 3) : lv ((c : Thread nD τ), .dma (locS k)) () ≤ 1 := by
  rw [lv_zero c _ (by revert k; decide)]; exact Nat.zero_le 1
/-- A barrier's level is at most one. -/
theorem wait_bar_level (c : Dev nD) : lv ((c : Thread nD τ), .reg barS) () ≤ 1 := le_of_eq (lv_bar c)

/-! ## Memrefs and element sets -/

/-- A memref owned at what it reads of `g` is its elements held at `g`. -/
theorem owns_to_pts {c : Dev nD} {sp : Space} {sh : Shape} {e : EltTy} (M : Memref sig .tc sp sh e) (q : PosShare TreeShare)
    (X : sh.Idx → Elt F e) (g : M.view.ty.Contents (Elt F)) (hg : M.view.read (Elt F) g = X) :
    (owns (c : Thread nD τ) M q X : sProp 𝕄) ⊢ (M.view.loc (c : Thread nD τ) ↦[M.view.set]{q} g : sProp 𝕄) := by
  unfold owns
  iintro ⟨%f, %hf, H⟩
  have e : ((M.view.loc (c : Thread nD τ) ↦[M.view.set]{q} f) : sProp 𝕄) = (M.view.loc (c : Thread nD τ) ↦[M.view.set]{q} g) :=
    pointsTo_congr fun i hi => by
      rw [View.set, Finset.mem_map] at hi
      obtain ⟨x, -, rfl⟩ := hi
      have := congrFun (hf.trans hg.symm) x
      simp only [View.read] at this
      exact (cast_inj _).mp this
  rw [← e]
  iexact H

/-- The slots' elements are the coordinates with the slot's number first. -/
theorem slot_set (j : Fin 15) : (slotM j).view.set = (slotRect j).set := by
  show ((recvM.view.slice (slotRect j)).reshape S2x512 _).set = _
  rw [View.set_reshape]; exact View.set_slice_whole cc0_scratch3 _
/-- Different slots are disjoint. -/
theorem slot_disjoint (j j' : Fin 15) (h : j ≠ j') : Disjoint (slotRect j).set (slotRect j').set :=
  Rect.unit_disjoint (s := S15x2x512) 0 (by
    have : j.val ≠ j'.val := fun e => h (Fin.ext e)
    show j.val + 1 ≤ j'.val ∨ j'.val + 1 ≤ j.val
    omega)
/-- The slots make up the receive buffer. -/
theorem slot_cover : (Finset.univ : Finset (Fin 15)).biUnion (fun j => (slotRect j).set) = Finset.univ := by
  ext i
  simp only [Finset.mem_biUnion, Finset.mem_univ, true_and, iff_true]
  have h0 := (i 0).isLt
  have h1 := (i 1).isLt
  have h2 := (i 2).isLt
  refine ⟨i 0, Rect.mem_set_unit.mpr fun a => ?_⟩
  fin_cases a
  · exact ⟨le_refl _, Nat.lt_succ_self _⟩
  · exact ⟨Nat.zero_le _, lt_of_lt_of_le h1 (le_of_eq (Nat.zero_add _).symm)⟩
  · exact ⟨Nat.zero_le _, lt_of_lt_of_le h2 (le_of_eq (Nat.zero_add _).symm)⟩

/-- Slot `j` read of the landed buffer is the packed sums of the device `j + 1` places before. -/
theorem read_slot_landed (c : Dev nD) (j : Fin 15) : (slotM j).view.read (Elt F) (landed m c) = pv m (back c j) := by
  funext i
  obtain ⟨a, b, rfl⟩ : ∃ a b, i = ix2 a b := ⟨_, _, eq_ix2 i⟩
  show landed m c ((slotRect j).emb (Shape.reshapeEquiv _ (ix2 a b))) = _
  have e : (slotRect j).emb (Shape.reshapeEquiv squeezes_S1x2x512_S2x512.numel_eq (ix2 a b)) = (ix3 j a b : S15x2x512.Idx) := by
    have := reshapeEquiv_ix2_1ab squeezes_S1x2x512_S2x512.numel_eq a b
    rw [this]
    funext x
    apply Fin.ext
    fin_cases x
    · show j.val + 1 * 0 = j.val; omega
    · show 0 + 1 * a.val = a.val; omega
    · show 0 + 1 * b.val = b.val; omega
  rw [e]
  rfl

/-- The receive buffer whole is its fifteen slots. -/
theorem slots_split (c : Dev nD) (f : Buf (Elt F) ((c : Thread nD τ).loc cc0_scratch3)) :
    (((c : Thread nD τ).loc cc0_scratch3) ↦{fullShare} f : sProp 𝕄) ⊢ bigSep Finset.univ fun j => slotPts (F := F) c j := by
  have h : (((c : Thread nD τ).loc cc0_scratch3) ↦{fullShare} f : sProp 𝕄)
      = bigSep Finset.univ fun j : Fin 15 => (((c : Thread nD τ).loc cc0_scratch3) ↦[(slotRect j).set]{fullShare} f : sProp 𝕄) := by
    rw [← pointsTo_biUnion (ℓ := (c : Thread nD τ).loc cc0_scratch3) Finset.univ (fun j : Fin 15 => (slotRect j).set) (fun j _ j' _ hj => slot_disjoint j j' hj), slot_cover]
  rw [h]
  refine bigSep_mono fun j _ => ?_
  unfold slotPts
  rw [slot_set]
  exact exists_intro (Φ := fun f' : Buf (Elt F) ((slotM j).view.loc (c : Thread nD τ)) => iprop((slotM j).view.loc (c : Thread nD τ) ↦[(slotRect j).set]{fullShare} f')) f

/-- The fifteen slots filled are the receive buffer at the landed contents. -/
theorem slots_join (c : Dev nD) :
    (bigSep Finset.univ fun j => recvPay (F := F) m c j) ⊢ (((c : Thread nD τ).loc cc0_scratch3) ↦{fullShare} (landed m c : Buf (Elt F) ((c : Thread nD τ).loc cc0_scratch3)) : sProp 𝕄) := by
  have h : (((c : Thread nD τ).loc cc0_scratch3) ↦{fullShare} (landed m c : Buf (Elt F) ((c : Thread nD τ).loc cc0_scratch3)) : sProp 𝕄)
      = bigSep Finset.univ fun j : Fin 15 => (((c : Thread nD τ).loc cc0_scratch3) ↦[(slotRect j).set]{fullShare} (landed m c : Buf (Elt F) ((c : Thread nD τ).loc cc0_scratch3)) : sProp 𝕄) := by
    rw [← pointsTo_biUnion (ℓ := (c : Thread nD τ).loc cc0_scratch3) Finset.univ (fun j : Fin 15 => (slotRect j).set) (fun j _ j' _ hj => slot_disjoint j j' hj), slot_cover]
  rw [h]
  refine bigSep_mono fun j _ => ?_
  unfold recvPay
  rw [← slot_set]
  exact owns_to_pts (slotM j) fullShare _ (landed m c) (read_slot_landed m c j)

/-- The halves of the tile in VMEM: disjoint, and the whole of it. -/
theorem wDst_set (r : Fin 2) : (wDst r).view.set = (rW r).set := View.set_slice_whole cc0_scratch1 _
/-- The two halves are disjoint. -/
theorem half_disjoint : Disjoint (rW 0).set (rW 1).set := Rect.unit_disjoint (s := S1024x1024) 1 (Or.inl (by decide))
/-- The two halves make up the weights buffer. -/
theorem half_cover : (rW 0).set ∪ (rW 1).set = Finset.univ := by
  ext i
  simp only [Finset.mem_union, Finset.mem_univ, iff_true]
  have h0 := (i 0).isLt
  have h1 : (i 1).val < 1024 := (i 1).isLt
  rcases Nat.lt_or_ge (i 1).val 512 with h | h
  · refine .inl (Rect.mem_set_unit.mpr fun a => ?_)
    fin_cases a
    · exact ⟨Nat.zero_le _, lt_of_lt_of_le h0 (le_of_eq (Nat.zero_add _).symm)⟩
    · exact ⟨Nat.zero_le _, h⟩
  · refine .inr (Rect.mem_set_unit.mpr fun a => ?_)
    fin_cases a
    · exact ⟨Nat.zero_le _, lt_of_lt_of_le h0 (le_of_eq (Nat.zero_add _).symm)⟩
    · exact ⟨h, h1⟩

/-- The tile's buffer is its two halves, -/
theorem halves_split (c : Dev nD) (f : Buf (Elt F) ((c : Thread nD τ).loc cc0_scratch1)) :
    (((c : Thread nD τ).loc cc0_scratch1) ↦{fullShare} f : sProp 𝕄)
      ⊢ iprop(((wDst 0).view.loc (c : Thread nD τ) ↦[(wDst 0).view.set]{fullShare} f) ∗ ((wDst 1).view.loc (c : Thread nD τ) ↦[(wDst 1).view.set]{fullShare} f)) := by
  rw [wDst_set, wDst_set]
  have h := pointsTo_union (Ix := Unit) (Name := ℕ) (U := UU) (Lvl := ℕ) (ℓ := (c : Thread nD τ).loc cc0_scratch1) (f := f) (q := fullShare) half_disjoint
  rw [half_cover] at h
  exact h.1
/-- and back. -/
theorem halves_join (c : Dev nD) (f g : Buf (Elt F) ((c : Thread nD τ).loc cc0_scratch1)) :
    iprop(((wDst 0).view.loc (c : Thread nD τ) ↦[(wDst 0).view.set]{fullShare} f) ∗ ((wDst 1).view.loc (c : Thread nD τ) ↦[(wDst 1).view.set]{fullShare} g))
      ⊢ (iprop(∃ h : Buf (Elt F) ((c : Thread nD τ).loc cc0_scratch1), ((c : Thread nD τ).loc cc0_scratch1) ↦{fullShare} h) : sProp 𝕄) := by
  rw [wDst_set, wDst_set]
  have h := pointsTo_join (Ix := Unit) (Name := ℕ) (U := UU) (Lvl := ℕ) (ℓ := (c : Thread nD τ).loc cc0_scratch1) (f := f) (g := g) (q := fullShare) half_disjoint
  rw [half_cover] at h
  iintro H
  iexists _
  iapply h; iexact H

end Cert.KernelIdeal.Own

end
-- ==== Proof.KernelIdeal.Walks.lean ====
/-
  One lemma per walk over the peers: the signals, the remote copies, the waits for departure and
  the waits for arrival. Each is by induction on the list of peers left.
-/
module

public import proofs.«01_k».proof.Proof.KernelIdeal.Protocol

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No variants: the body does not loop. -/
abbrev 𝒱₀ : Variants := Variants.none

/-- Every cell's invariant, at the names `K`, and that every cell has reached its round. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

/-- The records are known for good. -/
instance records_persistent (K : Dev nD × CK → ℕ) : BI.Persistent (records m K) := by unfold records; infer_instance

/-- One cell's invariant, of the records. -/
theorem inv_of (K : Dev nD × CK → ℕ) (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)
/-- One cell's first round, of the records. -/
theorem reached_of (ck : Dev nD × CK) :
    (bigSep Finset.univ fun ck : Dev nD × CK => (reached ER (kcell ck) 0 : sProp 𝕄)) ⊢ reached ER (kcell ck) 0 :=
  bigSep_elim (Finset.mem_univ ck)
/-- The records give each cell's invariant, -/
theorem inv_at (K : Dev nD × CK → ℕ) (ck : Dev nD × CK) : (records m K : sProp 𝕄) ⊢ cellInv ER (sched m) (K ck) (kcell ck) := by
  unfold records; iintro ⟨H, -⟩; iapply (inv_of m K ck); iexact H
/-- and that it has reached its round. -/
theorem reached_at (K : Dev nD × CK → ℕ) (ck : Dev nD × CK) : (records m K : sProp 𝕄) ⊢ reached ER (kcell ck) 0 := by
  unfold records; iintro ⟨-, H⟩; iapply (reached_of (F := F) ck); iexact H

/-- A list's conjunction, its head taken off. -/
theorem listSep_cons (i : Fin 15) (l : List (Fin 15)) (Φ : Fin 15 → sProp 𝕄) : bigSepL (i :: l) Φ = iprop(Φ i ∗ bigSepL l Φ) := bigSepL_cons i l Φ
/-- The empty walk holds nothing. -/
theorem listSep_nil (Φ : Fin 15 → sProp 𝕄) : bigSepL [] Φ = iprop(emp) := bigSepL_nil Φ

variable (K : Dev nD × CK → ℕ)

/-- The kernel's own cells, as indices. -/
abbrev kBar : CK := .inl ()
/-- A local copy's kind. -/
abbrev kLoc (k : Fin 3) : CK := .inr (.inl k)
/-- A departure's kind. -/
abbrev kSend (j : Fin 15) : CK := .inr (.inr (.inl j))
/-- An arrival's kind. -/
abbrev kRecv (j : Fin 15) : CK := .inr (.inr (.inr j))

/-- The weakest precondition of a program on a device. -/
abbrev WP (c : Dev nD) (p : Prog (Eff F) PUnit) (Q : PUnit → sProp 𝕄) : sProp 𝕄 :=
  wp frame (wpE (defs₀ (F := F)) 𝒱₀ (c : Thread nD τ) none) Set.univ p Q

/-- What signal `i` of device `c` hands over is `c`'s own slot. -/
theorem pay_sig (c : Dev nD) (i : Fin 15) : (sched (F := F) m).payload (barCell (peer c i)) 0 i = slotPts (F := F) c i.rev := by
  rw [payload_at m (peer c i) kBar i]
  show slotPts (F := F) (back (peer c i) i) i.rev = _
  rw [back_peer]

/-- One signal to the barrier of `n = peer c i`: it hands over this device's slot that `n` will write to. -/
theorem wp_sig_one (c : Dev nD) (i : Fin 15) (n : Dev nD) (hn : n = peer c i) (k : PUnit → Prog (Eff F) PUnit) (Q : PUnit → sProp 𝕄)
    (O : CellTallies nD τ sig Unit) (W : Waits sig Unit) :
    iprop(records m K ∗ owes (c : Thread nD τ) (O + tallyAt (barCell (peer c i)) () 1) W
        ∗ dutyTok ER (barCell (peer c i)) 0 i ∗ slotPts (F := F) c i.rev)
      ⊢ iprop((owes (c : Thread nD τ) O W -∗ WP c (k ⟨⟩) Q)
          -∗ WP c (.op (.semSignal ((n, .tc) : Thread nD τ) barS ((1#32 : BitVec 32).toInt)) k) Q) := by
  subst hn
  iintro ⟨#HR, HO, Ht, Hs⟩
  iapply (Rounds.wp_signal 𝒱₀ ER (sched m) (c : Thread nD τ) none (dst := (peer c i : Thread nD τ)) (κ := K (peer c i, kBar))
      (d := i) (r := 0) (by rw [duties_at m (peer c i) kBar]; exact Finset.mem_univ _) ((amount_at m (peer c i) kBar i).trans (by decide)) () O rfl)
  isplitr; · iapply (inv_at m K (peer c i, kBar)); iexact HR
  isplitl [HO]; · iexact HO
  isplitl [Ht]; · iexact Ht
  isplitl [Hs]
  · rw [pay_sig m c i]; iexact Hs
  iapply (reached_at m K (peer c i, kBar)); iexact HR

/-- The signals. -/
theorem wp_signals (c : Dev nD) (k : Prog (Eff F) PUnit) (Q : PUnit → sProp 𝕄) (O : CellTallies nD τ sig Unit) (W : Waits sig Unit) (l : List (Fin 15)) :
    iprop(records m K ∗ owes (c : Thread nD τ) (O + owedBar c l) W
        ∗ bigSepL l fun i => iprop(dutyTok ER (barCell (peer c i)) 0 i ∗ slotPts (F := F) c i.rev))
      ⊢ iprop((owes (c : Thread nD τ) O W -∗ WP c k Q) -∗ WP c (walk (fun j => sigE c j) l k) Q) := by
  induction l with
  | nil =>
    iintro ⟨-, HO, -⟩ Hk
    iapply Hk
    rw [show owedBar c [] = 0 from rfl, add_zero]; iexact HO
  | cons i l ih =>
    rw [owedBar_cons, ← add_assoc, listSep_cons]
    iintro ⟨#HR, HO, ⟨Ht, Hs⟩, Hl⟩ Hk
    iapply (wp_sig_one m K c i (sigDev c i) (sigDev_eq c i) (fun _ => walk (fun j => sigE c j) l k) Q (O + owedBar c l) W) $$ [HO Ht Hs]
    · isplitr; · iexact HR
      isplitl [HO]; · iexact HO
      isplitl [Ht] <;> iassumption
    iintro HO
    iapply ih $$ [HO Hl]
    · isplitr; · iexact HR
      isplitl [HO] <;> iassumption
    iexact Hk

/-- What remote copy `j` of device `c` leaves at the peer is the peer's slot filled. -/
theorem pay_copy (c : Dev nD) (j : Fin 15) (fn : Buf (Elt F) ((slotM j).view.loc (peer c j : Thread nD τ))) :
    ((slotM j).view.loc (peer c j : Thread nD τ) ↦[(slotM j).view.set]{fullShare}
        (slotM j).view.write (Elt F) fn (sendM.view.read (Elt F) (pv m c)) Finset.univ : sProp 𝕄)
      ⊢ (sched (F := F) m).payload (recvCell (peer c j) j) 0 0 := by
  rw [payload_at m (peer c j) (kRecv j)]
  show _ ⊢ recvPay m (peer c j) j
  unfold recvPay
  rw [back_peer]
  have h := owns_intro (Val := Elt F) (Ix := Unit) (Name := ℕ) (U := UU) (Lvl := ℕ) (peer c j : Thread nD τ) (slotM j) fullShare
    ((slotM j).view.write (Elt F) fn (sendM.view.read (Elt F) (pv m c)) Finset.univ)
  rw [View.read_write_univ] at h
  exact h

/-- What a slot's copy pays at its arrival. -/
theorem amt_slot (j : Fin 15) : (slotM j).view.amount (.dma (recvS j)) = N := N_slot j

/-- One remote copy, to slot `j` of `n = peer c j`. -/
theorem wp_copy_one (c : Dev nD) (j : Fin 15) (n : Dev nD) (hn : n = peer c j)
    {hsc : (slotM j : Memref sig (Dev.tc n : Thread nD τ).2.kind .vmem S2x512 .f32).view.ref.isScScratch = false}
    {hsrc : (sendM : Memref sig .tc .vmem S2x512 .f32).view.WordExact} {hdst : (slotM j).view.WordExact}
    {hsem : DmaTarget.Typed .vmem (.dma (recvS j)) (.remote (Dev.tc n : Thread nD τ) (slotM j) (.dma (sendS j)) hsc)}
    (k : PUnit → Prog (Eff F) PUnit) (Q : PUnit → sProp 𝕄)
    (O : CellTallies nD τ sig Unit) (W : Waits sig Unit) :
    iprop(records m K ∗ sendPts m c (sq j) ∗ slotPts (F := F) (peer c j) j ∗ owes (c : Thread nD τ) (O + tallyAt (recvCell (peer c j) j) () N) W
        ∗ dutyTok ER (sendCell c j) 0 0 ∗ dutyTok ER (recvCell (peer c j) j) 0 0)
      ⊢ iprop(((cred (tallyAt (sendCell c j) () N) ∗ owes (c : Thread nD τ) O W) -∗ WP c (k ⟨⟩) Q)
          -∗ WP c (.op (.enqueueDma sendM (.remote (Dev.tc n : Thread nD τ) (slotM j) (.dma (sendS j)) hsc) (.dma (recvS j)) hsrc hdst hsem) k) Q) := by
  subst hn
  unfold slotPts
  iintro ⟨#HR, Hsrc, ⟨%fn, Hdst⟩, HO, Ht1, Ht2⟩
  iapply (Rounds.wp_send_pointsTo 𝒱₀ ER (sched m) (c : Thread nD τ) none (src := sendM) (dst := slotM j) (c' := (peer c j : Thread nD τ)) (sS := .dma (sendS j)) (sem := .dma (recvS j))
    (hsc := hsc) (hsrc := hsrc) (hdst := hdst) (hsem := hsem) (k := k) (Q := Q) (κ₁ := K (c, kSend j)) (κ₂ := K (peer c j, kRecv j))
    (r₁ := 0) (r₂ := 0) (d₁ := 0) (d₂ := 0) (fd := fn) (q := sq j) (fs := (pv m c : Buf (Elt F) (sendM.view.loc (c : Thread nD τ))))
    (by rw [duties_at m c (kSend j)]; exact Finset.mem_singleton_self _) (by rw [duties_at m (peer c j) (kRecv j)]; exact Finset.mem_singleton_self _)
    () () N (amt_slot j) (amount_at m c (kSend j) 0) (amount_at m (peer c j) (kRecv j) 0) O rfl (W := W)
    (by rw [payload_at m c (kSend j)]; exact BI.Entails.refl _)
    (pay_copy m c j fn))
  isplitr; · iapply (inv_at m K (c, kSend j)); iexact HR
  isplitr; · iapply (inv_at m K (peer c j, kRecv j)); iexact HR
  isplitl [Hsrc]; · unfold sendPts; iexact Hsrc
  isplitl [Hdst]; · iexact Hdst
  isplitl [HO]; · iexact HO
  isplitl [Ht1]; · iexact Ht1
  isplitr; · iapply (reached_at m K (c, kSend j)); iexact HR
  isplitl [Ht2]; · iexact Ht2
  iapply (reached_at m K (peer c j, kRecv j)); iexact HR

/-- What remote copy `j` starts from. -/
def copyRes (c : Dev nD) (j : Fin 15) : sProp 𝕄 :=
  iprop(sendPts m c (sq j) ∗ slotPts (F := F) (peer c j) j ∗ dutyTok ER (sendCell c j) 0 0 ∗ dutyTok ER (recvCell (peer c j) j) 0 0)

/-- The remote copies. -/
theorem wp_copies (c : Dev nD) (k : Prog (Eff F) PUnit) (Q : PUnit → sProp 𝕄) (W : Waits sig Unit) (l : List (Fin 15)) :
    iprop(records m K ∗ owes (c : Thread nD τ) (owedRecv c l) W ∗ bigSepL l (copyRes m c))
      ⊢ iprop((((bigSepL l fun j => cred (tallyAt (sendCell c j) () N)) ∗ owes (c : Thread nD τ) 0 W) -∗ WP c k Q)
          -∗ WP c (walk (fun j => copyE c j) l k) Q) := by
  induction l with
  | nil =>
    iintro ⟨-, HO, -⟩ Hk
    iapply Hk
    rw [listSep_nil]
    isplitr; · iempintro
    iexact HO
  | cons j l ih =>
    rw [owedRecv_cons, listSep_cons, listSep_cons]
    unfold copyRes
    iintro ⟨#HR, HO, ⟨Hs, Hd, Ht1, Ht2⟩, Hl⟩ Hk
    iapply (wp_copy_one m K c j (copyDev c j) (copyDev_eq c j) (fun _ => walk (fun j => copyE c j) l k) Q (owedRecv c l) W) $$ [HO Hs Hd Ht1 Ht2]
    · isplitr; · iexact HR
      isplitl [Hs]; · iexact Hs
      isplitl [Hd]; · iexact Hd
      isplitl [HO]; · iexact HO
      isplitl [Ht1] <;> iassumption
    iintro ⟨Hc, HO⟩
    iapply ih $$ [HO Hl]
    · isplitr; · iexact HR
      isplitl [HO]; · iexact HO
      unfold copyRes; iexact Hl
    iintro ⟨Hcl, HO⟩
    iapply Hk
    isplitr [HO]
    · isplitl [Hc] <;> iassumption
    iexact HO

/-- A DMA wait on an own cell with the whole of its round's credit: the payload comes back and the cell closes at zero. -/
theorem wp_wait_one (c : Dev nD) (kk : OK) (s : DmaSem sig) (hs : osem kk = .dma s) {sp sp' : Space} {sh : Shape} {e : EltTy}
    (src : Memref sig .tc sp sh e) (dst : Memref sig .tc sp' sh e)
    {h1 : src.view.WordExact} {h2 : dst.view.WordExact} (hN : dst.view.dmaCredit = cellAmt (.inr kk))
    (P : sProp 𝕄) (hP : cellPay m c 0 (.inr kk) = P)
    (k : PUnit → Prog (Eff F) PUnit) (Q : PUnit → sProp 𝕄) (O : CellTallies nD τ sig Unit) (W : Waits sig Unit) :
    iprop(records m K ∗ cred (tallyAt (kcell (c, .inr kk)) () (cellAmt (.inr kk))) ∗ owes (c : Thread nD τ) O W
        ∗ MayWait (c : Thread nD τ) (.dma s) () O ∗ atPos ER (kcell (c, .inr kk)) 0 ∅ 0)
      ⊢ iprop(((owes (c : Thread nD τ) O (insert (.dma s, ()) W) ∗ P ∗ semVal (kcell (c, .inr kk)) 0) -∗ WP c (k ⟨⟩) Q)
          -∗ WP c (.op (.waitDma2 s src dst h1 h2) k) Q) := by
  have hcell : kcell (c, .inr kk) = ((c : Thread nD τ), .dma s) := by show ((c : Thread nD τ), osem kk) = _; rw [hs]
  iintro ⟨#HR, Hc, HO, HM, Ha⟩ Hk
  iapply (Rounds.wp_wait_rest_token 𝒱₀ ER (sched m) (c : Thread nD τ) none (κ := K (c, .inr kk))
      (wpE_waitDma2_eq 𝒱₀ (c : Thread nD τ) none Set.univ) (Set.mem_univ _) () (O := O) (W := W) (R := 0) (m := 0) (T := ∅)
      (by rw [Nat.zero_add, ← hcell, expect_own, hN])) $$ [Hc HO HM Ha]
  · rw [← hcell, hN]
    isplitr; · iapply (inv_at m K (c, .inr kk)); iexact HR
    isplitl [Hc]; · iexact Hc
    isplitl [HO]; · iexact HO
    isplitl [HM] <;> iassumption
  rw [← hcell]
  iintro ⟨HO, Ha, -, Hpay⟩
  ihave Hp := (Entails.of_eq ((rest_own m c kk).trans hP)) $$ Hpay
  imod (Rounds.cell_close ER (sched m) (Set.mem_univ (K (c, .inr kk))) (fun h => h) (R := 0 + 1) (duties_later m (kcell (c, .inr kk)))) $$ [Ha] with Hz
  · isplitr; · iapply (inv_at m K (c, .inr kk)); iexact HR
    iexact Ha
  iapply Hk
  isplitl [HO]; · iexact HO
  isplitl [Hp] <;> iassumption

/-- The waits for departure: the shares of the send buffer come back. -/
theorem wp_sents (c : Dev nD) (k : Prog (Eff F) PUnit) (Q : PUnit → sProp 𝕄) (l : List (Fin 15)) :
    iprop(records m K ∗ (∃ W, owes (c : Thread nD τ) 0 W)
        ∗ bigSepL l fun j => iprop(cred (tallyAt (sendCell c j) () N) ∗ atPos ER (sendCell c j) 0 ∅ 0))
      ⊢ iprop((((∃ W, owes (c : Thread nD τ) 0 W) ∗ bigSepL l fun j => iprop(sendPts m c (sq j) ∗ semVal (sendCell c j) 0)) -∗ WP c k Q)
          -∗ WP c (walk (fun j => sentE j) l k) Q) := by
  induction l with
  | nil =>
    iintro ⟨-, HO, -⟩ Hk
    iapply Hk
    rw [listSep_nil]
    isplitl; · iexact HO
    iempintro
  | cons j l ih =>
    rw [listSep_cons, listSep_cons]
    iintro ⟨#HR, ⟨%W, HO⟩, ⟨Hc, Ha⟩, Hl⟩ Hk
    iapply (wp_wait_one m K c (.inr (.inl j)) (sendS j) rfl (slotM j) sendM rfl (sendPts m c (sq j)) rfl (fun _ => walk (fun j => sentE j) l k) Q 0 W) $$ [HO Hc Ha]
    · isplitr; · iexact HR
      isplitl [Hc]; · iexact Hc
      isplitl [HO]; · iexact HO
      isplitr; · rw [MayWait_zero]; iempintro
      iexact Ha
    iintro ⟨HO, Hp, Hz⟩
    iapply ih $$ [HO Hl]
    · isplitr; · iexact HR
      isplitl [HO]; · iexists _; iexact HO
      iexact Hl
    iintro ⟨HO, Hr⟩
    iapply Hk
    isplitl [HO]; · iexact HO
    isplitr [Hr]
    · isplitl [Hp]; · iexact Hp
      iexact Hz
    iexact Hr

/-- The waits for arrival: the slots come back filled. -/
theorem wp_gots (c : Dev nD) (k : Prog (Eff F) PUnit) (Q : PUnit → sProp 𝕄) (l : List (Fin 15)) :
    iprop(records m K ∗ (∃ W, owes (c : Thread nD τ) 0 W)
        ∗ bigSepL l fun j => iprop(cred (tallyAt (recvCell c j) () N) ∗ atPos ER (recvCell c j) 0 ∅ 0))
      ⊢ iprop((((∃ W, owes (c : Thread nD τ) 0 W) ∗ bigSepL l fun j => iprop(recvPay m c j ∗ semVal (recvCell c j) 0)) -∗ WP c k Q)
          -∗ WP c (walk (fun j => gotE j) l k) Q) := by
  induction l with
  | nil =>
    iintro ⟨-, HO, -⟩ Hk
    iapply Hk
    rw [listSep_nil]
    isplitl; · iexact HO
    iempintro
  | cons j l ih =>
    rw [listSep_cons, listSep_cons]
    iintro ⟨#HR, ⟨%W, HO⟩, ⟨Hc, Ha⟩, Hl⟩ Hk
    iapply (wp_wait_one m K c (.inr (.inr j)) (recvS j) rfl sendM (slotM j) rfl (recvPay m c j) rfl (fun _ => walk (fun j => gotE j) l k) Q 0 W) $$ [HO Hc Ha]
    · isplitr; · iexact HR
      isplitl [Hc]; · iexact Hc
      isplitl [HO]; · iexact HO
      isplitr; · rw [MayWait_zero]; iempintro
      iexact Ha
    iintro ⟨HO, Hp, Hz⟩
    iapply ih $$ [HO Hl]
    · isplitr; · iexact HR
      isplitl [HO]; · iexists _; iexact HO
      iexact Hl
    iintro ⟨HO, Hr⟩
    iapply Hk
    isplitl [HO]; · iexact HO
    isplitr [Hr]
    · isplitl [Hp]; · iexact Hp
      iexact Hz
    iexact Hr

end Cert.KernelIdeal.Own

end
-- ==== Proof.KernelIdeal.Body.lean ====
/-
  The body on one device: from what the launch hands the device to what it hands back, stage by
  stage (local copies and signals, the local computation, the exchange, the result).
-/
module

public import proofs.«01_k».proof.Proof.KernelIdeal.Walks

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- A whole buffer of device `c` at contents `f`. -/
abbrev bufPts (c : Dev nD) (b : Ref sig .tc) (f : Buf (Elt F) ((c : Thread nD τ).loc b)) : sProp 𝕄 := ((c : Thread nD τ).loc b) ↦{fullShare} f

/-- The result device `c` computes. -/
def outAt (c : Dev nD) : (cc0_stg1_0 : Ref sig .tc).ty.Contents (Elt F) := k0_pay1 (pv m c) (landed m c)

/-- The peers one by one are all fifteen. -/
theorem peers_sep (Φ : Fin 15 → sProp 𝕄) : bigSepL peers Φ = bigSep Finset.univ Φ := (bigSep_univ_eq_bigSepL peers (by decide) (by decide) Φ).symm

/-- Two families over the peers, taken together peer by peer. -/
theorem peers_sep2 (Φ Ψ : Fin 15 → sProp 𝕄) :
    bigSepL peers (fun j => iprop(Φ j ∗ Ψ j)) = iprop((bigSep Finset.univ Φ) ∗ bigSep Finset.univ Ψ) := by
  rw [peers_sep, bigSep_sep']

/-- The zero offset of a rank-two access. -/
theorem hz2 : (![0, 0] : Fin 2 → Nat) = fun _ => 0 := funext fun a => by fin_cases a <;> rfl
/-- The zero offset of a rank-three access. -/
theorem hz3 : (![0, 0, 0] : Fin 3 → Nat) = fun _ => 0 := funext fun a => by fin_cases a <;> rfl

/-- Reading the whole send buffer gives its contents. -/
theorem read_send (f : (cc0_scratch2 : Ref sig .tc).ty.Contents (Elt F)) : sendM.view.readAt (Elt F) rS.toLoadRect f = f :=
  Memref.readAt_unit_zero (Elt F) cc0_scratch2 hz2 _ f
/-- Reading the whole receive buffer gives its contents. -/
theorem read_recv (f : (cc0_scratch3 : Ref sig .tc).ty.Contents (Elt F)) : recvM.view.readAt (Elt F) rR.toLoadRect f = f :=
  Memref.readAt_unit_zero (Elt F) cc0_scratch3 hz3 _ f
/-- Reading the whole activations buffer gives its contents. -/
theorem read_xM (f : (cc0_scratch0 : Ref sig .tc).ty.Contents (Elt F)) : xM.view.readAt (Elt F) rX.toLoadRect f = f :=
  Memref.readAt_unit_zero (Elt F) cc0_scratch0 hz2 _ f
/-- Reading the whole labels buffer gives its contents. -/
theorem read_lab (f : (cc0_stg0_0 : Ref sig .tc).ty.Contents (Elt F)) : labM.view.readAt (Elt F) rL.toLoadRect f = f :=
  Memref.readAt_unit_zero (Elt F) cc0_stg0_0 hz2 _ f
/-- Storing to the whole result buffer leaves what was stored. -/
theorem write_out (f w : (cc0_stg1_0 : Ref sig .tc).ty.Contents (Elt F)) :
    ((outM.access rO : View sig .tc _ _ _)).write (Elt F) f w Finset.univ = w :=
  Memref.write_access_unit_zero_univ (Elt F) cc0_stg1_0 hz2 _ f w
/-- Storing to the whole send buffer leaves what was stored. -/
theorem write_send (f w : (cc0_scratch2 : Ref sig .tc).ty.Contents (Elt F)) :
    ((sendM.access rS : View sig .tc _ _ _)).write (Elt F) f w Finset.univ = w :=
  Memref.write_access_unit_zero_univ (Elt F) cc0_scratch2 hz2 _ f w

/-- The last waits, the loads and the result's store. -/
theorem wp_tail (c : Dev nD) (Q : PUnit → sProp 𝕄) (fo : Buf (Elt F) ((c : Thread nD τ).loc cc0_stg1_0)) :
    iprop(records m K ∗ (∃ W, owes (c : Thread nD τ) 0 W)
        ∗ (bigSep Finset.univ fun j => iprop(cred (tallyAt (recvCell c j) () N) ∗ atPos ER (recvCell c j) 0 ∅ 0))
        ∗ bufPts c cc0_scratch2 (pv m c) ∗ bufPts c cc0_stg1_0 fo)
      ⊢ iprop((((∃ W, owes (c : Thread nD τ) 0 W) ∗ bufPts c cc0_scratch3 (landed m c) ∗ (bigSep Finset.univ fun j => semVal (recvCell c j) 0)
            ∗ bufPts c cc0_scratch2 (pv m c) ∗ bufPts c cc0_stg1_0 (outAt m c)) -∗ Q ⟨⟩)
          -∗ WP c tailP Q) := by
  unfold tailP
  iintro ⟨#HR, HO, Hl, Hs, Ho⟩ Hk
  iapply (wp_gots m K c _ Q peers) $$ [HO Hl]
  · isplitr; · iexact HR
    isplitl [HO]; · iexact HO
    rw [peers_sep]; iexact Hl
  rw [peers_sep2]
  iintro ⟨HO, Hp, Hz⟩
  ihave Hr := (slots_join (F := F) m c) $$ Hp
  iapply (wp_load 𝒱₀ (c : Thread nD τ) none Set.univ (m := sendM) (Finset.subset_univ _)) $$ Hs; iintro Hs
  rw [read_send]
  iapply (wp_load 𝒱₀ (c : Thread nD τ) none Set.univ (m := recvM) (Finset.subset_univ _)) $$ Hr; iintro Hr
  rw [read_recv]
  iapply (wp_load 𝒱₀ (c : Thread nD τ) none Set.univ (m := outM) (Finset.subset_univ _)) $$ Ho; iintro Ho
  iapply (wp_store 𝒱₀ (c : Thread nD τ) none Set.univ (m := outM) (r := rO) (Mk := Finset.univ) (Finset.subset_univ _)) $$ Ho; iintro Ho
  rw [write_out, wp_ret]; imodintro
  iapply Hk
  isplitl [HO]; · iexact HO
  isplitl [Hr]; · iexact Hr
  isplitl [Hz]; · iexact Hz
  isplitl [Hs]; · iexact Hs
  unfold outAt; iexact Ho

/-- The send buffer whole is what the core keeps and a share for each copy. -/
theorem send_shares (c : Dev nD) :
    (bufPts c cc0_scratch2 (pv m c) : sProp 𝕄)
      ⊣⊢ iprop(sendPts m c (Transfers.shareDrop fullShare 15) ∗ bigSep Finset.univ fun j : Fin 15 => sendPts m c (sq j)) := by
  unfold sendPts
  rw [show (sendM.view.set : Finset (Idx (sendM.view.loc (c : Thread nD τ)))) = Finset.univ from View.set_whole _]
  exact Transfers.pointsTo_toks (ℓ := (c : Thread nD τ).loc cc0_scratch2) fullShare 15

/-- The barrier's wait hands over the slots this device's copies fill. -/
theorem slots_of_peers (c : Dev nD) :
    (bigSep Finset.univ fun d => (barPay (F := F) c d : sProp 𝕄)) ⊢ bigSep Finset.univ fun j => slotPts (F := F) (peer c j) j := by
  rw [bigSep_univ_equiv Fin.revPerm (fun d => (barPay (F := F) c d : sProp 𝕄))]
  refine bigSep_mono fun j _ => ?_
  show barPay (F := F) c j.rev ⊢ _
  unfold barPay
  rw [back_rev, Fin.rev_rev]

/-- The exchange. -/
theorem wp_exchange (c : Dev nD) (Q : PUnit → sProp 𝕄) (fo : Buf (Elt F) ((c : Thread nD τ).loc cc0_stg1_0)) (W : Waits sig Unit) :
    iprop(records m K ∗ levAts L lv ∗ owes (c : Thread nD τ) (owedRecv c peers) W
        ∗ (cred (tallyAt (barCell c) () 15) ∗ atPos ER (barCell c) 0 ∅ 0)
        ∗ (bigSep Finset.univ fun j => dutyTok ER (sendCell c j) 0 0)
        ∗ (bigSep Finset.univ fun j => dutyTok ER (recvCell (peer c j) j) 0 0)
        ∗ (bigSep Finset.univ fun j => atPos ER (sendCell c j) 0 ∅ 0)
        ∗ (bigSep Finset.univ fun j => iprop(cred (tallyAt (recvCell c j) () N) ∗ atPos ER (recvCell c j) 0 ∅ 0))
        ∗ bufPts c cc0_scratch2 (pv m c) ∗ bufPts c cc0_stg1_0 fo)
      ⊢ iprop((((∃ W, owes (c : Thread nD τ) 0 W) ∗ bufPts c cc0_scratch3 (landed m c)
            ∗ (semVal (barCell c) 0 ∗ (bigSep Finset.univ fun j => semVal (sendCell c j) 0) ∗ (bigSep Finset.univ fun j => semVal (recvCell c j) 0))
            ∗ bufPts c cc0_scratch2 (pv m c) ∗ bufPts c cc0_stg1_0 (outAt m c)) -∗ Q ⟨⟩)
          -∗ WP c (exchangeP c) Q) := by
  unfold exchangeP
  iintro ⟨#HR, #Hlev, HO, ⟨HcB, HaB⟩, HtS, HtV, HaS, Hrv, Hs, Ho⟩ Hk
  iapply (Rounds.wp_wait_rest_token 𝒱₀ ER (sched m) (c : Thread nD τ) none (κ := K (c, kBar))
      (wpE_semWait_eq 𝒱₀ (c : Thread nD τ) none Set.univ) (Set.mem_univ _) () (O := owedRecv c peers) (W := W) (R := 0) (m := 0) (T := ∅)
      (by rw [expect_bar]; decide)) $$ [HcB HO HaB]
  · isplitr; · iapply (inv_at m K (c, kBar)); iexact HR
    isplitl [HcB]; · iexact HcB
    isplitl [HO]; · iexact HO
    isplitr; · iapply (mayWait_owedRecv c (.reg barS) peers (wait_bar_level c)); iexact Hlev
    iexact HaB
  iintro ⟨HO, HaB, -, Hpay⟩
  ihave Hp := (Entails.of_eq (rest_bar m c)) $$ Hpay
  ihave Hd := (slots_of_peers (F := F) c) $$ Hp
  imod (Rounds.cell_close ER (sched m) (Set.mem_univ (K (c, kBar))) (fun h => h) (R := 0 + 1) (duties_later m (barCell c))) $$ [HaB] with HzB
  · isplitr; · iapply (inv_at m K (c, kBar)); iexact HR
    iexact HaB
  ihave Hsp := (send_shares (F := F) m c).1 $$ Hs
  icases Hsp with ⟨Hkeep, Hsh⟩
  iapply (wp_copies m K c _ Q (insert (SemLoc.reg barS, ()) W) peers) $$ [HO Hsh Hd HtS HtV]
  · isplitr; · iexact HR
    isplitl [HO]; · iexact HO
    rw [peers_sep]; unfold copyRes
    rw [bigSep_sep', bigSep_sep', bigSep_sep']
    isplitl [Hsh]; · iexact Hsh
    isplitl [Hd]; · iexact Hd
    isplitl [HtS]; · iexact HtS
    iexact HtV
  rw [peers_sep]
  iintro ⟨HcS, HO⟩
  iapply (wp_sents m K c _ Q peers) $$ [HO HcS HaS]
  · isplitr; · iexact HR
    isplitl [HO]; · iexists _; iexact HO
    rw [peers_sep2]
    isplitl [HcS]; · iexact HcS
    iexact HaS
  rw [peers_sep2]
  iintro ⟨HO, Hsh, HzS⟩
  ihave Hs := (send_shares (F := F) m c).2 $$ [Hkeep Hsh]
  · isplitl [Hkeep]; · iexact Hkeep
    iexact Hsh
  iapply (wp_tail m K c Q fo) $$ [HO Hrv Hs Ho]
  · isplitr; · iexact HR
    isplitl [HO]; · iexact HO
    isplitl [Hrv]; · iexact Hrv
    isplitl [Hs] <;> iassumption
  iintro ⟨HO, Hr, HzV, Hs, Ho⟩
  iapply Hk
  isplitl [HO]; · iexact HO
  isplitl [Hr]; · iexact Hr
  isplitl [HzB HzS HzV]
  · isplitl [HzB]; · iexact HzB
    isplitl [HzS] <;> iassumption
  isplitl [Hs] <;> iassumption

/-! ## The local copies -/

/-- The copy of the activations. -/
theorem wp_x_copy (c : Dev nD) (k : PUnit → Prog (Eff F) PUnit) (Q : PUnit → sProp 𝕄) (f : Buf (Elt F) ((c : Thread nD τ).loc cc0_scratch0)) :
    iprop(records m K ∗ bufPts c main_arg0 (m ((c : Thread nD τ).loc main_arg0)) ∗ bufPts c cc0_scratch0 f ∗ dutyTok ER (locCell c 0) 0 0)
      ⊢ iprop((cred (tallyAt (locCell c 0) () (locN 0)) -∗ WP c (k ⟨⟩) Q) -∗ WP c (.op xE k) Q) := by
  have hpay : iprop((xM.view.loc (c : Thread nD τ) ↦[xM.view.set]{fullShare}
          xM.view.write (Elt F) f (xHbm.view.read (Elt F) (m (xHbm.view.loc (c : Thread nD τ)))) Finset.univ)
        ∗ (xHbm.view.loc (c : Thread nD τ) ↦[xHbm.view.set]{fullShare} m (xHbm.view.loc (c : Thread nD τ))))
      ⊢ (sched (F := F) m).payload (locCell c 0) 0 0 := by
    rw [payload_at m c (kLoc 0)]
    show _ ⊢ xPay m c
    unfold xPay
    have e : xM.view.write (Elt F) f (xHbm.view.read (Elt F) (m (xHbm.view.loc (c : Thread nD τ)))) Finset.univ = (xv m c : Buf (Elt F) (xM.view.loc (c : Thread nD τ))) := by
      show (View.whole cc0_scratch0).write (Elt F) f ((View.whole main_arg0).read (Elt F) _) Finset.univ = _
      rw [View.read_whole]
      exact View.write_whole_univ _ _ _
    rw [e]
  iintro ⟨#HR, Hx, Hd, Ht⟩
  iapply (Rounds.wp_copy_pointsTo 𝒱₀ ER (sched m) (c : Thread nD τ) none (src := xHbm) (dst := xM) (sem := .dma xS) (k := k) (Q := Q)
    (κ := K (c, kLoc 0)) (q := fullShare) (r := 0) (d := 0) (fs := m (xHbm.view.loc (c : Thread nD τ))) (fd := f)
    (by rw [duties_at m c (kLoc 0)]; exact Finset.mem_singleton_self _) () (locN 0) rfl (amount_at m c (kLoc 0) 0) hpay)
  isplitr; · iapply (inv_at m K (c, kLoc 0)); iexact HR
  isplitl [Hx]; · rw [show xHbm.view.set = Finset.univ from View.set_whole _]; iexact Hx
  isplitl [Hd]; · rw [show xM.view.set = Finset.univ from View.set_whole _]; iexact Hd
  isplitl [Ht]; · iexact Ht
  iapply (reached_at m K (c, kLoc 0)); iexact HR

/-- The cell of the copy of half `r`. -/
abbrev wk : Fin 2 → Fin 3 := fun | 0 => 1 | 1 => 2
/-- The share of the weights that copy `r` reads, on half `r` of the tile. -/
def wSrcPts (c : Dev nD) (r : Fin 2) : sProp 𝕄 :=
  (wSrc c r).view.loc (c : Thread nD τ) ↦[(wSrc c r).view.set]{wq r} m ((wSrc c r).view.loc (c : Thread nD τ))
/-- Half `r` of the weights buffer, holding `f`'s half. -/
def wDstPts (c : Dev nD) (r : Fin 2) (f : Buf (Elt F) ((c : Thread nD τ).loc cc0_scratch1)) : sProp 𝕄 :=
  (wDst r).view.loc (c : Thread nD τ) ↦[(wDst r).view.set]{fullShare} f

/-- What a half tile's copy hands back, from what it was given. -/
theorem pay_w (c : Dev nD) (r : Fin 2) (f : Buf (Elt F) ((c : Thread nD τ).loc cc0_scratch1)) :
    iprop(((wDst r).view.loc (c : Thread nD τ) ↦[(wDst r).view.set]{fullShare}
          (wDst r).view.write (Elt F) f ((wSrc c r).view.read (Elt F) (m ((wSrc c r).view.loc (c : Thread nD τ)))) Finset.univ)
        ∗ ((wSrc c r).view.loc (c : Thread nD τ) ↦[(wSrc c r).view.set]{wq r} m ((wSrc c r).view.loc (c : Thread nD τ))))
      ⊢ wPay (F := F) m c r := by
  unfold wPay
  have h := owns_intro (Val := Elt F) (Ix := Unit) (Name := ℕ) (U := UU) (Lvl := ℕ) (c : Thread nD τ) (wDst r) fullShare
    ((wDst r).view.write (Elt F) f ((wSrc c r).view.read (Elt F) (m ((wSrc c r).view.loc (c : Thread nD τ)))) Finset.univ)
  rw [View.read_write_univ] at h
  exact sep_mono_left h

/-- The copy of half `r` of the tile. -/
theorem wp_w_copy (c : Dev nD) (r : Fin 2) (k : PUnit → Prog (Eff F) PUnit) (Q : PUnit → sProp 𝕄) (f : Buf (Elt F) ((c : Thread nD τ).loc cc0_scratch1)) :
    iprop(records m K ∗ wSrcPts m c r ∗ wDstPts c r f ∗ dutyTok ER (locCell c (wk r)) 0 0)
      ⊢ iprop((cred (tallyAt (locCell c (wk r)) () (locN (wk r))) -∗ WP c (k ⟨⟩) Q) -∗ WP c (.op (wE c r) k) Q) := by
  have hcell : ((c : Thread nD τ), (.dma (wS r) : SemLoc sig)) = kcell (c, kLoc (wk r)) := by fin_cases r <;> rfl
  have hN : (wDst r).view.amount (.dma (wS r)) = locN (wk r) := by fin_cases r <;> rfl
  have hP : wPay (F := F) m c r = (sched (F := F) m).payload (kcell (c, kLoc (wk r))) 0 0 := by
    rw [payload_at m c (kLoc (wk r))]; fin_cases r <;> rfl
  iintro ⟨#HR, Hx, Hd, Ht⟩ Hk
  iapply (Rounds.wp_copy_pointsTo 𝒱₀ ER (sched m) (c : Thread nD τ) none (src := wSrc c r) (dst := wDst r) (sem := .dma (wS r)) (k := k) (Q := Q)
    (κ := K (c, kLoc (wk r))) (q := wq r) (r := 0) (d := 0) (fs := m ((wSrc c r).view.loc (c : Thread nD τ))) (fd := f)
    (by rw [hcell, duties_at m c (kLoc (wk r))]; exact Finset.mem_singleton_self _) () (locN (wk r)) hN
    (by rw [hcell]; exact amount_at m c (kLoc (wk r)) 0) (by rw [hcell, ← hP]; exact pay_w m c r f)) $$ [Hx Hd Ht]
  · rw [hcell]
    isplitr; · iapply (inv_at m K (c, kLoc (wk r))); iexact HR
    isplitl [Hx]; · unfold wSrcPts; iexact Hx
    isplitl [Hd]; · unfold wDstPts; iexact Hd
    isplitl [Ht]; · iexact Ht
    iapply (reached_at m K (c, kLoc (wk r))); iexact HR
  rw [hcell]; iexact Hk

/-! ## The local computation -/

/-- Loading a half tile from its half of the buffer. -/
theorem load_half (c : Dev nD) (r : Fin 2) (f : Buf (Elt F) ((c : Thread nD τ).loc cc0_scratch1)) (k : Vec F S1024x512 .f32 → Prog (Eff F) PUnit)
    (Q : PUnit → sProp 𝕄) {hl} :
    (wDstPts (F := F) c r f) ⊢ iprop((wDstPts c r f -∗ WP c (k ((wDst r).view.read (Elt F) f)) Q)
      -∗ WP c (.op (.load wM (rW r).toLoadRect hl) k) Q) := by
  unfold wDstPts
  have hS : wM.view.setOn (rW r).toLoadRect.set ⊆ (wDst r).view.set := by
    rw [show (wDst r).view.set = (rW r).set.map wM.view.emb from View.set_slice wM.view (rW r)]; exact Finset.Subset.refl _
  exact wp_load 𝒱₀ (c : Thread nD τ) none Set.univ (m := wM) hS

/-- A local cell before its wait: its credit and its position. -/
def locWait (c : Dev nD) (k : Fin 3) : sProp 𝕄 := iprop(cred (tallyAt (locCell c k) () (locN k)) ∗ atPos ER (locCell c k) 0 ∅ 0)

/-- The wait on a local cell, with the arrivals still owed. -/
theorem wp_wait_loc (c : Dev nD) (k' : Fin 3) {sp sp' : Space} {sh : Shape} {e : EltTy}
    (src : Memref sig .tc sp sh e) (dst : Memref sig .tc sp' sh e) {h1 : src.view.WordExact} {h2 : dst.view.WordExact} (s : DmaSem sig) (hs : locS k' = s)
    (hN : dst.view.dmaCredit = locN k') (k : PUnit → Prog (Eff F) PUnit) (Q : PUnit → sProp 𝕄) :
    iprop(records m K ∗ levAts L lv ∗ (∃ W, owes (c : Thread nD τ) (owedRecv c peers) W) ∗ locWait (F := F) c k')
      ⊢ iprop((((∃ W, owes (c : Thread nD τ) (owedRecv c peers) W) ∗ locPay m c k' ∗ semVal (locCell c k') 0) -∗ WP c (k ⟨⟩) Q)
          -∗ WP c (.op (.waitDma2 s src dst h1 h2) k) Q) := by
  subst hs
  unfold locWait
  iintro ⟨#HR, #Hlev, ⟨%W, HO⟩, Hc, Ha⟩ Hk
  iapply (wp_wait_one m K c (.inl k') (locS k') rfl src dst hN (locPay m c k') rfl k Q (owedRecv c peers) W) $$ [HO Hc Ha]
  · isplitr; · iexact HR
    isplitl [Hc]; · iexact Hc
    isplitl [HO]; · iexact HO
    isplitr; · iapply (mayWait_owedRecv c (.dma (locS k')) peers (wait_loc_level c k')); iexact Hlev
    iexact Ha
  iintro ⟨HO, Hp, Hz⟩
  iapply Hk
  isplitl [HO]; · iexists _; iexact HO
  isplitl [Hp] <;> iassumption

/-- What the exchange starts from beside the send buffer. -/
def exchangeRes (c : Dev nD) : sProp 𝕄 :=
  iprop((cred (tallyAt (barCell c) () 15) ∗ atPos ER (barCell c) 0 ∅ 0)
    ∗ (bigSep Finset.univ fun j => dutyTok ER (sendCell c j) 0 0)
    ∗ (bigSep Finset.univ fun j => dutyTok ER (recvCell (peer c j) j) 0 0)
    ∗ (bigSep Finset.univ fun j => atPos ER (sendCell c j) 0 ∅ 0)
    ∗ (bigSep Finset.univ fun j => iprop(cred (tallyAt (recvCell c j) () N) ∗ atPos ER (recvCell c j) 0 ∅ 0)))

/-- The exchange's cells closed at zero. -/
def exchangeZero (c : Dev nD) : sProp 𝕄 :=
  iprop(semVal (barCell c) 0 ∗ (bigSep Finset.univ fun j => semVal (sendCell c j) 0) ∗ (bigSep Finset.univ fun j => semVal (recvCell c j) 0))

/-- The local cells closed at zero. -/
def locZero (c : Dev nD) : sProp 𝕄 := iprop(semVal (locCell c 0) 0 ∗ semVal (locCell c 1) 0 ∗ semVal (locCell c 2) 0)

/-- What the body has made when it ends. -/
def bodyOut (c : Dev nD) : sProp 𝕄 :=
  iprop((∃ W, owes (c : Thread nD τ) 0 W) ∗ bufPts c main_arg0 (m ((c : Thread nD τ).loc main_arg0)) ∗ bufPts c cc0_scratch0 (xv m c)
    ∗ (wSrcPts m c 0 ∗ wSrcPts m c 1) ∗ (∃ f, bufPts c cc0_scratch1 f)
    ∗ bufPts c cc0_scratch2 (pv m c) ∗ bufPts c cc0_scratch3 (landed m c) ∗ (locZero c ∗ exchangeZero c)
    ∗ bufPts c cc0_stg0_0 (labv m c) ∗ bufPts c cc0_stg1_0 (outAt m c))

/-- From the local waits to the end. -/
theorem wp_middle (c : Dev nD) (Q : PUnit → sProp 𝕄) (fs : Buf (Elt F) ((c : Thread nD τ).loc cc0_scratch2)) (fo : Buf (Elt F) ((c : Thread nD τ).loc cc0_stg1_0)) :
    iprop(records m K ∗ levAts L lv ∗ (∃ W, owes (c : Thread nD τ) (owedRecv c peers) W)
        ∗ (locWait (F := F) c 0 ∗ locWait (F := F) c 1 ∗ locWait (F := F) c 2) ∗ exchangeRes (F := F) c
        ∗ bufPts c cc0_scratch2 fs ∗ bufPts c cc0_stg0_0 (labv m c) ∗ bufPts c cc0_stg1_0 fo)
      ⊢ iprop((bodyOut m c -∗ Q ⟨⟩) -∗ WP c (middleP c) Q) := by
  unfold middleP
  iintro ⟨#HR, #Hlev, HO, ⟨Hw0, Hw1, Hw2⟩, HX, Hs, Hl, Ho⟩ Hk
  -- the activations
  iapply (wp_wait_loc m K c 0 xHbm xM xS rfl rfl _ Q) $$ [HO Hw0]
  · isplitr; · iexact HR
    isplitr; · iexact Hlev
    isplitl [HO] <;> iassumption
  rw [show locPay m c 0 = iprop(bufPts c cc0_scratch0 (xv m c) ∗ bufPts c main_arg0 (m ((c : Thread nD τ).loc main_arg0))) from by
    show xPay m c = _; unfold xPay; rw [show xM.view.set = Finset.univ from View.set_whole _, show xHbm.view.set = Finset.univ from View.set_whole _]]
  iintro ⟨HO, ⟨Hx, Hxs⟩, Hz0⟩
  iapply (wp_load 𝒱₀ (c : Thread nD τ) none Set.univ (m := xM) (Finset.subset_univ _)) $$ Hx; iintro Hx
  rw [read_xM]
  -- the first half of the tile
  iapply (wp_wait_loc m K c 1 (wSrc c 0) (wDst 0) (wS 0) rfl rfl _ Q) $$ [HO Hw1]
  · isplitr; · iexact HR
    isplitr; · iexact Hlev
    isplitl [HO] <;> iassumption
  rw [show locPay m c 1 = iprop((∃ f, ⌜(wDst 0).view.read (Elt F) f = wv m c 0⌝ ∗ wDstPts c 0 f) ∗ wSrcPts m c 0) from rfl]
  iintro ⟨HO, ⟨⟨%f0, %hf0, Hd0⟩, Hs0⟩, Hz1⟩
  iapply (load_half c 0 f0 _ Q) $$ Hd0; iintro Hd0
  rw [hf0]
  iapply (wp_load 𝒱₀ (c : Thread nD τ) none Set.univ (m := labM) (Finset.subset_univ _)) $$ Hl; iintro Hl
  rw [read_lab]
  -- the second half
  iapply (wp_wait_loc m K c 2 (wSrc c 1) (wDst 1) (wS 1) rfl rfl _ Q) $$ [HO Hw2]
  · isplitr; · iexact HR
    isplitr; · iexact Hlev
    isplitl [HO] <;> iassumption
  rw [show locPay m c 2 = iprop((∃ f, ⌜(wDst 1).view.read (Elt F) f = wv m c 1⌝ ∗ wDstPts c 1 f) ∗ wSrcPts m c 1) from rfl]
  iintro ⟨HO, ⟨⟨%f1, %hf1, Hd1⟩, Hs1⟩, Hz2⟩
  iapply (load_half c 1 f1 _ Q) $$ Hd1; iintro Hd1
  rw [hf1]
  iapply (wp_load 𝒱₀ (c : Thread nD τ) none Set.univ (m := labM) (Finset.subset_univ _)) $$ Hl; iintro Hl
  rw [read_lab]
  -- the packed sums stored
  iapply (wp_load 𝒱₀ (c : Thread nD τ) none Set.univ (m := sendM) (Finset.subset_univ _)) $$ Hs; iintro Hs
  iapply (wp_store 𝒱₀ (c : Thread nD τ) none Set.univ (m := sendM) (r := rS) (Mk := Finset.univ) (Finset.subset_univ _)) $$ Hs; iintro Hs
  rw [write_send]
  icases HO with ⟨%W, HO⟩
  unfold exchangeRes
  icases HX with ⟨HX1, HX2, HX3, HX4, HX5⟩
  iapply (wp_exchange m K c Q fo W) $$ [HO HX1 HX2 HX3 HX4 HX5 Hs Ho]
  · isplitr; · iexact HR
    isplitr; · iexact Hlev
    isplitl [HO]; · iexact HO
    isplitl [HX1]; · iexact HX1
    isplitl [HX2]; · iexact HX2
    isplitl [HX3]; · iexact HX3
    isplitl [HX4]; · iexact HX4
    isplitl [HX5]; · iexact HX5
    isplitl [Hs]; · iexact Hs
    iexact Ho
  iintro ⟨HO, Hr, HzE, Hs, Ho⟩
  iapply Hk
  unfold bodyOut
  isplitl [HO]; · iexact HO
  isplitl [Hxs]; · iexact Hxs
  isplitl [Hx]; · iexact Hx
  isplitl [Hs0 Hs1]; · isplitl [Hs0] <;> iassumption
  isplitl [Hd0 Hd1]
  · iapply (halves_join c f0 f1); unfold wDstPts
    isplitl [Hd0] <;> iassumption
  isplitl [Hs]; · iexact Hs
  isplitl [Hr]; · iexact Hr
  isplitl [Hz0 Hz1 Hz2 HzE]
  · isplitr [HzE]
    · unfold locZero
      isplitl [Hz0]; · iexact Hz0
      isplitl [Hz1] <;> iassumption
    · unfold exchangeZero; iexact HzE
  isplitl [Hl] <;> iassumption

/-! ## The whole device program -/

/-- A family over three, one by one. -/
theorem three_sep (Φ : Fin 3 → sProp 𝕄) : bigSep Finset.univ Φ = iprop(Φ 0 ∗ Φ 1 ∗ Φ 2) := bigSep_univ_eq_bigSepL [0, 1, 2] (by decide) (by decide) Φ

/-- What the body starts from, beside the records, the levels and what it owes. -/
def bodyIn (c : Dev nD) : sProp 𝕄 :=
  iprop(bufPts c main_arg0 (m ((c : Thread nD τ).loc main_arg0)) ∗ (wSrcPts m c 0 ∗ wSrcPts m c 1)
    ∗ ((∃ f, bufPts (F := F) c cc0_scratch0 f) ∗ (∃ f, bufPts (F := F) c cc0_scratch1 f) ∗ (∃ f, bufPts (F := F) c cc0_scratch2 f) ∗ (∃ f, bufPts (F := F) c cc0_scratch3 f))
    ∗ (bigSep Finset.univ fun k => dutyTok ER (locCell c k) 0 0) ∗ (bigSep Finset.univ fun k => atPos ER (locCell c k) 0 ∅ 0)
    ∗ (bigSep Finset.univ fun i => dutyTok ER (barCell (peer c i)) 0 i) ∗ exchangeRes (F := F) c)

/-- Device `c`'s program, from what it is handed to what it hands back. -/
theorem wp_device (c : Dev nD) (Q : PUnit → sProp 𝕄) (fo : Buf (Elt F) ((c : Thread nD τ).loc cc0_stg1_0)) (W : Waits sig Unit) :
    iprop(records m K ∗ levAts L lv ∗ owes (c : Thread nD τ) (O₀ c) W ∗ bodyIn m c ∗ bufPts c cc0_stg0_0 (labv m c) ∗ bufPts c cc0_stg1_0 fo)
      ⊢ iprop((bodyOut m c -∗ Q ⟨⟩) -∗ WP c (deviceP c) Q) := by
  unfold deviceP bodyIn
  rw [three_sep, three_sep]
  iintro ⟨#HR, #Hlev, HO, ⟨Hx, ⟨Hw0, Hw1⟩, ⟨⟨%g0, Hg0⟩, ⟨%g1, Hg1⟩, ⟨%g2, Hg2⟩, ⟨%g3, Hg3⟩⟩, ⟨Ht0, Ht1, Ht2⟩, ⟨Ha0, Ha1, Ha2⟩, HtB, HX⟩, Hl, Ho⟩ Hk
  iapply (wp_x_copy m K c _ Q g0) $$ [Hx Hg0 Ht0]
  · isplitr; · iexact HR
    isplitl [Hx]; · iexact Hx
    isplitl [Hg0] <;> iassumption
  iintro Hc0
  ihave Hh := (halves_split (F := F) c g1) $$ Hg1
  icases Hh with ⟨Hd0, Hd1⟩
  iapply (wp_w_copy m K c 0 _ Q g1) $$ [Hw0 Hd0 Ht1]
  · isplitr; · iexact HR
    isplitl [Hw0]; · iexact Hw0
    isplitl [Hd0]; · unfold wDstPts; iexact Hd0
    iexact Ht1
  iintro Hc1
  iapply (wp_w_copy m K c 1 _ Q g1) $$ [Hw1 Hd1 Ht2]
  · isplitr; · iexact HR
    isplitl [Hw1]; · iexact Hw1
    isplitl [Hd1]; · unfold wDstPts; iexact Hd1
    iexact Ht2
  iintro Hc2
  ihave Hsl := (slots_split (F := F) c g3) $$ Hg3
  iapply (wp_signals m K c _ Q (owedRecv c peers) W peers) $$ [HO HtB Hsl]
  · isplitr; · iexact HR
    isplitl [HO]; · unfold O₀; iexact HO
    rw [peers_sep2]
    isplitl [HtB]; · iexact HtB
    ihave Hsl' := (Entails.of_eq (bigSep_univ_equiv Fin.revPerm (fun j => (slotPts (F := F) c j : sProp 𝕄)))) $$ Hsl
    iexact Hsl'
  iintro HO
  iapply (wp_middle m K c Q g2 fo) $$ [HO Hc0 Ha0 Hc1 Ha1 Hc2 Ha2 HX Hg2 Hl Ho]
  · isplitr; · iexact HR
    isplitr; · iexact Hlev
    isplitl [HO]; · iexists _; iexact HO
    isplitl [Hc0 Ha0 Hc1 Ha1 Hc2 Ha2]
    · unfold locWait
      isplitl [Hc0 Ha0]; · isplitl [Hc0] <;> iassumption
      isplitl [Hc1 Ha1]; · isplitl [Hc1] <;> iassumption
      isplitl [Hc2] <;> iassumption
    isplitl [HX]; · iexact HX
    isplitl [Hg2]; · iexact Hg2
    isplitl [Hl] <;> iassumption
  iexact Hk

end Cert.KernelIdeal.Own

end
-- ==== Proof.KernelIdeal.Run.lean ====
/-
  The launch: every cell's ghost state is made and dealt to the sixteen devices at once, each
  device's body runs from its share, and the final memory is read back. The conclusion is that
  every run ends, with the arguments unchanged, every counter at zero, and each device's result
  at the computed contents.
-/
module

public import proofs.«01_k».proof.Proof.KernelIdeal.Body

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The weights' shares -/

/-- What the core keeps of the weights while the two copies read them. -/
def wKeep (c : Dev nD) : sProp 𝕄 :=
  iprop((((c : Thread nD τ).loc main_arg1) ↦{Transfers.shareDrop fullShare 2} m ((c : Thread nD τ).loc main_arg1))
    ∗ (((c : Thread nD τ).loc main_arg1) ↦[Finset.univ \ (wSrc c 0).view.set]{wq 0} m ((c : Thread nD τ).loc main_arg1))
    ∗ (((c : Thread nD τ).loc main_arg1) ↦[Finset.univ \ (wSrc c 1).view.set]{wq 1} m ((c : Thread nD τ).loc main_arg1)))

/-- A half tile's source cut out of the weights at its share. -/
theorem share_cut (c : Dev nD) (r : Fin 2) :
    (((c : Thread nD τ).loc main_arg1) ↦{wq r} m ((c : Thread nD τ).loc main_arg1) : sProp 𝕄)
      ⊣⊢ iprop(wSrcPts m c r ∗ (((c : Thread nD τ).loc main_arg1) ↦[Finset.univ \ (wSrc c r).view.set]{wq r} m ((c : Thread nD τ).loc main_arg1))) :=
  pointsTo_split_subset (ℓ := (c : Thread nD τ).loc main_arg1) (I := (wSrc c r).view.set) (Finset.subset_univ _)

/-- A family over two, one by one. -/
theorem two_sep (Φ : Fin 2 → sProp 𝕄) : bigSep Finset.univ Φ = iprop(Φ 0 ∗ Φ 1) := bigSep_univ_eq_bigSepL [0, 1] (by decide) (by decide) Φ

/-- The weights lent to the two half copies. -/
theorem weights_split (c : Dev nD) :
    (bufPts c main_arg1 (m ((c : Thread nD τ).loc main_arg1)) : sProp 𝕄) ⊢ iprop(wKeep m c ∗ wSrcPts m c 0 ∗ wSrcPts m c 1) := by
  iintro H
  ihave H' := (Transfers.pointsTo_toks_split (ℓ := (c : Thread nD τ).loc main_arg1) fullShare 2) $$ H
  rw [two_sep]
  icases H' with ⟨Hk, H0, H1⟩
  ihave H0' := (share_cut m c 0).1 $$ H0
  ihave H1' := (share_cut m c 1).1 $$ H1
  icases H0' with ⟨Ha, Hb⟩
  icases H1' with ⟨Hc, Hd⟩
  unfold wKeep
  isplitl [Hk Hb Hd]
  · isplitl [Hk]; · iexact Hk
    isplitl [Hb] <;> iassumption
  isplitl [Ha] <;> iassumption

/-- The weights back from the two half copies. -/
theorem weights_join (c : Dev nD) :
    iprop(wKeep m c ∗ wSrcPts m c 0 ∗ wSrcPts m c 1) ⊢ (bufPts c main_arg1 (m ((c : Thread nD τ).loc main_arg1)) : sProp 𝕄) := by
  unfold wKeep
  iintro ⟨⟨Hk, Hb, Hd⟩, Ha, Hc⟩
  ihave H0 := (share_cut m c 0).2 $$ [Ha Hb]
  · isplitl [Ha] <;> iassumption
  ihave H1 := (share_cut m c 1).2 $$ [Hc Hd]
  · isplitl [Hc] <;> iassumption
  iapply (Transfers.pointsTo_toks_join (ℓ := (c : Thread nD τ).loc main_arg1) fullShare 2)
  rw [two_sep]
  isplitl [Hk]; · iexact Hk
  isplitl [H0] <;> iassumption

/-! ## What a device starts and ends with -/

/-- The tokens of the duties device `c` pays. -/
def payToks (c : Dev nD) : sProp 𝕄 :=
  iprop((bigSep Finset.univ fun i => dutyTok ER (barCell (peer c i)) 0 i) ∗ (bigSep Finset.univ fun k => dutyTok ER (locCell c k) 0 0)
    ∗ (bigSep Finset.univ fun j => dutyTok ER (sendCell c j) 0 0) ∗ (bigSep Finset.univ fun j => dutyTok ER (recvCell (peer c j) j) 0 0))
/-- Its positions, and those tokens. -/
def linear (c : Dev nD) : sProp 𝕄 :=
  iprop((bigSep Finset.univ fun k : CK => atPos ER (kcell (c, k)) 0 ∅ 0) ∗ payToks (F := F) c)
/-- The records known to all and a device's own part. -/
def ghost (K : Dev nD × CK → ℕ) (c : Dev nD) : sProp 𝕄 := iprop(records m K ∗ linear (F := F) c)
/-- The two arguments left in HBM, as launched. -/
def argPts (c : Dev nD) : sProp 𝕄 :=
  iprop(bufPts c main_arg0 (m ((c : Thread nD τ).loc main_arg0)) ∗ bufPts c main_arg1 (m ((c : Thread nD τ).loc main_arg1)))
/-- What a device's body starts from, but for its scratch buffers. -/
def start (c : Dev nD) : sProp 𝕄 :=
  iprop((∃ K, ghost m K c) ∗ (cred (tallyAt (barCell c) () 15) ∗ bigSep Finset.univ fun j => cred (tallyAt (recvCell c j) () N)) ∗ levAts L lv ∗ argPts m c)
/-- The four scratch buffers, holding anything. -/
def scratch (c : Dev nD) : sProp 𝕄 :=
  iprop((∃ f, bufPts (F := F) c cc0_scratch0 f) ∗ (∃ f, bufPts (F := F) c cc0_scratch1 f) ∗ (∃ f, bufPts (F := F) c cc0_scratch2 f) ∗ (∃ f, bufPts (F := F) c cc0_scratch3 f))
/-- The state before the body. -/
def Φ₀ (c : Dev nD) : sProp 𝕄 := iprop(start m c ∗ scratch (F := F) c)
/-- The state after the body. -/
def Φ₁ (c : Dev nD) : sProp 𝕄 := iprop(argPts m c ∗ scratch (F := F) c ∗ locZero c ∗ exchangeZero c)

/-- The pipeline's data: the labels staged in, the result staged out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => labv m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The labels are fetched. -/
theorem fetch_0 (t : Fin cfg0.N) : (cfg0.win (0 : Fin 2)).fetch t = true := by rw [fin_N0 t]; rfl

/-- Holding a whole buffer at known contents. -/
theorem owns_buf_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- What the body leaves. -/
def bodyPost (c : Dev nD) : sProp 𝕄 :=
  iprop(Φ₁ m c ∗ (dats m ρ 0 c).owesAt () t0_0.succ ∗ stg c cc0_stg0_0 (labv m c) ∗ stg c cc0_stg1_0 (outAt m c))

/-- A device's cells, kind by kind. -/
theorem cells_sep (Φ : CK → sProp 𝕄) :
    bigSep Finset.univ Φ = iprop(Φ (.inl ()) ∗ (bigSep Finset.univ fun k => Φ (kLoc k)) ∗ (bigSep Finset.univ fun j => Φ (kSend j)) ∗ (bigSep Finset.univ fun j => Φ (kRecv j))) := by
  rw [bigSep_univ_sum, bigSep_univ_sum, bigSep_univ_sum, show (Finset.univ : Finset Unit) = {()} from rfl, bigSep_singleton]
  rfl

/-- The body, run on a device, is sound. -/
theorem sound_body (c : Dev nD) : bodyPre m ρ c ⊢ WP c (.op .deviceId fun c => deviceP c) (fun _ => bodyPost m ρ c) := by
  show _ ⊢ wp frame (wpE (defs₀ (F := F)) 𝒱₀ (c : Thread nD τ) none) Set.univ (.op .deviceId fun c => deviceP c) (fun _ => bodyPost m ρ c)
  rw [wp_deviceId]
  unfold bodyPre Φ₀ start ghost linear payToks argPts scratch Dat.owesAt Pipeline.owesWithin
  rw [cells_sep]
  iintro ⟨⟨⟨⟨%K, #HR, ⟨HaB, HaL, HaS, HaV⟩, HtB, HtL, HtS, HtV⟩, ⟨HcB, HcV⟩, #Hlev, Hx, Hw⟩, Hscr⟩, ⟨%W, %hW, HO⟩, ⟨%d0, %g0, %hg0, Hl⟩, ⟨%d1, %g1, %hg1, Ho⟩⟩
  have hx : g0 = labv m c := by rw [hg0]; unfold Dat.before; rw [if_pos (fetch_0 t0_0)]; rfl
  subst hx
  ihave Hws := (weights_split m c) $$ Hw
  icases Hws with ⟨Hkeep, Hw0, Hw1⟩
  iapply (wp_device m K c (fun _ => bodyPost m ρ c) g1 W) $$ [HaB HaL HaS HaV HtB HtL HtS HtV HcB HcV Hx Hw0 Hw1 Hscr HO Hl Ho]
  · isplitr; · iexact HR
    isplitr; · iexact Hlev
    isplitl [HO]; · iexact HO
    isplitr [Hl Ho]
    · unfold bodyIn exchangeRes
      isplitl [Hx]; · iexact Hx
      isplitl [Hw0 Hw1]; · isplitl [Hw0] <;> iassumption
      isplitl [Hscr]; · iexact Hscr
      isplitl [HtL]; · iexact HtL
      isplitl [HaL]; · iexact HaL
      isplitl [HtB]; · iexact HtB
      isplitl [HcB HaB]; · isplitl [HcB] <;> iassumption
      isplitl [HtS]; · iexact HtS
      isplitl [HtV]; · iexact HtV
      isplitl [HaS]; · iexact HaS
      rw [bigSep_sep']
      isplitl [HcV] <;> iassumption
    isplitl [Hl] <;> iassumption
  unfold bodyOut bodyPost Φ₁ scratch argPts Dat.owesAt Pipeline.owesWithin
  iintro ⟨⟨%W', HO⟩, Hx, Hx0, ⟨Hw0, Hw1⟩, Hs1, Hs2, Hs3, ⟨HzL, HzE⟩, Hl, Ho⟩
  ihave Hw := (weights_join m c) $$ [Hkeep Hw0 Hw1]
  · isplitl [Hkeep]; · iexact Hkeep
    isplitl [Hw0] <;> iassumption
  isplitl [Hx Hw Hx0 Hs1 Hs2 Hs3 HzL HzE]
  · isplitl [Hx Hw]; · isplitl [Hx] <;> iassumption
    isplitl [Hx0 Hs1 Hs2 Hs3]
    · isplitl [Hx0]; · iexists _; iexact Hx0
      isplitl [Hs1]; · iexact Hs1
      isplitl [Hs2]; · iexists _; iexact Hs2
      iexists _; iexact Hs3
    isplitl [HzL] <;> iassumption
  isplitl [HO]
  · iexists W'
    isplitr; · ipureintro; exact fun _ _ => Or.inl trivial
    iexact HO
  isplitl [Hl]
  · iexists _; isplitr; · (ipureintro; rfl)
    iexact Hl
  iexists _; isplitr; · (ipureintro; rfl)
  iexact Ho

set_option maxRecDepth 65536 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_buf_eq]
  show bodyPre m ρ c ⊢ WP c
    (cc0_body (F := F) (Memref.whole main_arg0) (Memref.isWhole_whole _) (Memref.whole main_arg1) (Memref.isWhole_whole _)
      (Memref.whole cc0_stg0_0) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7) (fun _ => bodyPost m ρ c)
  rw [body_eq]
  exact sound_body m ρ c

end Cert.KernelIdeal.Own

end
-- ==== Proof.KernelIdeal.Deal.lean ====
/-
  The dealing: the ghost state of all the cells of all sixteen devices, made at launch and handed
  around so that every device holds the tokens of the duties it pays; the credits it is dealt; and
  the run of the whole machine.
-/
module

public import proofs.«01_k».proof.Proof.KernelIdeal.Run
public import Idealize.ShloMosaic.Lib.Pipeline.CollectiveSegs

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores are scoped, distinct and apart from the staging ones. -/
theorem ownSemFacts : Pipeline.OwnSemFacts cfg0.spec osem := by decide

/-- Each window's array is held whole. -/
theorem share_eq (c : Dev nD) (w : Fin cfg0.W) : (dats m ρ 0 c).share w = fullShare := by unfold Dat.share; split <;> rfl

/-- All the cells. -/
def allCells : Finset (GSem nD τ sig) := Finset.univ.map ⟨kcell, kcell_injective⟩

/-- A device's duties: the fifteen of its barrier, and one of each own cell. -/
abbrev TK : Type := Fin 15 ⊕ OK
/-- The duty each token of a device stands for. -/
abbrev tokOf (ct : Dev nD × TK) : GSem nD τ sig × ℕ × Fin 15 :=
  (kcell (ct.1, ct.2.elim (fun _ => .inl ()) .inr), 0, ct.2.elim id (fun _ => 0))
/-- Different tokens stand for different duties. -/
theorem tokOf_injective : Function.Injective tokOf := by
  rintro ⟨c, t⟩ ⟨c', t'⟩ h
  have hk := kcell_injective (congrArg (fun x : GSem nD τ sig × ℕ × Fin 15 => x.1) h)
  have h1 : c = c' := congrArg Prod.fst hk
  have h2 := congrArg Prod.snd hk
  have h3 := congrArg (fun x : GSem nD τ sig × ℕ × Fin 15 => x.2.2) h
  subst h1
  rcases t with i | k <;> rcases t' with i' | k'
  · have : i = i' := h3
    rw [this]
  · cases h2
  · cases h2
  · cases h2; rfl
/-- All the duties' tokens. -/
def allToks : Finset (GSem nD τ sig × ℕ × Fin 15) := Finset.univ.map ⟨tokOf, tokOf_injective⟩

/-- The ghost state at launch: the pipeline's and the cells'. -/
def u₀ : UU :=
  (initOf (Pipeline.cells cfgs cellOf_inj) (Pipeline.launchToks cfgs cellOf_inj), initOf allCells allToks)

/-- The tokens of the duties of device `c`'s own cells. -/
def toks (c : Dev nD) : sProp 𝕄 :=
  iprop((bigSep Finset.univ fun i => dutyTok ER (barCell c) 0 i) ∗ (bigSep Finset.univ fun k => dutyTok ER (locCell c k) 0 0)
    ∗ (bigSep Finset.univ fun j => dutyTok ER (sendCell c j) 0 0) ∗ (bigSep Finset.univ fun j => dutyTok ER (recvCell c j) 0 0))

/-- What the launch gives a device: its cells' records at the start and its tokens. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks (F := F) c)
/-- What a device starts from: the records known to all and its own part. -/
def G' (c : Dev nD) : sProp 𝕄 := iprop(∃ K, ghost m K c)

/-- A device's tokens, kind by kind. -/
theorem toks_sep (c : Dev nD) : (bigSep Finset.univ fun t : TK => (dutyTok ER (tokOf (c, t)).1 (tokOf (c, t)).2.1 (tokOf (c, t)).2.2 : sProp 𝕄)) = toks (F := F) c := by
  unfold toks
  rw [bigSep_univ_sum, bigSep_univ_sum, bigSep_univ_sum]
  rfl

/-- The ghost state at launch splits into the devices' parts. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => toks_sep c
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a sum of index types is the two families over its sides. -/
theorem sum_sep {A B : Type} [Fintype A] [Fintype B] (Φ : A ⊕ B → sProp 𝕄) :
    bigSep Finset.univ Φ = iprop((bigSep Finset.univ fun a => Φ (.inl a)) ∗ bigSep Finset.univ fun b => Φ (.inr b)) :=
  bigSep_univ_sum Φ

/-- A device's counters at zero, sorted into its cells and the rest. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, sum_sep, show (Finset.univ : Finset Unit) = {()} from rfl, bigSep_singleton]
  unfold Pipeline.ownSems0
  exact Idealize.SL.BI.sep_comm

/-- The counters back at zero after the body are those the launch wants back. -/
theorem own_zero (c : Dev nD) :
    iprop(locZero (F := F) c ∗ exchangeZero (F := F) c)
      ⊢ iprop(Pipeline.ownSems0 (Ix := Unit) (Name := ℕ) (U := UU) (Lvl := ℕ) (Val := Elt F) (τ := τ) osem c ∗ unscopedSems0 c) := by
  unfold locZero exchangeZero Pipeline.ownSems0
  rw [unscopedSems0_eq, sum_sep, sum_sep, three_sep]
  iintro ⟨⟨H0, H1, H2⟩, HB, HS, HV⟩
  isplitr [HB]
  · isplitl [H0 H1 H2]
    · isplitl [H0]; · iexact H0
      isplitl [H1] <;> iassumption
    isplitl [HS] <;> iassumption
  iexact HB

/-- A device's counters at zero and its records make its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0 (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family of tokens, one per device and peer, moved each to the device `j + 1` places on. -/
theorem move_around (Φ : Dev nD → Fin 15 → sProp 𝕄) :
    (bigSep Finset.univ fun c : Dev nD => bigSep Finset.univ fun j => Φ c j) = bigSep Finset.univ fun c : Dev nD => bigSep Finset.univ fun j => Φ (peer c j) j := by
  rw [← bigSep_univ_prod (fun cj : Dev nD × Fin 15 => Φ cj.1 cj.2), ← bigSep_univ_prod (fun cj : Dev nD × Fin 15 => Φ (peer cj.1 cj.2) cj.2)]
  rw [bigSep_univ_equiv (⟨fun cj => (peer cj.1 cj.2, cj.2), fun cj => (back cj.1 cj.2, cj.2), fun cj => by simp only [back_peer], fun cj => by simp only [peer_back]⟩ : Dev nD × Fin 15 ≃ Dev nD × Fin 15)
    (fun cj => Φ cj.1 cj.2)]
  rfl

/-- The tokens dealt around: a barrier's `i`-th and an arrival's `j`-th go to the device that pays them. -/
theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep', bigSep_sep', bigSep_sep',
    move_around (fun c i => (dutyTok ER (barCell c) 0 i : sProp 𝕄)), move_around (fun c j => (dutyTok ER (recvCell c j) 0 0 : sProp 𝕄))]

/-- What is known to all may be used at every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and a device's own part are what it starts from. -/
theorem ghost_intro (K : Dev nD × CK → ℕ) (c : Dev nD) : iprop(records m K ∗ linear (F := F) c) ⊢ G' m c := by
  unfold G' ghost
  iintro H; iexists K; iexact H

/-- The tokens and records dealt by cell, regrouped by the device that spends them. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) (payToks (F := F))).symm).trans
      (bigSep_mono fun c _ => show _ ⊢ linear (F := F) c from Entails.of_eq (by unfold linear; rfl)))
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- Barrier cells are equal just when their devices are. -/
theorem bar_eq_iff {a b : Dev nD} : barCell a = barCell b ↔ a = b := ⟨fun h => congrArg (fun g : GSem nD τ sig => g.1.1) h, fun h => h ▸ rfl⟩
/-- Arrival cells are equal just when their devices and slots are. -/
theorem recv_eq_iff {a b : Dev nD} {j k : Fin 15} : recvCell a j = recvCell b k ↔ a = b ∧ j = k :=
  ⟨fun h => by
    have := kcell_injective (a₁ := (a, kRecv j)) (a₂ := (b, kRecv k)) h
    cases this; exact ⟨rfl, rfl⟩, fun h => by rw [h.1, h.2]⟩
/-- An arrival cell is no barrier cell. -/
theorem recv_ne_bar (a b : Dev nD) (j : Fin 15) : recvCell a j ≠ barCell b := fun h => by cases congrArg Prod.snd h

/-- Remote copies owe the barrier nothing. -/
theorem owedRecv_bar (d c : Dev nD) (l : List (Fin 15)) : owedRecv d l (barCell c) () = 0 := by
  by_contra h
  obtain ⟨a, j, e⟩ := owedRecv_pos (Nat.pos_of_ne_zero h)
  exact recv_ne_bar _ _ _ e.symm
/-- Signals owe an arrival nothing. -/
theorem owedBar_recv (d c : Dev nD) (j : Fin 15) (l : List (Fin 15)) : owedBar d l (recvCell c j) () = 0 := by
  by_contra h
  obtain ⟨a, e⟩ := owedBar_pos (Nat.pos_of_ne_zero h)
  exact recv_ne_bar _ _ _ e

/-- All devices together owe a barrier one unit for each listed peer. -/
theorem owed_bar_sum (c : Dev nD) (l : List (Fin 15)) : ∑ d : Dev nD, owedBar d l (barCell c) () = l.length := by
  induction l with
  | nil => exact Finset.sum_eq_zero fun d _ => rfl
  | cons i l ih =>
    have h (d : Dev nD) : owedBar d (i :: l) (barCell c) () = owedBar d l (barCell c) () + if d = back c i then 1 else 0 := by
      rw [owedBar_cons, Pi.add_apply, Finsupp.add_apply, tallyAt_apply]
      congr 1
      by_cases hd : d = back c i
      · subst hd; rw [peer_back, if_pos ⟨rfl, rfl⟩, if_pos rfl]
      · rw [if_neg hd, if_neg]
        rintro ⟨e, -⟩
        exact hd (by rw [bar_eq_iff.mp e, back_peer])
    rw [Finset.sum_congr rfl fun d _ => h d, Finset.sum_add_distrib, ih, Finset.sum_ite_eq' Finset.univ (back c i) fun _ => 1, if_pos (Finset.mem_univ _)]
    rfl

/-- All devices together owe an arrival one transfer's credit for each listing of its slot. -/
theorem owed_recv_sum (c : Dev nD) (j : Fin 15) (l : List (Fin 15)) : ∑ d : Dev nD, owedRecv d l (recvCell c j) () = l.count j * N := by
  induction l with
  | nil => rw [List.count_nil, Nat.zero_mul]; exact Finset.sum_eq_zero fun d _ => rfl
  | cons i l ih =>
    have h (d : Dev nD) : owedRecv d (i :: l) (recvCell c j) () = owedRecv d l (recvCell c j) () + if d = back c j then (if i = j then N else 0) else 0 := by
      rw [owedRecv_cons, Pi.add_apply, Finsupp.add_apply, tallyAt_apply]
      congr 1
      by_cases hi : i = j
      · subst hi
        rw [if_pos rfl]
        by_cases hd : d = back c i
        · subst hd; rw [peer_back, if_pos ⟨rfl, rfl⟩, if_pos rfl]
        · rw [if_neg hd, if_neg]
          rintro ⟨e, -⟩
          exact hd (by rw [(recv_eq_iff.mp e).1, back_peer])
      · rw [if_neg hi, ite_self, if_neg]
        rintro ⟨e, -⟩
        exact hi (recv_eq_iff.mp e).2.symm
    rw [Finset.sum_congr rfl fun d _ => h d, Finset.sum_add_distrib, ih, Finset.sum_ite_eq' Finset.univ (back c j) fun _ => (if i = j then N else 0), if_pos (Finset.mem_univ _)]
    by_cases hi : i = j
    · subst hi; rw [if_pos rfl, List.count_cons_self, Nat.add_mul, Nat.one_mul]
    · rw [if_neg hi, List.count_cons_of_ne hi, Nat.add_zero]

/-- Every peer is listed once. -/
theorem count_peers : ∀ j : Fin 15, peers.count j = 1 := by decide

/-- What the launch owes a barrier is what its device will take from it. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  have h (d : Dev nD) : O₀ d (barCell c) () = owedBar d peers (barCell c) () := by
    unfold O₀; rw [Pi.add_apply, Finsupp.add_apply, owedRecv_bar, Nat.zero_add]
  rw [Pipeline.launchCredit_owing, Finsupp.single_eq_same, Finset.sum_congr rfl fun d _ => h d, owed_bar_sum]; rfl

/-- What the launch owes an arrival is what its device will take from it. -/
theorem launch_recv (c : Dev nD) (j : Fin 15) :
    tallyOn (recvCell c j) (launchCredit (Pipeline.owing O₀) 0 (recvCell c j)) = (tallyAt (recvCell c j) () N : CellTallies nD τ sig Unit) := by
  unfold tallyAt; refine congrArg _ (Finsupp.ext fun u => ?_); cases u
  have h (d : Dev nD) : O₀ d (recvCell c j) () = owedRecv d peers (recvCell c j) () := by
    unfold O₀; rw [Pi.add_apply, Finsupp.add_apply, owedBar_recv, Nat.add_zero]
  rw [Pipeline.launchCredit_owing, Finsupp.single_eq_same, Finset.sum_congr rfl fun d _ => h d, owed_recv_sum,
    count_peers, Nat.one_mul]

/-- The arrivals' semaphores, as a set. -/
def recvLocs : Finset (SemLoc sig) := Finset.univ.map ⟨fun j : Fin 15 => (.dma (recvS j) : SemLoc sig), fun j k h => by
  have := osem_injective (a₁ := .inr (.inr j)) (a₂ := .inr (.inr k)) h
  cases this; rfl⟩

/-- The credits dealt at launch, for one device. -/
theorem creds (c : Dev nD) :
    (Pipeline.launchCred O₀ c : sProp 𝕄) ⊢ iprop(cred (tallyAt (barCell c) () 15) ∗ bigSep Finset.univ fun j => cred (tallyAt (recvCell c j) () N)) := by
  unfold Pipeline.launchCred
  rw [bigSep_univ_at _ (SemLoc.reg barS), launch_bar]
  refine sep_mono_right ?_
  have hsub : recvLocs ⊆ Finset.univ.erase (SemLoc.reg barS) := by
    intro x hx
    obtain ⟨j, -, rfl⟩ := Finset.mem_map.mp hx
    exact Finset.mem_erase.mpr ⟨fun h => (nomatch h), Finset.mem_univ _⟩
  refine (bigSep_subset hsub).trans ?_
  unfold recvLocs
  rw [bigSep_map]
  exact bigSep_mono fun j _ => Entails.of_eq (congrArg cred (launch_recv c j))

/-! ## The theorem's side conditions -/

/-- What a device holds at launch is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha0, Ha1⟩, Hlev, Hcr, -, HG⟩
  ihave Hc := (creds (F := F) c) $$ Hcr
  imodintro
  unfold start G' argPts
  isplitl
  · isplitl [HG]; · iexact HG
    isplitl [Hc]; · iexact Hc
    isplitl [Hlev]; · iexact Hlev
    isplitl [Ha0] <;> iassumption
  · iempintro

/-- The scratch buffers joined, the body's precondition. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- The body's postcondition gives back what the launch wants. -/
theorem phi1_exit (c : Dev nD) :
    (dats m ρ 0 c).Φ (Fin.last cfg0.N) ⊢ iprop((unscopedSems0 c ∗ argPts m c) ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨Ha, Hr, Hz⟩
  ihave Hz' := (own_zero (F := F) c) $$ Hz
  icases Hz' with ⟨Hos, Hu⟩
  isplitl [Hu Ha]
  · isplitl [Hu] <;> iassumption
  isplitl [Hos]; · iexact Hos
  iexact Hr

/-- The staging waits are allowed at every point. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

/-- What a final memory holds. -/
def Final (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg0) = m ((c : Thread nD τ).loc main_arg0)
    ∧ s.mem ((c : Thread nD τ).loc main_arg1) = m ((c : Thread nD τ).loc main_arg1)

/-- The final memory read at the arguments and the counters. -/
theorem args_read (c : Dev nD) (s' : Phys nD τ sig (Elt F)) :
    iprop((unscopedSems0 c ∗ argPts m c) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)
          ∧ s'.mem.mem ((c : Thread nD τ).loc main_arg1) = m ((c : Thread nD τ).loc main_arg1)⌝ ∗ SI s') : sProp 𝕄) := by
  unfold argPts
  iintro ⟨⟨Hu, Ha0, Ha1⟩, -, HSI⟩
  ihave %h0 := (SI_pointsTo_agree (st := s') (ℓ := (c : Thread nD τ).loc main_arg0) (I := Finset.univ)) $$ [HSI Ha0]
  · isplitl [HSI] <;> iassumption
  ihave %h1 := (SI_pointsTo_agree (st := s') (ℓ := (c : Thread nD τ).loc main_arg1) (I := Finset.univ)) $$ [HSI Ha1]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => h0 i (Finset.mem_univ i), funext fun i => h1 i (Finset.mem_univ i)⟩
  iexact HSI

set_option maxRecDepth 8000 in
/-- For any float values, from any memory with zero counters: every weakly fair execution of the sixteen
    kernels ends, with each device's result array at the computed contents, the arguments unchanged and every counter at zero. -/
theorem run_main : θ_run defs (onTc (τ := τ) (main (F := F))) (s₀ m ρ) (fun r => Final m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := args_read m)
    (hQ := fun _ h hs => ⟨fun c => ⟨(h c).1, (h c).2.2.2⟩, sem_eq_zero hs fun c => (h c).2.2.1⟩)

/-- The labels after the run are what they were. -/
theorem finalA_labels (c : Dev nD) : finalA m ρ c (0 : Fin 2) = m (win0_0.arr.view.loc (c : Thread nD τ)) :=
  (dats (F := F) m ρ 0 c).arrAt_in (0 : Fin 2) rfl _

end Cert.KernelIdeal.Own

end
-- ==== Proof.Frames.lean ====
/-
  The frames. The idealized kernel's run is proved for any float values; the kernel as printed is the
  same text, so its run is that one.
-/
module

public import proofs.«01_k».proof.Proof.KernelIdeal.Deal
public import proofs.«01_k».proof.Proof.Gen.Kernel
public import proofs.«01_k».proof.Proof.Gen.ReferenceIdeal.Run
public import proofs.«01_k».proof.Defs

@[expose] public section

noncomputable section

namespace Cert.Own

open Idealize.ShloMosaic Idealize.SL.Sem Idealize.ShloMosaic.TcCoe

section
open Cert.KernelIdeal Cert.KernelIdeal.Own

variable {F : FTy → Type} [FloatOps F]
variable (m : (ℓ : Loc nD τ sig) → Buf (Elt F) ℓ) (ρ : Dev nD → PrngReg)

/-- What a run of the sixteen kernels ends with: the results computed, the arguments and the counters as launched. -/
theorem run_all : θ_run (defs (F := F)) (onTc (τ := τ) (main (F := F))) ⟨m, fun _ => 0, ρ⟩ (fun r =>
    (∀ c : Dev nD, r.2.mem ((c : Thread nD τ).loc main_v1) = finalA m ρ c (1 : Fin 2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run _ _ _).mono (fun r h => ⟨fun c => ⟨(h.1 c).1 (1 : Fin 2), (h.1 c).2.1, (h.1 c).2.2,
    ((h.1 c).1 (0 : Fin 2)).trans (finalA_labels m ρ c)⟩, h.2⟩) (run_main m ρ)

/-- The frame, at any float values. -/
theorem frame_any : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run _ _ _).mono (fun r h => ⟨fun c => (h.1 c).2, h.2⟩) (run_all m ρ)

end

section
variable {F : FTy → Type} [FloatOps F]

/-- The two kernels' bodies are one text. -/
theorem body_same : @Cert.Kernel.cc0_body F _ _ = @Cert.KernelIdeal.cc0_body F _ _ := rfl

/-- The two programs' tables of kernel bodies are one. -/
theorem kernels_same : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- The two programs' body tables are one. -/
theorem defs_same : Cert.Kernel.defs (F := F) = Cert.KernelIdeal.defs (F := F) := by
  unfold Cert.Kernel.defs Cert.KernelIdeal.defs
  exact congrArg (Pipeline.defs (Cert.KernelIdeal.pcfgs (F := F))) kernels_same

/-- The two programs' mains are one. -/
theorem main_same : Cert.Kernel.main (F := F) = Cert.KernelIdeal.main (F := F) := rfl
end

/-- The kernel's frame, at the machine's own bits. -/
theorem frame_kernel : Cert.quiescent_Kernel := by
  intro m g _
  rw [defs_same, main_same]
  exact frame_any (F := Bits) m g

/-- The idealized kernel's frame. -/
theorem frame_ideal : Cert.quiescent_KernelIdeal := fun m g _ => frame_any (F := Ideal) m g

end Cert.Own

end
-- ==== Proof.Value.lean ====
/-
  The value each device computes, element by element.
-/
module

public import proofs.«01_k».proof.Proof.KernelIdeal.Protocol
public import proofs.«01_k».proof.Proof.KernelIdeal.Body
public import Idealize.ShloMosaic.Lib.Pointwise

@[expose] public section

noncomputable section

namespace Cert.KernelIdeal.Own

open Cert.KernelIdeal Cert.KernelIdeal.Gen
open Idealize.ShloMosaic

/-- A logit of a half tile: the product of row `t` and column `k`. -/
def lgt (x : Vec Ideal S512x1024 .f32) (w : Vec Ideal S1024x512 .f32) (t k : Fin 512) : EReal :=
  ∑ d : Fin 1024, (x (ix2 t d) : EReal) * w (ix2 d k)

/-- Selecting by an equality. -/
theorem select_eq {α : Type} (a b : BitVec 32) (x y : α) : Scalar.select (IntOp.cmpi CmpIPredicate.eq a b) x y = if a = b then x else y := by
  unfold IntOp.cmpi Scalar.select
  by_cases h : a = b
  · simp [h]
  · have : (a == b) = false := by simpa using h
    simp [h, this]

/-- The first half tile's logits. -/
theorem pay3_apply (x : Vec Ideal S512x1024 .f32) (w : Vec Ideal S1024x512 .f32) (t k : Fin 512) :
    k0_pay3 (F := Ideal) (k0_pay2 x) w (ix2 t k) = lgt x w t k := by
  unfold k0_pay3 k0_pay2 lgt
  pointwise

/-- The second half tile's logits. -/
theorem pay6_apply (x : Vec Ideal S512x1024 .f32) (w : Vec Ideal S1024x512 .f32) (t k : Fin 512) :
    k0_pay6 (F := Ideal) (k0_pay2 x) w (ix2 t k) = lgt x w t k := by
  unfold k0_pay6 k0_pay2 lgt
  pointwise

/-- The sum of the exponentials of a half tile's logits. -/
theorem pay4_apply (x : Vec Ideal S512x1024 .f32) (w : Vec Ideal S1024x512 .f32) (t : Fin 512) :
    k0_pay4 (F := Ideal) (k0_pay2 x) (Scalar.ofBits .f32 0x00000000#32) w (ix2 t 0) = ∑ k : Fin 512, Ideal.exp (lgt x w t k) := by
  unfold k0_pay4
  pointwise
  simp only [pay3_apply]

/-- The result from the own and the landed sums. -/
theorem pay1_apply (p : Vec Ideal S2x512 .f32) (q : Vec Ideal S15x2x512 .f32) (t : Fin 512) :
    k0_pay1 (F := Ideal) p q (ix2 0 t)
      = Ideal.log (p (ix2 0 t) + ∑ j : Fin 15, q (ix3 j 0 t)) - (p (ix2 1 t) + ∑ j : Fin 15, q (ix3 j 1 t)) := by
  unfold k0_pay1
  pointwise

/-- The first packed row: the running sum and the second half's exponentials. -/
theorem pay7_0 (c : Dev nD) (x : Vec Ideal S512x1024 .f32) (w : Vec Ideal S1024x512 .f32) (a b : BitVec 32) (s p : FVec Ideal S512x1 .f32)
    (lab : Vec Ideal S512x1 .i32) (t : Fin 512) :
    k0_pay7 (F := Ideal) a b (iota .tc S512x512 32 [1] iota_S512x512_d1_w32) s p (k0_pay6 (k0_pay2 x) w) lab (ix2 0 t)
      = s (ix2 t 0) + ∑ k : Fin 512, Ideal.exp (lgt x w t k) := by
  unfold k0_pay7
  pointwise
  simp only [pay6_apply]

/-- The second packed row: the running label logit and the second half's. -/
theorem pay7_1 (c : Dev nD) (x : Vec Ideal S512x1024 .f32) (w : Vec Ideal S1024x512 .f32) (a b : BitVec 32) (s p : FVec Ideal S512x1 .f32)
    (lab : Vec Ideal S512x1 .i32) (t : Fin 512) :
    k0_pay7 (F := Ideal) a b (iota .tc S512x512 32 [1] iota_S512x512_d1_w32) s p (k0_pay6 (k0_pay2 x) w) lab (ix2 1 t)
      = p (ix2 t 0) + ∑ k : Fin 512, if BitVec.ofNat 32 k.val = (lab (ix2 t 0) : BitVec 32) - (a * 8192#32 + b * 1024#32 + 512#32) then lgt x w t k else 0 := by
  unfold k0_pay7
  pointwise
  simp only [pay6_apply, select_eq]
  rfl

/-- The label's logit in the first half tile, or zero. -/
theorem pay5_apply (c : Dev nD) (x : Vec Ideal S512x1024 .f32) (w : Vec Ideal S1024x512 .f32) (a b : BitVec 32)
    (lab : Vec Ideal S512x1 .i32) (t : Fin 512) :
    k0_pay5 (F := Ideal) a b (k0_pay2 x) (iota .tc S512x512 32 [1] iota_S512x512_d1_w32) w lab (ix2 t 0)
      = ∑ k : Fin 512, if BitVec.ofNat 32 k.val = (lab (ix2 t 0) : BitVec 32) - (a * 8192#32 + b * 1024#32 + 0#32) then lgt x w t k else 0 := by
  unfold k0_pay5
  pointwise
  simp only [pay3_apply, select_eq]
  rfl

end Cert.KernelIdeal.Own

end
-- ==== Proof.Total.lean ====
/-
  The kernel's result in closed form: the sixteen devices' partial sums, added up, are sums over the
  whole vocabulary.
-/
module

public import proofs.«01_k».proof.Proof.Value
public import proofs.«01_k».proof.Proof.KernelIdeal.Deal
public import Idealize.ShloMosaic.Lib.Pipeline.ValueKit.Geometry

@[expose] public section

noncomputable section

namespace Cert.KernelIdeal.Own

open Cert.KernelIdeal Cert.KernelIdeal.Gen
open Idealize.ShloMosaic
open Idealize.ShloMosaic.TcCoe

/-! ## The result array is what the body stores -/

section
variable {F : FTy → Type} [FloatOps F]
variable (m : (ℓ : Loc nD τ sig) → Buf (Elt F) ℓ) (ρ : Dev nD → PrngReg)

/-- After the run the result array of a device is its logarithm minus its label logits. -/
theorem finalA_out (c : Dev nD) : finalA m ρ c (1 : Fin 2) = outAt m c :=
  (dats m ρ 0 c).arrAt_eq_of_after_last (1 : Fin 2) t0_0 (by decide +kernel) _ fun j => rfl

end

/-! ## Columns -/

/-- Column `k` of half `r` of device `c`'s share of the vocabulary. -/
def col (c : Fin 16) (r : Fin 2) (k : Fin 512) : Fin 16384 :=
  ⟨1024 * c.val + 512 * r.val + k.val, by have := c.isLt; have := r.isLt; have := k.isLt; omega⟩

/-- The sixteen devices' pairs of halves make up the vocabulary. -/
theorem sum_cols (f : Fin 16384 → EReal) :
    ∑ c : Fin 16, (∑ k : Fin 512, f (col c 0 k) + ∑ k : Fin 512, f (col c 1 k)) = ∑ v : Fin 16384, f v := by
  have h2 (c : Fin 16) : ∑ k : Fin 512, f (col c 0 k) + ∑ k : Fin 512, f (col c 1 k) = ∑ r : Fin 2, ∑ k : Fin 512, f (col c r k) := by
    rw [Fin.sum_univ_two]
  simp only [h2]
  rw [← Finset.sum_product', ← Finset.sum_product']
  refine Fintype.sum_bijective (fun p : (Fin 16 × Fin 2) × Fin 512 => col p.1.1 p.1.2 p.2) ⟨?_, ?_⟩ _ _ (fun _ => rfl)
  · rintro ⟨⟨c, r⟩, k⟩ ⟨⟨c', r'⟩, k'⟩ h
    have h' : 1024 * c.val + 512 * r.val + k.val = 1024 * c'.val + 512 * r'.val + k'.val := congrArg Fin.val h
    have := r.isLt; have := k.isLt; have := r'.isLt; have := k'.isLt
    have e1 : c = c' := Fin.ext (by omega)
    have e2 : r = r' := Fin.ext (by omega)
    have e3 : k = k' := Fin.ext (by omega)
    rw [e1, e2, e3]
  · intro v
    have := v.isLt
    exact ⟨((⟨v.val / 1024, by omega⟩, ⟨v.val / 512 % 2, by omega⟩), ⟨v.val % 512, by omega⟩), Fin.ext (by
      show 1024 * (v.val / 1024) + 512 * (v.val / 512 % 2) + v.val % 512 = v.val
      omega)⟩

/-- A device's own term and those of the fifteen others: all sixteen. -/
theorem sum_devices (f : Fin 16 → EReal) (c : Fin 16) : f c + ∑ j : Fin 15, f (back c j) = ∑ d : Fin 16, f d := by
  have h : ∑ j : Fin 15, f (back c j) = ∑ d ∈ Finset.univ.erase c, f d := by
    refine Finset.sum_bij (fun j _ => back c j) ?_ ?_ ?_ (fun _ _ => rfl)
    · intro j _
      exact Finset.mem_erase.2 ⟨by revert c j; decide, Finset.mem_univ _⟩
    · intro j _ j' _ hj
      revert c j j'; decide
    · intro d hd
      have hd' := (Finset.mem_erase.1 hd).1
      have : ∀ c d : Fin 16, d ≠ c → ∃ j : Fin 15, back c j = d := by decide
      obtain ⟨j, hj⟩ := this c d hd'
      exact ⟨j, Finset.mem_univ _, hj⟩
  rw [h, Finset.add_sum_erase _ _ (Finset.mem_univ c)]

/-- The first column a device owns, as the device computes it. -/
theorem base_word (c : Dev nD) : wx c * 8192#32 + wyz c * 1024#32 = BitVec.ofNat 32 (1024 * c.val) := by revert c; decide

/-- A device's comparison of a column with the label it moved to its own columns, as one of the label itself. -/
theorem label_word (c : Dev nD) (r : Fin 2) (k : Fin 512) (l : BitVec 32) :
    BitVec.ofNat 32 k.val = l - (wx c * 8192#32 + wyz c * 1024#32 + BitVec.ofNat 32 (512 * r.val)) ↔ l = BitVec.ofNat 32 (col c r k).val := by
  rw [base_word, eq_comm, BitVec.sub_eq_iff_eq_add, show (col c r k).val = k.val + (1024 * c.val + 512 * r.val) from by unfold col; simp only; omega,
    BitVec.ofNat_add, BitVec.ofNat_add]

/-! ## The whole arrays -/

section
variable (m : (ℓ : Loc nD τ sig) → Buf (Elt Ideal) ℓ)
variable (X : Vec Ideal S512x1024 .f32) (W : Vec Ideal ⟨2, ![1024, 16384]⟩ .f32) (T : Vec Ideal S512x1 .i32)

/-- The memory holds the parts of the whole arrays. -/
def Holds : Prop := ∀ c : Dev nD, m ((c : Thread nD τ).loc main_arg0) = X
  ∧ m ((c : Thread nD τ).loc main_arg1) = Layout.blockN ⟨2, ![1024, 8192]⟩ ⟨2, ![1024, 16384]⟩ (Layout.meshBlock [2, 2, 4] ![[], [0]] c) W
  ∧ m ((c : Thread nD τ).loc main_arg2) = T

/-- The logit of row `t` and vocabulary entry `v`. -/
def logit (t : Fin 512) (v : Fin 16384) : EReal := ∑ d : Fin 1024, (X (ix2 t d) : EReal) * W (ix2 d v)

/-- Where a half tile's first column lies in a device's block of the weights. -/
theorem off1_eq (c : Dev nD) (r : Fin 2) :
    k0_off1 c (BitVec.ofNat 32 (512 * r.val)) 0 = 0
      ∧ Layout.meshLin [2, 2, 4] c.val [0] * 8192 + k0_off1 c (BitVec.ofNat 32 (512 * r.val)) 1 = 1024 * c.val + 512 * r.val := by
  revert c r; decide

variable {m X W T}
variable (h : Holds m X W T)
include h

/-- Every device holds the whole activations. -/
theorem xv_eq (c : Dev nD) : xv m c = X := (h c).1

/-- Every device holds the whole labels. -/
theorem labv_eq (c : Dev nD) : labv m c = T := by
  have e : labv m c = m ((c : Thread nD τ).loc main_arg2) := Memref.read_access_unit_zero (Elt Ideal) main_arg2 (by funext a; fin_cases a <;> rfl) _ _
  exact e.trans (h c).2.2

/-- An element of a half tile is the whole weights' at the device's column. -/
theorem wv_apply (c : Dev nD) (r : Fin 2) (d : Fin 1024) (k : Fin 512) : wv m c r (ix2 d k) = W (ix2 d (col c r k)) := by
  have e : wv m c r (ix2 d k) = m ((c : Thread nD τ).loc main_arg1) ((wSrc c r).view.emb (ix2 d k)) := rfl
  rw [e, (h c).2.1, Layout.blockN_apply]
  refine congrArg W (funext fun a => Fin.ext ?_)
  rw [Layout.TilesN.idx_val]
  have ho := off1_eq c r
  match a with
  | ⟨0, _⟩ =>
    show 0 * 1024 + (k0_off1 c (BitVec.ofNat 32 (512 * r.val)) 0 + 1 * d.val) = d.val
    rw [ho.1]; omega
  | ⟨1, _⟩ =>
    show Layout.meshLin [2, 2, 4] c.val [0] * 8192 + (k0_off1 c (BitVec.ofNat 32 (512 * r.val)) 1 + 1 * k.val) = 1024 * c.val + 512 * r.val + k.val
    have := ho.2; omega

/-- A half tile's logit is the whole's at the device's column. -/
theorem lgt_eq (c : Dev nD) (r : Fin 2) (t k : Fin 512) : lgt (xv m c) (wv m c r) t k = logit X W t (col c r k) := by
  unfold lgt logit
  exact Finset.sum_congr rfl fun d _ => by rw [xv_eq h, wv_apply h]

/-- A device's first partial sum: the exponentials of its logits. -/
theorem pv_exp (c : Dev nD) (t : Fin 512) :
    pv m c (ix2 0 t) = ∑ k : Fin 512, Ideal.exp (logit X W t (col c 0 k)) + ∑ k : Fin 512, Ideal.exp (logit X W t (col c 1 k)) := by
  unfold pv packed
  rw [pay7_0 c, pay4_apply]
  simp only [lgt_eq h]

/-- A vocabulary entry's logit if it is the label's, else zero. -/
def hit (X : Vec Ideal S512x1024 .f32) (W : Vec Ideal ⟨2, ![1024, 16384]⟩ .f32) (T : Vec Ideal S512x1 .i32) (t : Fin 512) (v : Fin 16384) : EReal :=
  if (T (ix2 t 0) : BitVec 32) = BitVec.ofNat 32 v.val then logit X W t v else 0

/-- A device's second partial sum: the label's logit, if the label is among its columns. -/
theorem pv_hit (c : Dev nD) (t : Fin 512) :
    pv m c (ix2 1 t) = ∑ k : Fin 512, hit X W T t (col c 0 k) + ∑ k : Fin 512, hit X W T t (col c 1 k) := by
  unfold pv packed
  rw [pay7_1 c, pay5_apply c, labv_eq h]
  refine congrArg₂ _ (Finset.sum_congr rfl fun k _ => ?_) (Finset.sum_congr rfl fun k _ => ?_)
  · unfold hit
    rw [lgt_eq h]
    exact if_congr (label_word c 0 k _) rfl rfl
  · unfold hit
    rw [lgt_eq h]
    exact if_congr (label_word c 1 k _) rfl rfl

/-- An element landed in a slot is the sender's, so many places back. -/
theorem landed_apply (c : Dev nD) (j : Fin 15) (a : Fin 2) (t : Fin 512) : landed m c (ix3 j a t) = pv m (back c j) (ix2 a t) := by
  unfold landed
  refine congrArg (pv m (back c j)) (funext fun b => ?_)
  match b with
  | ⟨0, _⟩ => rfl
  | ⟨1, _⟩ => rfl

/-- What every device ends with: the logarithm of the sum of the exponentials of all logits, less the label's logit. -/
theorem outAt_apply (c : Dev nD) (t : Fin 512) :
    outAt m c (ix2 0 t) = Ideal.log (∑ v : Fin 16384, Ideal.exp (logit X W t v)) - ∑ v : Fin 16384, hit X W T t v := by
  unfold outAt
  rw [pay1_apply]
  simp only [landed_apply h]
  rw [sum_devices (fun d => pv m d (ix2 0 t)) c, sum_devices (fun d => pv m d (ix2 1 t)) c]
  simp only [pv_exp h, pv_hit h]
  rw [sum_cols (fun v => Ideal.exp (logit X W t v)), sum_cols (fun v => hit X W T t v)]

end

end Cert.KernelIdeal.Own

end
-- ==== Proof.RefValue.lean ====
/-
  The reference's result, element by element.
-/
module

public import proofs.«01_k».proof.Proof.Gen.ReferenceIdeal.Run
public import Idealize.ShloMosaic.Lib.Pointwise

@[expose] public section

noncomputable section

namespace Cert.ReferenceIdeal.Own

open Cert.ReferenceIdeal Cert.ReferenceIdeal.Gen
open Idealize.ShloMosaic
open Idealize.ShloMosaic.TcCoe

variable (X : Vec Ideal S512x1024 .f32) (W : Vec Ideal S1024x16384 .f32) (T : Vec Ideal S512x1 .i32)

/-- The matrix of logits. -/
def logits : FVec Ideal S512x16384 .f32 := Host.dotGeneral (φ₁ := .f32) (φ₂ := .f32) dot_S512x1024_S1024x16384_S512x16384_1_0_0_1_n_n none X W
/-- Each row's largest logit, as a column. -/
def top : FVec Ideal S512x1 .f32 :=
  broadcastInDim S512x1 ![0] bcast_S512_S512x1_0 (Host.reduce FloatOps.maximumf (logits X W) (constant S_ .f32 0xFF800000#32) reducesTo_S512x16384_S512_d1 h_S_)
/-- Each row's sum of exponentials of the logits less the largest. -/
def expSum : FVec Ideal S512 .f32 :=
  Host.reduceAdd (Host.exp (subf (logits X W) (broadcastInDim S512x16384 ![0, 1] bcast_S512x1_S512x16384_0_1 (top X W)))) (constant S_ .f32 0x00000000#32) reducesTo_S512x16384_S512_d1 h_S_
/-- The pairs of a row and its label, both counted from the end when negative. -/
def pairs : IVec S512x2 32 :=
  concatenate S512x2 1
    [⟨S512x1, broadcastInDim S512x1 ![0] bcast_S512_S512x1_0
      (select (cmpi .slt (iotaInDim S512 32 0) (broadcastInDim S512 ![] bcast_S_S512 (constantI S_ 32 0#32)))
        (addi (iotaInDim S512 32 0) (broadcastInDim S512 ![] bcast_S_S512 (constantI S_ 32 512#32))) (iotaInDim S512 32 0))⟩,
     ⟨S512x1, broadcastInDim S512x1 ![0] bcast_S512_S512x1_0
      (select (cmpi .slt (shapeCast S512 T shapeCasts_S512x1_S512) (broadcastInDim S512 ![] bcast_S_S512 (constantI S_ 32 0#32)))
        (addi (shapeCast S512 T shapeCasts_S512x1_S512) (broadcastInDim S512 ![] bcast_S_S512 (constantI S_ 32 16384#32))) (shapeCast S512 T shapeCasts_S512x1_S512))⟩]
    concatenates_S512x1_S512x1_S512x2_d1
/-- The reference's result. -/
def refOut : FVec Ideal S1x512 .f32 :=
  shapeCast S1x512 (subf (shapeCast S512 (addf (top X W) (Host.log (broadcastInDim S512x1 ![0] bcast_S512_S512x1_0 (expSum X W)))) shapeCasts_S512x1_S512)
    (Host.gather gather_S512x16384_S512x2_S512_n_01_n_n_01_1_11 (logits X W) (pairs T))) shapeCasts_S512_S1x512

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

/-- A logit of the reference. -/
theorem logits_apply (t : Fin 512) (v : Fin 16384) : logits X W (ix2 t v) = ∑ d : Fin 1024, (X (ix2 t d) : EReal) * W (ix2 d v) := by
  unfold logits
  pointwise

/-- A row's largest logit. -/
theorem top_apply (t : Fin 512) : top X W (ix2 t 0) = Finset.univ.fold max (⊥ : EReal) (fun v : Fin 16384 => logits X W (ix2 t v)) := by
  unfold top
  pointwise
  rw [show Ideal.ofBits FTy.f32 4286578688#32 = (⊥ : EReal) by simp [Ideal.ofBits, Ideal.ieee]]

/-- A row's sum of exponentials. -/
theorem expSum_apply (t : Fin 512) : expSum X W (ix1 t) = ∑ v : Fin 16384, Ideal.exp (logits X W (ix2 t v) - top X W (ix2 t 0)) := by
  unfold expSum
  pointwise

/-- Selecting by a signed comparison. -/
theorem select_slt {α : Type} (a b : BitVec 32) (x y : α) : Scalar.select (IntOp.cmpi CmpIPredicate.slt a b) x y = if a.slt b then x else y := by
  unfold IntOp.cmpi Scalar.select
  cases h : a.slt b <;> simp [h]

/-- A small number's word reads signed as the number. -/
theorem toInt_ofNat_small (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- The row of a pair is the row. -/
theorem pairs_row (t : Fin 512) : pairs T (ix2 t 0) = BitVec.ofNat 32 t.val := by
  unfold pairs
  pointwise
  rw [select_slt, if_neg]
  have h : (BitVec.ofNat 32 t.val).toInt = t.val := toInt_ofNat_small _ (by have := t.isLt; omega)
  rw [BitVec.slt_iff_toInt_lt, h]
  simp

/-- The label of a pair, counted from the end when negative. -/
theorem pairs_label (t : Fin 512) : pairs T (ix2 t 1) = if (T (ix2 t 0) : BitVec 32).slt 0#32 then (T (ix2 t 0) : BitVec 32) + 16384#32 else T (ix2 t 0) := by
  unfold pairs
  pointwise
  rw [select_slt]
  rfl

/-- The last operations, of any column, sums and picked logits. -/
theorem out_apply (a : FVec Ideal S512x1 .f32) (b g : FVec Ideal S512 .f32) (t : Fin 512) :
    shapeCast S1x512 (subf (shapeCast S512 (addf a (Host.log (broadcastInDim S512x1 ![0] bcast_S512_S512x1_0 b))) shapeCasts_S512x1_S512) g) shapeCasts_S512_S1x512 (ix2 0 t)
      = a (ix2 t 0) + Ideal.log (b (ix1 t)) - g (ix1 t) := by
  pointwise

/-- The reference's result at a row. -/
theorem refOut_apply (t : Fin 512) : refOut X W T (ix2 0 t) = top X W (ix2 t 0) + Ideal.log (expSum X W (ix1 t))
    - Host.gather gather_S512x16384_S512x2_S512_n_01_n_n_01_1_11 (logits X W) (pairs T) (ix1 t) := by
  exact out_apply _ _ _ t

/-- The gather of one element per row, read at a row. -/
theorem gather_apply (x : S512x16384.Idx → EReal) (p : IVec S512x2 32) (t : Fin 512) :
    Host.gather gather_S512x16384_S512x2_S512_n_01_n_n_01_1_11 x p (ix1 t)
      = x (ix2 ⟨min (p (ix2 t 0)).toInt.toNat 511, by omega⟩ ⟨min (p (ix2 t 1)).toInt.toNat 16383, by omega⟩) := by
  unfold Host.gather
  congr 1
  funext a
  refine Fin.ext ?_
  show gather_S512x16384_S512x2_S512_n_01_n_n_01_1_11.start (ix1 t) p a + gather_S512x16384_S512x2_S512_n_01_n_n_01_1_11.batchCoord (ix1 t) a
    + gather_S512x16384_S512x2_S512_n_01_n_n_01_1_11.offCoord (ix1 t) a = _
  have hm : a ∈ gather_S512x16384_S512x2_S512_n_01_n_n_01_1_11.startIndexMap := by revert a; decide
  rw [GatherDims.batchCoord_eq_zero _ _ _ List.not_mem_nil,
    GatherDims.offCoord_eq_zero _ _ _ (fun h => ((GatherDims.mem_sKept _ _).mp h).1 (by revert a; decide))]
  simp only [Nat.add_zero]
  unfold GatherDims.start
  rw [dif_pos hm]
  match a with
  | ⟨0, _⟩ =>
    rw [show gather_S512x16384_S512x2_S512_n_01_n_n_01_1_11.siIdx (ix1 t) _ = ix2 t 0 from funext fun b => Fin.ext (match b with | ⟨0, _⟩ => rfl | ⟨1, _⟩ => rfl)]
    rfl
  | ⟨1, _⟩ =>
    rw [show gather_S512x16384_S512x2_S512_n_01_n_n_01_1_11.siIdx (ix1 t) _ = ix2 t 1 from funext fun b => Fin.ext (match b with | ⟨0, _⟩ => rfl | ⟨1, _⟩ => rfl)]
    rfl

end Cert.ReferenceIdeal.Own

end
-- ==== Proof.Algebra.lean ====
/-
  The arithmetic: the logarithm of a sum of exponentials does not depend on the number taken out of it,
  over the reals and so over finite extended reals.
-/
module

public import Idealize.ShloMosaic.Lib.Pointwise

@[expose] public section

noncomputable section

namespace Cert.Own

open Idealize.ShloMosaic

/-- A finite extended real is a real. -/
theorem real_of_lt {a : EReal} (h : max a (-a) < ⊤) : ∃ r : ℝ, a = r := by
  induction a with
  | bot => simp at h
  | top => simp at h
  | coe r => exact ⟨r, rfl⟩

/-- The extended reals' sum of reals is the reals' sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is a real. -/
theorem real_dot {n : ℕ} (f g : Fin n → EReal) (hf : ∀ i, ∃ r : ℝ, f i = r) (hg : ∀ i, ∃ r : ℝ, g i = r) : ∃ r : ℝ, ∑ i, f i * g i = r := by
  choose a ha using hf
  choose b hb using hg
  refine ⟨∑ i, a i * b i, ?_⟩
  rw [coe_sum]
  exact Finset.sum_congr rfl fun i _ => by rw [ha, hb, EReal.coe_mul]

/-- The largest of finitely many reals, at least one, is a real. -/
theorem real_fold {n : ℕ} (l : Fin (n + 1) → ℝ) : ∃ M : ℝ, Finset.univ.fold max (⊥ : EReal) (fun v => (l v : EReal)) = M := by
  have hlt : Finset.univ.fold max (⊥ : EReal) (fun v => (l v : EReal)) < ⊤ :=
    (Finset.fold_max_lt _).2 ⟨bot_lt_top, fun v _ => EReal.coe_lt_top _⟩
  have hgt : ⊥ < Finset.univ.fold max (⊥ : EReal) (fun v => (l v : EReal)) :=
    (Finset.lt_fold_max _).2 (Or.inr ⟨0, Finset.mem_univ _, EReal.bot_lt_coe _⟩)
  exact ⟨_, (EReal.coe_toReal hlt.ne hgt.ne').symm⟩

/-- Any real may be taken out of a logarithm of a sum of exponentials of reals. -/
theorem log_sum_exp {n : ℕ} (l : Fin (n + 1) → ℝ) (M : ℝ) :
    (M : EReal) + Ideal.log (∑ v, Ideal.exp ((l v : EReal) - M)) = Ideal.log (∑ v, Ideal.exp (l v : EReal)) := by
  have hp : ∀ f : Fin (n + 1) → ℝ, 0 < ∑ v, Real.exp (f v) := fun f => Finset.sum_pos (fun v _ => Real.exp_pos _) ⟨0, Finset.mem_univ _⟩
  have hl : ∀ f : Fin (n + 1) → ℝ, Ideal.log (∑ v, Ideal.exp (f v : EReal)) = (Real.log (∑ v, Real.exp (f v)) : EReal) := fun f => by
    simp only [Ideal.exp_coe]
    rw [← coe_sum, Ideal.log_coe, if_neg (not_le.2 (hp f))]
  simp only [← EReal.coe_sub]
  rw [hl l, hl (fun v => l v - M), ← EReal.coe_add]
  congr 1
  have e : ∑ v, Real.exp (l v) = Real.exp M * ∑ v, Real.exp (l v - M) := by
    rw [Finset.mul_sum]
    exact Finset.sum_congr rfl fun v _ => by rw [← Real.exp_add]; congr 1; ring
  rw [e, Real.log_mul (Real.exp_pos M).ne' (hp fun v => l v - M).ne', Real.log_exp]

end Cert.Own

end
-- ==== Proof.Same.lean ====
/-
  The value claim: on finite inputs and labels that name a vocabulary entry, every device's result is
  the reference's.
-/
module

public import proofs.«01_k».proof.Proof.Total
public import proofs.«01_k».proof.Proof.RefValue
public import proofs.«01_k».proof.Proof.Algebra
public import proofs.«01_k».proof.Proof.Frames
public import proofs.«01_k».proof.Proof.Gen.Pre_tame_KernelIdeal

@[expose] public section

noncomputable section

namespace Cert.Own

open Idealize.ShloMosaic Idealize.SL.Sem Idealize.ShloMosaic.TcCoe
open Cert.KernelIdeal.Own Cert.ReferenceIdeal.Own

/-! ## The two formulas -/

section
variable (X : Vec Ideal ⟨2, ![512, 1024]⟩ .f32) (W : Vec Ideal ⟨2, ![1024, 16384]⟩ .f32) (T : Vec Ideal ⟨2, ![512, 1]⟩ .i32)

/-- The inputs the claim is about: finite activations and weights, every label a vocabulary entry. -/
structure Good : Prop where
  x : ∀ t d, ∃ r : ℝ, (X (ix2 t d) : EReal) = r
  w : ∀ d v, ∃ r : ℝ, (W (ix2 d v) : EReal) = r
  lab : ∀ t, ∃ v : Fin 16384, (T (ix2 t 0) : BitVec 32) = BitVec.ofNat 32 v.val

/-- Two vocabulary entries with one word are one. -/
theorem word_inj (u v : Fin 16384) : (BitVec.ofNat 32 u.val = BitVec.ofNat 32 v.val) ↔ v = u := by
  refine ⟨fun h => ?_, fun h => by rw [h]⟩
  have h' := congrArg BitVec.toNat h
  have := u.isLt; have := v.isLt
  rw [BitVec.toNat_ofNat, BitVec.toNat_ofNat, Nat.mod_eq_of_lt (by omega), Nat.mod_eq_of_lt (by omega)] at h'
  exact Fin.ext h'.symm

variable {X W T}

/-- The kernel picks out exactly the label's logit. -/
theorem sum_hit (t : Fin 512) (v : Fin 16384) (hv : (T (ix2 t 0) : BitVec 32) = BitVec.ofNat 32 v.val) :
    ∑ u : Fin 16384, hit X W T t u = logit X W t v := by
  unfold hit
  simp only [hv, word_inj]
  rw [Finset.sum_ite_eq' Finset.univ v, if_pos (Finset.mem_univ _)]

/-- The reference picks out the label's logit too. -/
theorem gather_hit (t : Fin 512) (v : Fin 16384) (hv : (T (ix2 t 0) : BitVec 32) = BitVec.ofNat 32 v.val) :
    Host.gather Cert.ReferenceIdeal.gather_S512x16384_S512x2_S512_n_01_n_n_01_1_11 (logits X W) (pairs T) (ix1 t) = logit X W t v := by
  have hi : (BitVec.ofNat 32 v.val).toInt = v.val := toInt_ofNat_small _ (by have := v.isLt; omega)
  have ht : (BitVec.ofNat 32 t.val).toInt = t.val := toInt_ofNat_small _ (by have := t.isLt; omega)
  have hs : ¬ (BitVec.ofNat 32 v.val).slt 0#32 := by rw [BitVec.slt_iff_toInt_lt, hi]; simp
  have h0 : pairs T (ix2 t 0) = BitVec.ofNat 32 t.val := pairs_row T t
  have h1 : pairs T (ix2 t 1) = BitVec.ofNat 32 v.val := by rw [pairs_label, hv, if_neg hs]
  have e0 : min (pairs T (ix2 t 0)).toInt.toNat 511 = t.val := by rw [h0, ht]; have := t.isLt; omega
  have e1 : min (pairs T (ix2 t 1)).toInt.toNat 16383 = v.val := by rw [h1, hi]; have := v.isLt; omega
  rw [gather_apply]
  simp only [e0, e1]
  exact logits_apply X W t v

/-- The kernel's formula is the reference's. -/
theorem formula (hg : Good X W T) (t : Fin 512) :
    Ideal.log (∑ v : Fin 16384, Ideal.exp (logit X W t v)) - ∑ v : Fin 16384, hit X W T t v = refOut X W T (ix2 0 t) := by
  obtain ⟨v, hv⟩ := hg.lab t
  rw [refOut_apply, expSum_apply, top_apply, sum_hit t v hv, gather_hit t v hv]
  have hl : ∀ u : Fin 16384, ∃ r : ℝ, logit X W t u = r := fun u => real_dot _ _ (fun d => hg.x t d) fun d => hg.w d u
  choose l hl using hl
  have hL : ∀ u : Fin 16384, logits X W (ix2 t u) = (l u : EReal) := fun u => (logits_apply X W t u).trans (hl u)
  simp only [hL, hl]
  obtain ⟨M, hM⟩ := real_fold (n := 16383) l
  rw [show Finset.univ.fold max (⊥ : EReal) (fun u : Fin 16384 => (l u : EReal)) = M from hM]
  exact congrArg (· - (l v : EReal)) (log_sum_exp (n := 16383) l M).symm

end

/-! ## The precondition, read -/

/-- A comparison of a magnitude with infinity that holds says the value is a real. -/
theorem real_of_cmp {a : EReal} (h : Ideal.cmp .olt (max a (-a)) (Ideal.ofBits .f32 0x7F800000#32) = 1#1) : ∃ r : ℝ, a = r := by
  refine real_of_lt ?_
  rw [show Ideal.ofBits FTy.f32 0x7F800000#32 = (⊤ : EReal) by simp [Ideal.ofBits, Ideal.ieee]] at h
  unfold Ideal.cmp at h
  by_contra hn
  simp [hn] at h

/-- A word that is at least zero and below the vocabulary's size names a vocabulary entry. -/
theorem label_of_cmp {l : BitVec 32} (h : IntOp.cmpi .sge l 0#32 &&& IntOp.cmpi .slt l 16384#32 = 1#1) : ∃ v : Fin 16384, l = BitVec.ofNat 32 v.val := by
  have hs : (0#32 : BitVec 32).sle l = true ∧ l.slt 16384#32 = true := by
    unfold IntOp.cmpi at h
    cases h1 : (0#32 : BitVec 32).sle l <;> cases h2 : l.slt 16384#32 <;> simp [h1, h2] at h ⊢
  have h1 := BitVec.sle_iff_toInt_le.1 hs.1
  have h2 := BitVec.slt_iff_toInt_lt.1 hs.2
  have e0 : (0#32 : BitVec 32).toInt = 0 := by decide
  have e1 : (16384#32 : BitVec 32).toInt = 16384 := by decide
  rw [e0] at h1
  rw [e1] at h2
  refine ⟨⟨l.toInt.toNat, by omega⟩, BitVec.eq_of_toInt_eq ?_⟩
  rw [toInt_ofNat_small _ (by simp only; omega)]
  simp only
  omega

/-- Every vocabulary entry is a column of some device's half. -/
theorem col_surj (v : Fin 16384) : ∃ c r k, col c r k = v := by
  have := v.isLt
  exact ⟨⟨v.val / 1024, by omega⟩, ⟨v.val / 512 % 2, by omega⟩, ⟨v.val % 512, by omega⟩, Fin.ext (by
    show 1024 * (v.val / 1024) + 512 * (v.val / 512 % 2) + v.val % 512 = v.val
    omega)⟩

section
open Cert.KernelIdeal
variable {m : (ℓ : Loc nD τ sig) → Buf (Elt Ideal) ℓ}
variable {X : Vec Ideal ⟨2, ![512, 1024]⟩ .f32} {W : Vec Ideal ⟨2, ![1024, 16384]⟩ .f32} {T : Vec Ideal ⟨2, ![512, 1]⟩ .i32}

/-- The precondition on every device's blocks, of the whole arrays. -/
theorem good_of_pre (hp : Cert.Pre_KernelIdeal_tame_KernelIdeal (hPre_tame_KernelIdeal := Cert.Pre_tame_KernelIdeal.Gen.facts) m) (h : Holds m X W T) : Good X W T where
  x t d := by
    have e := congrFun (hp 0).1 (ix2 t d)
    rw [(h 0).1] at e
    exact real_of_cmp e
  w d v := by
    obtain ⟨c, r, k, rfl⟩ := col_surj v
    rw [← wv_apply h c r d k]
    exact real_of_cmp (congrFun (hp c).2.1 ((wSrc c r).view.emb (ix2 d k)))
  lab t := by
    have e := congrFun (hp 0).2.2 (ix2 t 0)
    rw [(h 0).2.2] at e
    exact label_of_cmp e

/-- Every device's result is the reference's. -/
theorem out_same (hg : Good X W T) (h : Holds m X W T) (c : Dev nD) : outAt m c = refOut X W T := by
  funext i
  have e : i = ix2 0 (i 1) := funext fun a => match a with
    | ⟨0, _⟩ => Fin.ext (by have := (i 0).isLt; show (i 0).val = 0; exact Nat.lt_one_iff.1 this)
    | ⟨1, _⟩ => rfl
  rw [e]
  exact (outAt_apply h c (i 1)).trans (formula hg (i 1))

end

/-- The value claim. -/
theorem algebraic : Cert.algebraic_KernelIdeal_ReferenceIdeal_pre_tame_KernelIdeal (hPre_tame_KernelIdeal := Cert.Pre_tame_KernelIdeal.Gen.facts) := by
  intro m g m' g' hp hag
  have h : Holds m _ _ _ := hag
  have hg := good_of_pre hp h
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2)), ?_, ?_⟩
  · exact (θ_run _ _ _).mono (fun r hr c => ⟨(hr.1 c).1.trans ((finalA_out m g c).trans (out_same hg h c)), (hr.1 c).2⟩) (run_all m g)
  · exact (θ_run _ _ _).mono (fun r hr => hr 0) (run_ref m' g')

end Cert.Own

end
-- ==== Proof.lean ====
/-
  The certificate: the three frames (and, with the precondition, the two it asks for again), the
  idealization's faithfulness, and the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame_KernelIdeal
public import proofs.«01_k».proof.Proof.Gen.Pre_tame_ReferenceIdeal
public import proofs.«01_k».proof.Proof.Frames
public import proofs.«01_k».proof.Proof.Same
public import Idealize.ShloMosaic.Adequacy
public import Idealize.ShloMosaic.Init

@[expose] public section

noncomputable section

namespace Cert.Proof

open Idealize.ShloMosaic Idealize.SL.Sem

/-- The reference's frame. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- All the claims together. The frames need no precondition, so the ones stated under it are the same theorems. -/
theorem claim : Cert.Claim := ⟨Cert.Kernel.Gen.facts, Cert.KernelIdeal.Gen.facts, Cert.ReferenceIdeal.Gen.facts,
  Cert.Pre_tame_KernelIdeal.Gen.facts, Cert.Pre_tame_ReferenceIdeal.Gen.facts,
  Cert.Own.frame_kernel, Cert.Own.frame_ideal, fun m g _ => Cert.Own.frame_ideal m g trivial, frame_reference,
  fun m g _ => frame_reference m g trivial, trivial, Cert.Own.algebraic⟩

end Cert.Proof

end
